-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x26 : Shape := ⟨2, ![16384, 26]⟩
abbrev S26x100001x32 : Shape := ⟨3, ![26, 100001, 32]⟩
abbrev S325x192 : Shape := ⟨2, ![325, 192]⟩
abbrev S192 : Shape := ⟨1, ![192]⟩
abbrev S192x192 : Shape := ⟨2, ![192, 192]⟩
abbrev S192x1 : Shape := ⟨2, ![192, 1]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S26x100001x32 .f32) (main_arg2 : FVec F S325x192 .f32) (main_arg3 : FVec F S192 .f32) (main_arg4 : FVec F S192x192 .f32) (main_arg5 : FVec F S192 .f32) (main_arg6 : FVec F S192x192 .f32) (main_arg7 : FVec F S192 .f32) (main_arg8 : FVec F S192x1 .f32) (main_arg9 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100001#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S26x100001x32 : Shape := ⟨3, ![26, 100001, 32]⟩
abbrev S325x192 : Shape := ⟨2, ![325, 192]⟩
abbrev S192 : Shape := ⟨1, ![192]⟩
abbrev S192x192 : Shape := ⟨2, ![192, 192]⟩
abbrev S192x1 : Shape := ⟨2, ![192, 1]⟩
abbrev S1 : Shape := ⟨1, ![1]⟩
abbrev S128x128 : Shape := ⟨2, ![128, 128]⟩
abbrev S325 : Shape := ⟨1, ![325]⟩
abbrev S26x32x100001 : Shape := ⟨3, ![26, 32, 100001]⟩
abbrev S_ : Shape := ⟨0, ![]⟩
abbrev S28x32x102400 : Shape := ⟨3, ![28, 32, 102400]⟩
abbrev S409600x128 : Shape := ⟨2, ![409600, 128]⟩
abbrev S4x32x6400 : Shape := ⟨3, ![4, 32, 6400]⟩
abbrev S6400x128 : Shape := ⟨2, ![6400, 128]⟩
abbrev S128x6400 : Shape := ⟨2, ![128, 6400]⟩
abbrev S1638400x32 : Shape := ⟨2, ![1638400, 32]⟩
abbrev S16384x16 : Shape := ⟨2, ![16384, 16]⟩
abbrev S16 : Shape := ⟨1, ![16]⟩
abbrev S1x16 : Shape := ⟨2, ![1, 16]⟩
abbrev S1x262144 : Shape := ⟨2, ![1, 262144]⟩
abbrev S1638400x128 : Shape := ⟨2, ![1638400, 128]⟩
abbrev S262144x128 : Shape := ⟨2, ![262144, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1x128x128 : Shape := ⟨3, ![1, 128, 128]⟩
abbrev S128 : Shape := ⟨1, ![128]⟩
abbrev S262144x32 : Shape := ⟨2, ![262144, 32]⟩
abbrev S307200x128 : Shape := ⟨2, ![307200, 128]⟩
abbrev S1228800x32 : Shape := ⟨2, ![1228800, 32]⟩
abbrev S16384x10 : Shape := ⟨2, ![16384, 10]⟩
abbrev S10 : Shape := ⟨1, ![10]⟩
abbrev S1x10 : Shape := ⟨2, ![1, 10]⟩
abbrev S1x163840 : Shape := ⟨2, ![1, 163840]⟩
abbrev S1228800x128 : Shape := ⟨2, ![1228800, 128]⟩
abbrev S163840x128 : Shape := ⟨2, ![163840, 128]⟩
abbrev S163840x32 : Shape := ⟨2, ![163840, 32]⟩
abbrev S16384x16x32 : Shape := ⟨3, ![16384, 16, 32]⟩
abbrev S16384x10x32 : Shape := ⟨3, ![16384, 10, 32]⟩
abbrev S676x192 : Shape := ⟨2, ![676, 192]⟩
abbrev S325x1 : Shape := ⟨2, ![325, 1]⟩
abbrev S1x192 : Shape := ⟨2, ![1, 192]⟩
abbrev S1x1 : Shape := ⟨2, ![1, 1]⟩
abbrev S16384x1 : Shape := ⟨2, ![16384, 1]⟩
abbrev S512x16x32 : Shape := ⟨3, ![512, 16, 32]⟩
abbrev S512x10x32 : Shape := ⟨3, ![512, 10, 32]⟩
abbrev S512x1 : Shape := ⟨2, ![512, 1]⟩
abbrev S512x26x32 : Shape := ⟨3, ![512, 26, 32]⟩
abbrev S512x26x26 : Shape := ⟨3, ![512, 26, 26]⟩
abbrev S512x676 : Shape := ⟨2, ![512, 676]⟩
abbrev S512x192 : Shape := ⟨2, ![512, 192]⟩

abbrev nBuf : Table → Nat
  | .hbm => 157
  | .local .tc .vmem => 24
  | .local .scVector .vmem => 4
  | _ => 0

abbrev hbmTy0_0 (i : Nat) : BufTy := match i % 128 with
  | 0 => ⟨S16384x26, .i32⟩
  | 1 => ⟨S26x100001x32, .f32⟩
  | 2 => ⟨S325x192, .f32⟩
  | 3 => ⟨S192, .f32⟩
  | 4 => ⟨S192x192, .f32⟩
  | 5 => ⟨S192, .f32⟩
  | 6 => ⟨S192x192, .f32⟩
  | 7 => ⟨S192, .f32⟩
  | 8 => ⟨S192x1, .f32⟩
  | 9 => ⟨S1, .f32⟩
  | 10 => ⟨S128x128, .f32⟩
  | 11 => ⟨S128x128, .f32⟩
  | 12 => ⟨S325, .i32⟩
  | 13 => ⟨S26x32x100001, .f32⟩
  | 14 => ⟨S_, .i32⟩
  | 15 => ⟨S_, .f32⟩
  | 16 => ⟨S28x32x102400, .f32⟩
  | 17 => ⟨S409600x128, .f32⟩
  | 18 => ⟨S1638400x32, .f32⟩
  | 19 => ⟨S16384x16, .i32⟩
  | 20 => ⟨S16, .i32⟩
  | 21 => ⟨S1x16, .i32⟩
  | 22 => ⟨S_, .i32⟩
  | 23 => ⟨S_, .i32⟩
  | 24 => ⟨S1x16, .i32⟩
  | 25 => ⟨S1x16, .i32⟩
  | 26 => ⟨S1x16, .i32⟩
  | 27 => ⟨S_, .i32⟩
  | 28 => ⟨S1x16, .i32⟩
  | 29 => ⟨S1x16, .i1⟩
  | 30 => ⟨S1x16, .i32⟩
  | 31 => ⟨S1x16, .i32⟩
  | 32 => ⟨S_, .i32⟩
  | 33 => ⟨S1x16, .i32⟩
  | 34 => ⟨S1x16, .i1⟩
  | 35 => ⟨S1x16, .i1⟩
  | 36 => ⟨S_, .i32⟩
  | 37 => ⟨S1x16, .i32⟩
  | 38 => ⟨S1x16, .i32⟩
  | 39 => ⟨S1x16, .i32⟩
  | 40 => ⟨S_, .i32⟩
  | 41 => ⟨S1x16, .i32⟩
  | 42 => ⟨S1x16, .i32⟩
  | 43 => ⟨S16384x16, .i32⟩
  | 44 => ⟨S16384x16, .i32⟩
  | 45 => ⟨S_, .i32⟩
  | 46 => ⟨S16384x16, .i32⟩
  | 47 => ⟨S16384x16, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S1x16, .i32⟩
  | 55 => ⟨S1x16, .i32⟩
  | 56 => ⟨S_, .i32⟩
  | 57 => ⟨S1x16, .i32⟩
  | 58 => ⟨S1x16, .i1⟩
  | 59 => ⟨S_, .i32⟩
  | 60 => ⟨S1x16, .i32⟩
  | 61 => ⟨S1x16, .i1⟩
  | 62 => ⟨S_, .i32⟩
  | 63 => ⟨S_, .i1⟩
  | 64 => ⟨S1x16, .i1⟩
  | 65 => ⟨S1x16, .i1⟩
  | 66 => ⟨S1x16, .i1⟩
  | 67 => ⟨S1x16, .i32⟩
  | 68 => ⟨S1x16, .i32⟩
  | 69 => ⟨S1x16, .i32⟩
  | 70 => ⟨S16384x16, .i32⟩
  | 71 => ⟨S16384x16, .i32⟩
  | 72 => ⟨S1x262144, .i32⟩
  | 73 => ⟨S_, .i32⟩
  | 74 => ⟨S_, .f32⟩
  | 75 => ⟨S1638400x128, .f32⟩
  | 76 => ⟨S262144x128, .f32⟩
  | 77 => ⟨S262144x32, .f32⟩
  | 78 => ⟨S307200x128, .f32⟩
  | 79 => ⟨S1228800x32, .f32⟩
  | 80 => ⟨S16384x10, .i32⟩
  | 81 => ⟨S10, .i32⟩
  | 82 => ⟨S1x10, .i32⟩
  | 83 => ⟨S_, .i32⟩
  | 84 => ⟨S_, .i32⟩
  | 85 => ⟨S1x10, .i32⟩
  | 86 => ⟨S1x10, .i32⟩
  | 87 => ⟨S1x10, .i32⟩
  | 88 => ⟨S_, .i32⟩
  | 89 => ⟨S1x10, .i32⟩
  | 90 => ⟨S1x10, .i1⟩
  | 91 => ⟨S1x10, .i32⟩
  | 92 => ⟨S1x10, .i32⟩
  | 93 => ⟨S_, .i32⟩
  | 94 => ⟨S1x10, .i32⟩
  | 95 => ⟨S1x10, .i1⟩
  | 96 => ⟨S1x10, .i1⟩
  | 97 => ⟨S_, .i32⟩
  | 98 => ⟨S1x10, .i32⟩
  | 99 => ⟨S1x10, .i32⟩
  | 100 => ⟨S1x10, .i32⟩
  | 101 => ⟨S_, .i32⟩
  | 102 => ⟨S1x10, .i32⟩
  | 103 => ⟨S1x10, .i32⟩
  | 104 => ⟨S16384x10, .i32⟩
  | 105 => ⟨S16384x10, .i32⟩
  | 106 => ⟨S_, .i32⟩
  | 107 => ⟨S16384x10, .i32⟩
  | 108 => ⟨S16384x10, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S1x10, .i32⟩
  | 116 => ⟨S1x10, .i32⟩
  | 117 => ⟨S_, .i32⟩
  | 118 => ⟨S1x10, .i32⟩
  | 119 => ⟨S1x10, .i1⟩
  | 120 => ⟨S_, .i32⟩
  | 121 => ⟨S1x10, .i32⟩
  | 122 => ⟨S1x10, .i1⟩
  | 123 => ⟨S_, .i32⟩
  | 124 => ⟨S_, .i1⟩
  | 125 => ⟨S1x10, .i1⟩
  | 126 => ⟨S1x10, .i1⟩
  | 127 => ⟨S1x10, .i1⟩
  | _ => ⟨S16384x26, .i32⟩

abbrev hbmTy0_1 (i : Nat) : BufTy := match i % 128 with
  | 0 => ⟨S1x10, .i32⟩
  | 1 => ⟨S1x10, .i32⟩
  | 2 => ⟨S1x10, .i32⟩
  | 3 => ⟨S16384x10, .i32⟩
  | 4 => ⟨S16384x10, .i32⟩
  | 5 => ⟨S1x163840, .i32⟩
  | 6 => ⟨S_, .i32⟩
  | 7 => ⟨S_, .f32⟩
  | 8 => ⟨S1228800x128, .f32⟩
  | 9 => ⟨S163840x128, .f32⟩
  | 10 => ⟨S163840x32, .f32⟩
  | 11 => ⟨S16384x16x32, .f32⟩
  | 12 => ⟨S16384x10x32, .f32⟩
  | 13 => ⟨S_, .f32⟩
  | 14 => ⟨S676x192, .f32⟩
  | 15 => ⟨S_, .i32⟩
  | 16 => ⟨S325, .i32⟩
  | 17 => ⟨S325, .i1⟩
  | 18 => ⟨S_, .i32⟩
  | 19 => ⟨S325, .i32⟩
  | 20 => ⟨S325, .i32⟩
  | 21 => ⟨S325, .i32⟩
  | 22 => ⟨S325x1, .i32⟩
  | 23 => ⟨S676x192, .f32⟩
  | 24 => ⟨S1x192, .f32⟩
  | 25 => ⟨S1x192, .f32⟩
  | 26 => ⟨S1x192, .f32⟩
  | 27 => ⟨S1x1, .f32⟩
  | 28 => ⟨S16384x1, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (nBuf tb) → BufTy
  | .hbm, ⟨i, _⟩ => hbmTy i
  | .local .tc .vmem, ⟨0, _⟩ => ⟨S4x32x6400, .f32⟩
  | .local .tc .vmem, ⟨1, _⟩ => ⟨S4x32x6400, .f32⟩
  | .local .tc .vmem, ⟨2, _⟩ => ⟨S128x128, .f32⟩
  | .local .tc .vmem, ⟨3, _⟩ => ⟨S6400x128, .f32⟩
  | .local .tc .vmem, ⟨4, _⟩ => ⟨S6400x128, .f32⟩
  | .local .tc .vmem, ⟨5, _⟩ => ⟨S4x32x6400, .f32⟩
  | .local .tc .vmem, ⟨6, _⟩ => ⟨S4x32x6400, .f32⟩
  | .local .tc .vmem, ⟨7, _⟩ => ⟨S128x128, .f32⟩
  | .local .tc .vmem, ⟨8, _⟩ => ⟨S6400x128, .f32⟩
  | .local .tc .vmem, ⟨9, _⟩ => ⟨S6400x128, .f32⟩
  | .local .tc .vmem, ⟨10, _⟩ => ⟨S512x16x32, .f32⟩
  | .local .tc .vmem, ⟨11, _⟩ => ⟨S512x16x32, .f32⟩
  | .local .tc .vmem, ⟨12, _⟩ => ⟨S512x10x32, .f32⟩
  | .local .tc .vmem, ⟨13, _⟩ => ⟨S512x10x32, .f32⟩
  | .local .tc .vmem, ⟨14, _⟩ => ⟨S676x192, .f32⟩
  | .local .tc .vmem, ⟨15, _⟩ => ⟨S1x192, .f32⟩
  | .local .tc .vmem, ⟨16, _⟩ => ⟨S192x192, .f32⟩
  | .local .tc .vmem, ⟨17, _⟩ => ⟨S1x192, .f32⟩
  | .local .tc .vmem, ⟨18, _⟩ => ⟨S192x192, .f32⟩
  | .local .tc .vmem, ⟨19, _⟩ => ⟨S1x192, .f32⟩
  | .local .tc .vmem, ⟨20, _⟩ => ⟨S192x1, .f32⟩
  | .local .tc .vmem, ⟨21, _⟩ => ⟨S1x1, .f32⟩
  | .local .tc .vmem, ⟨22, _⟩ => ⟨S512x1, .f32⟩
  | .local .tc .vmem, ⟨23, _⟩ => ⟨S512x1, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_c : Ref sig .tc := ⟨.hbm, 12, rfl⟩
abbrev main_v0 : Ref sig .tc := ⟨.hbm, 13, rfl⟩
abbrev main_c_1 : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v7 : Ref sig .tc := ⟨.hbm, 39, rfl⟩
abbrev main_c_3 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_c_4 : Ref sig .tc := ⟨.hbm, 45, rfl⟩
abbrev main_v12 : Ref sig .tc := ⟨.hbm, 46, rfl⟩
abbrev main_v13 : Ref sig .tc := ⟨.hbm, 47, rfl⟩
abbrev main_c_5 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_1 : Ref sig .tc := ⟨.hbm, 56, rfl⟩
abbrev main_call2_v5 : Ref sig .tc := ⟨.hbm, 57, rfl⟩
abbrev main_call2_v6 : Ref sig .tc := ⟨.hbm, 58, rfl⟩
abbrev main_call2_c_2 : Ref sig .tc := ⟨.hbm, 59, rfl⟩
abbrev main_call2_v7 : Ref sig .tc := ⟨.hbm, 60, rfl⟩
abbrev main_call2_v8 : Ref sig .tc := ⟨.hbm, 61, rfl⟩
abbrev main_call2_c_3 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_c_6 : Ref sig .tc := ⟨.hbm, 73, rfl⟩
abbrev main_call3_v0 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_c_7 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_v6 : Ref sig .tc := ⟨.hbm, 90, rfl⟩
abbrev main_call4_v7 : Ref sig .tc := ⟨.hbm, 91, rfl⟩
abbrev main_call4_v8 : Ref sig .tc := ⟨.hbm, 92, rfl⟩
abbrev main_call4_c : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_0 : Ref sig .tc := ⟨.hbm, 97, rfl⟩
abbrev main_call4_v12 : Ref sig .tc := ⟨.hbm, 98, rfl⟩
abbrev main_call4_v13 : Ref sig .tc := ⟨.hbm, 99, rfl⟩
abbrev main_v26 : Ref sig .tc := ⟨.hbm, 100, rfl⟩
abbrev main_c_8 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_c_9 : Ref sig .tc := ⟨.hbm, 106, rfl⟩
abbrev main_v31 : Ref sig .tc := ⟨.hbm, 107, rfl⟩
abbrev main_v32 : Ref sig .tc := ⟨.hbm, 108, rfl⟩
abbrev main_c_10 : Ref sig .tc := ⟨.hbm, 109, rfl⟩
abbrev main_call5_v0 : Ref sig .tc := ⟨.hbm, 110, rfl⟩
abbrev main_call5_c : Ref sig .tc := ⟨.hbm, 111, rfl⟩
abbrev main_call5_v1 : Ref sig .tc := ⟨.hbm, 112, rfl⟩
abbrev main_call5_c_0 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_c_1 : Ref sig .tc := ⟨.hbm, 117, rfl⟩
abbrev main_call5_v5 : Ref sig .tc := ⟨.hbm, 118, rfl⟩
abbrev main_call5_v6 : Ref sig .tc := ⟨.hbm, 119, rfl⟩
abbrev main_call5_c_2 : Ref sig .tc := ⟨.hbm, 120, rfl⟩
abbrev main_call5_v7 : Ref sig .tc := ⟨.hbm, 121, rfl⟩
abbrev main_call5_v8 : Ref sig .tc := ⟨.hbm, 122, rfl⟩
abbrev main_call5_c_3 : Ref sig .tc := ⟨.hbm, 123, rfl⟩
abbrev main_call5_v9 : Ref sig .tc := ⟨.hbm, 124, rfl⟩
abbrev main_call5_v10 : Ref sig .tc := ⟨.hbm, 125, rfl⟩
abbrev main_call5_v11 : Ref sig .tc := ⟨.hbm, 126, rfl⟩
abbrev main_call5_v12 : Ref sig .tc := ⟨.hbm, 127, rfl⟩
abbrev main_call5_v13 : Ref sig .tc := ⟨.hbm, 128, rfl⟩
abbrev main_call5_v14 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_c_11 : Ref sig .tc := ⟨.hbm, 134, rfl⟩
abbrev main_call6_v0 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_cst_12 : Ref sig .tc := ⟨.hbm, 141, rfl⟩
abbrev main_v42 : Ref sig .tc := ⟨.hbm, 142, rfl⟩
abbrev main_c_13 : Ref sig .tc := ⟨.hbm, 143, rfl⟩
abbrev main_v43 : Ref sig .tc := ⟨.hbm, 144, rfl⟩
abbrev main_v44 : Ref sig .tc := ⟨.hbm, 145, rfl⟩
abbrev main_c_14 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_v52 : Ref sig .tc := ⟨.hbm, 154, rfl⟩
abbrev main_v53 : Ref sig .tc := ⟨.hbm, 155, rfl⟩
abbrev main_v54 : Ref sig .tc := ⟨.hbm, 156, rfl⟩
abbrev main_v18_scv : Ref sig .scVector := ⟨.hbm, 75, rfl⟩
abbrev main_v17_scv : Ref sig .scVector := ⟨.hbm, 72, rfl⟩
abbrev main_v19_scv : Ref sig .scVector := ⟨.hbm, 76, rfl⟩
abbrev main_v37_scv : Ref sig .scVector := ⟨.hbm, 136, rfl⟩
abbrev main_v36_scv : Ref sig .scVector := ⟨.hbm, 133, rfl⟩
abbrev main_v38_scv : Ref sig .scVector := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc4_stg0_0 : Ref sig .tc := ⟨.vmem, 10, rfl⟩
abbrev cc4_stg0_1 : Ref sig .tc := ⟨.vmem, 11, rfl⟩
abbrev cc4_stg1_0 : Ref sig .tc := ⟨.vmem, 12, rfl⟩
abbrev cc4_stg1_1 : Ref sig .tc := ⟨.vmem, 13, rfl⟩
abbrev cc4_stg2_0 : Ref sig .tc := ⟨.vmem, 14, rfl⟩
abbrev cc4_stg3_0 : Ref sig .tc := ⟨.vmem, 15, rfl⟩
abbrev cc4_stg4_0 : Ref sig .tc := ⟨.vmem, 16, rfl⟩
abbrev cc4_stg5_0 : Ref sig .tc := ⟨.vmem, 17, rfl⟩
abbrev cc4_stg6_0 : Ref sig .tc := ⟨.vmem, 18, rfl⟩
abbrev cc4_stg7_0 : Ref sig .tc := ⟨.vmem, 19, rfl⟩
abbrev cc4_stg8_0 : Ref sig .tc := ⟨.vmem, 20, rfl⟩
abbrev cc4_stg9_0 : Ref sig .tc := ⟨.vmem, 21, rfl⟩
abbrev cc4_stg10_0 : Ref sig .tc := ⟨.vmem, 22, rfl⟩
abbrev cc4_stg10_1 : Ref sig .tc := ⟨.vmem, 23, rfl⟩
abbrev cc1_scoped0 : Ref sig .scVector := ⟨.vmem, 0, rfl⟩
abbrev cc1_scoped2 : Ref sig .scVector := ⟨.vmem, 1, rfl⟩
abbrev cc3_scoped0 : Ref sig .scVector := ⟨.vmem, 2, rfl⟩
abbrev cc3_scoped2 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem6_0 : DmaSem sig := 28
abbrev cc4_sem7_0 : DmaSem sig := 29
abbrev cc4_sem8_0 : DmaSem sig := 30
abbrev cc4_sem9_0 : DmaSem sig := 31
abbrev cc4_sem10_0 : DmaSem sig := 32
abbrev cc4_sem10_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x32x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c64_i32_27_r0 : BitVec 32 := 64#32
  let v32_r0 : BitVec 32 := Scalar.addi c0_i32_26_r0 c64_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c63_i32_68_r0 : BitVec 32 := 63#32
  let v83_r0 : BitVec 1 := Scalar.cmpi .sge arg5_r0 c63_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c63_i32_55_r0 : BitVec 32 := 63#32
  let v65_r0 : BitVec 1 := Scalar.cmpi .eq arg5_r0 c63_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x262144.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x262144.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S262144x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S262144x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x262144.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x262144.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S262144x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S262144x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c63_i32_33_r0 : BitVec 32 := 63#32
  let v37_r0 : BitVec 32 := Scalar.select v36_r0 c63_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S262144x128.size a)
theorem k1_off19_inb : ∀ (i : grid1.Coords) (v33_4_r0 : BitVec 32) (k1_hw5 : k1_chk5 i v33_4_r0), ∀ a, (k1_off19 i v33_4_r0) a + S128x128.size a ≤ S262144x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev grid2 : Pipeline.Grid := ⟨2, ![3, 16], ![false, false]⟩

def cc2_transform_0 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S4x32x6400 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S6400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 16], ![false, false]⟩

def k3_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k3_off2 (i : grid3.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c40_i32 : BitVec 32 := 40#32
  let v4 : BitVec 32 := Scalar.muli v3 c40_i32
  let v7_r0 : BitVec 32 := Scalar.addi c0_i32_1_r0 v4
  let v22_r0 : BitVec 32 := Scalar.muli c128_i32_r0 v7_r0
  ![0, v22_r0.toNat]
def k3_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k3_t1_loop : Scf.Loop 32 :=
  let c0_i32_26_r0 : BitVec 32 := 0#32
  let c40_i32_27_r0 : BitVec 32 := 40#32
  let v32_r0 : BitVec 32 := Scalar.addi c0_i32_26_r0 c40_i32_27_r0
  let c1_i32_28_r0 : BitVec 32 := 1#32
  ⟨c0_i32_26_r0, v32_r0, c1_i32_28_r0⟩
def k3_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k3_cond1 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c40_i32 : BitVec 32 := 40#32
  let v4 : BitVec 32 := Scalar.muli v3 c40_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c40_i32_62_r0 : BitVec 32 := 40#32
  let v74_r0 : BitVec 1 := Scalar.cmpi .eq v73_r0 c40_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c39_i32_68_r0 : BitVec 32 := 39#32
  let v83_r0 : BitVec 1 := Scalar.cmpi .sge arg5_r0 c39_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k3_off5 (i : grid3.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c40_i32_62_r0 : BitVec 32 := 40#32
  let v74_r0 : BitVec 1 := Scalar.cmpi .eq v73_r0 c40_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c40_i32 : BitVec 32 := 40#32
  let v4 : BitVec 32 := Scalar.muli v3 c40_i32
  let v76_r0 : BitVec 32 := Scalar.addi v75_r0 v4
  let v145_r0 : BitVec 32 := Scalar.muli c128_i32_100_r0 v76_r0
  ![0, v145_r0.toNat]
def k3_off6 (arg6_r0 : BitVec 32) : Fin 1 → Nat :=
  let c2_i32_99_r0 : BitVec 32 := 2#32
  let v144_r0 : BitVec 32 := Scalar.remui arg6_r0 c2_i32_99_r0
  ![v144_r0.toNat]
def k3_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k3_cond2 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c40_i32 : BitVec 32 := 40#32
  let v4 : BitVec 32 := Scalar.muli v3 c40_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c39_i32_59_r0 : BitVec 32 := 39#32
  let v70_r0 : BitVec 32 := Scalar.select v69_r0 c39_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k3_off8 (i : grid3.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c40_i32 : BitVec 32 := 40#32
  let v4 : BitVec 32 := Scalar.muli v3 c40_i32
  let v66_r0 : BitVec 32 := Scalar.addi arg10_r0 v4
  let v144_r0 : BitVec 32 := Scalar.muli c128_i32_99_r0 v66_r0
  ![0, v144_r0.toNat]
def k3_off9 (arg7_r0 : BitVec 32) : Fin 1 → Nat :=
  let c2_i32_100_r0 : BitVec 32 := 2#32
  let v145_r0 : BitVec 32 := Scalar.remui arg7_r0 c2_i32_100_r0
  ![v145_r0.toNat]
def k3_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k3_chk2 (arg8_r0 : BitVec 32) : Prop :=
  (∀ a, (k3_off10 arg8_r0) a + S1x128x128.size a ≤ S2x128x128.size a)
theorem k3_off10_inb : ∀ (arg8_r0 : BitVec 32) (k3_hw2 : k3_chk2 arg8_r0), ∀ a, (k3_off10 arg8_r0) a + S1x128x128.size a ≤ S2x128x128.size a := fun arg8_r0 k3_hw2 => k3_hw2

def k3_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k3_chk3 (arg7_r0 : BitVec 32) : Prop :=
  (∀ a, (k3_off11 arg7_r0) a + S1x1x128.size a ≤ S2x1x128.size a)
theorem k3_off11_inb : ∀ (arg7_r0 : BitVec 32) (k3_hw3 : k3_chk3 arg7_r0), ∀ a, (k3_off11 arg7_r0) a + S1x1x128.size a ≤ S2x1x128.size a := fun arg7_r0 k3_hw3 => k3_hw3

def k3_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k3_cond5 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c40_i32 : BitVec 32 := 40#32
  let v4 : BitVec 32 := Scalar.muli v3 c40_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c40_i32_62_r0 : BitVec 32 := 40#32
  let v74_r0 : BitVec 1 := Scalar.cmpi .eq v73_r0 c40_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c39_i32_55_r0 : BitVec 32 := 39#32
  let v65_r0 : BitVec 1 := Scalar.cmpi .eq arg5_r0 c39_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k3_off13 (i : grid3.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c40_i32 : BitVec 32 := 40#32
  let v4 : BitVec 32 := Scalar.muli v3 c40_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k3_off14 (arg8_r0 : BitVec 32) : Fin 1 → Nat :=
  let c2_i32_99_r0 : BitVec 32 := 2#32
  let v144_r0 : BitVec 32 := Scalar.remui arg8_r0 c2_i32_99_r0
  ![v144_r0.toNat]
def k3_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k3_cond7 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c40_i32 : BitVec 32 := 40#32
  let v4 : BitVec 32 := Scalar.muli v3 c40_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c39_i32_59_r0 : BitVec 32 := 39#32
  let v70_r0 : BitVec 32 := Scalar.select v69_r0 c39_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k3_off16 (i : grid3.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c39_i32_59_r0 : BitVec 32 := 39#32
  let v70_r0 : BitVec 32 := Scalar.select v69_r0 c39_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c40_i32 : BitVec 32 := 40#32
  let v4 : BitVec 32 := Scalar.muli v3 c40_i32
  let v71_r0 : BitVec 32 := Scalar.addi v70_r0 v4
  let v145_r0 : BitVec 32 := Scalar.muli c128_i32_100_r0 v71_r0
  let c0_i32_103_r0 : BitVec 32 := 0#32
  ![v145_r0.toNat, 0]
def k3_off17 (arg9_r0 : BitVec 32) : Fin 1 → Nat :=
  let c2_i32_99_r0 : BitVec 32 := 2#32
  let v144_r0 : BitVec 32 := Scalar.remui arg9_r0 c2_i32_99_r0
  ![v144_r0.toNat]

def k3_chk1 (i : grid3.Coords) (k3_t1 : Fin k3_t1_loop.trips) (arg6_r0 : BitVec 32) (arg7_r0 : BitVec 32) (arg8_r0 : BitVec 32) (arg9_r0 : BitVec 32) (arg10_r0 : BitVec 32) : Prop :=
  (∀ (k3_h1 : k3_cond1 i k3_t1 arg10_r0 = 1#1), ∀ a, (k3_off4 arg6_r0) a + S1x1x128.size a ≤ S2x1x128.size a) ∧
  (∀ (k3_h1 : k3_cond1 i k3_t1 arg10_r0 = 1#1), ∀ a, (k3_off5 i arg10_r0) a + S1x128.size a ≤ S1x163840.size a) ∧
  (∀ (k3_h1 : k3_cond1 i k3_t1 arg10_r0 = 1#1), ∀ a, (k3_off6 arg6_r0) a + S1.size a ≤ S2.size a) ∧
  (∀ (k3_h2 : k3_cond2 i k3_t1 arg10_r0 = 1#1), ∀ a, (k3_off7 arg7_r0) a + S1x1x128.size a ≤ S2x1x128.size a) ∧
  (∀ (k3_h2 : k3_cond2 i k3_t1 arg10_r0 = 1#1), ∀ a, (k3_off8 i arg10_r0) a + S1x128.size a ≤ S1x163840.size a) ∧
  (∀ (k3_h2 : k3_cond2 i k3_t1 arg10_r0 = 1#1), ∀ a, (k3_off9 arg7_r0) a + S1.size a ≤ S2.size a) ∧
  (∀ (k3_h5 : k3_cond5 i k3_t1 arg10_r0 = 1#1), ∀ a, (k3_off12 arg8_r0) a + S1x128x128.size a ≤ S2x128x128.size a) ∧
  (∀ (k3_h5 : k3_cond5 i k3_t1 arg10_r0 = 1#1), ∀ a, (k3_off13 i arg10_r0) a + S128x128.size a ≤ S163840x128.size a) ∧
  (∀ (k3_h5 : k3_cond5 i k3_t1 arg10_r0 = 1#1), ∀ a, (k3_off14 arg8_r0) a + S1.size a ≤ S2.size a) ∧
  (∀ (k3_h7 : k3_cond7 i k3_t1 arg10_r0 = 1#1), ∀ a, (k3_off15 arg9_r0) a + S1x128x128.size a ≤ S2x128x128.size a) ∧
  (∀ (k3_h7 : k3_cond7 i k3_t1 arg10_r0 = 1#1), ∀ a, (k3_off16 i arg10_r0) a + S128x128.size a ≤ S163840x128.size a) ∧
  (∀ (k3_h7 : k3_cond7 i k3_t1 arg10_r0 = 1#1), ∀ a, (k3_off17 arg9_r0) a + S1.size a ≤ S2.size a)
theorem k3_off4_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off4 arg6_r0) a + S1x1x128.size a ≤ S2x1x128.size a := fun i k3_t1 arg6_r0 arg7_r0 arg8_r0 arg9_r0 arg10_r0 k3_hw1 k3_h1 => k3_hw1.1 k3_h1
theorem k3_off5_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off5 i arg10_r0) a + S1x128.size a ≤ S1x163840.size a := fun i k3_t1 arg6_r0 arg7_r0 arg8_r0 arg9_r0 arg10_r0 k3_hw1 k3_h1 => k3_hw1.2.1 k3_h1
theorem k3_off6_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off6 arg6_r0) a + S1.size a ≤ S2.size a := fun i k3_t1 arg6_r0 arg7_r0 arg8_r0 arg9_r0 arg10_r0 k3_hw1 k3_h1 => k3_hw1.2.2.1 k3_h1
theorem k3_off7_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off7 arg7_r0) a + S1x1x128.size a ≤ S2x1x128.size a := fun i k3_t1 arg6_r0 arg7_r0 arg8_r0 arg9_r0 arg10_r0 k3_hw1 k3_h2 => k3_hw1.2.2.2.1 k3_h2
theorem k3_off8_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off8 i arg10_r0) a + S1x128.size a ≤ S1x163840.size a := fun i k3_t1 arg6_r0 arg7_r0 arg8_r0 arg9_r0 arg10_r0 k3_hw1 k3_h2 => k3_hw1.2.2.2.2.1 k3_h2
theorem k3_off9_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off9 arg7_r0) a + S1.size a ≤ S2.size a := fun i k3_t1 arg6_r0 arg7_r0 arg8_r0 arg9_r0 arg10_r0 k3_hw1 k3_h2 => k3_hw1.2.2.2.2.2.1 k3_h2
theorem k3_off12_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off12 arg8_r0) a + S1x128x128.size a ≤ S2x128x128.size a := fun i k3_t1 arg6_r0 arg7_r0 arg8_r0 arg9_r0 arg10_r0 k3_hw1 k3_h5 => k3_hw1.2.2.2.2.2.2.1 k3_h5
theorem k3_off13_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off13 i arg10_r0) a + S128x128.size a ≤ S163840x128.size a := fun i k3_t1 arg6_r0 arg7_r0 arg8_r0 arg9_r0 arg10_r0 k3_hw1 k3_h5 => k3_hw1.2.2.2.2.2.2.2.1 k3_h5
theorem k3_off14_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off14 arg8_r0) a + S1.size a ≤ S2.size a := fun i k3_t1 arg6_r0 arg7_r0 arg8_r0 arg9_r0 arg10_r0 k3_hw1 k3_h5 => k3_hw1.2.2.2.2.2.2.2.2.1 k3_h5
theorem k3_off15_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off15 arg9_r0) a + S1x128x128.size a ≤ S2x128x128.size a := fun i k3_t1 arg6_r0 arg7_r0 arg8_r0 arg9_r0 arg10_r0 k3_hw1 k3_h7 => k3_hw1.2.2.2.2.2.2.2.2.2.1 k3_h7
theorem k3_off16_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off16 i arg10_r0) a + S128x128.size a ≤ S163840x128.size a := fun i k3_t1 arg6_r0 arg7_r0 arg8_r0 arg9_r0 arg10_r0 k3_hw1 k3_h7 => k3_hw1.2.2.2.2.2.2.2.2.2.2.1 k3_h7
theorem k3_off17_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off17 arg9_r0) a + S1.size a ≤ S2.size a := fun i k3_t1 arg6_r0 arg7_r0 arg8_r0 arg9_r0 arg10_r0 k3_hw1 k3_h7 => k3_hw1.2.2.2.2.2.2.2.2.2.2.2 k3_h7

def k3_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k3_off19 (i : grid3.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c39_i32_33_r0 : BitVec 32 := 39#32
  let v37_r0 : BitVec 32 := Scalar.select v36_r0 c39_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c40_i32 : BitVec 32 := 40#32
  let v4 : BitVec 32 := Scalar.muli v3 c40_i32
  let v38_r0 : BitVec 32 := Scalar.addi v37_r0 v4
  let v55_r0 : BitVec 32 := Scalar.muli c128_i32_47_r0 v38_r0
  let c0_i32_50_r0 : BitVec 32 := 0#32
  ![v55_r0.toNat, 0]

def k3_chk5 (i : grid3.Coords) (v33_4_r0 : BitVec 32) : Prop :=
  (∀ a, (k3_off19 i v33_4_r0) a + S128x128.size a ≤ S163840x128.size a)
theorem k3_off19_inb : ∀ (i : grid3.Coords) (v33_4_r0 : BitVec 32) (k3_hw5 : k3_chk5 i v33_4_r0), ∀ a, (k3_off19 i v33_4_r0) a + S128x128.size a ≤ S163840x128.size a := fun i v33_4_r0 k3_hw5 => k3_hw5

def k3_off20 (v33_3_r0 : BitVec 32) : Fin 1 → Nat :=
  let c2_i32_46_r0 : BitVec 32 := 2#32
  let v54_r0 : BitVec 32 := Scalar.remui v33_3_r0 c2_i32_46_r0
  ![v54_r0.toNat]
def k3_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k3_chk4 (v33_3_r0 : BitVec 32) : Prop :=
  (∀ a, (k3_off18 v33_3_r0) a + S1x128x128.size a ≤ S2x128x128.size a) ∧
  (∀ a, (k3_off20 v33_3_r0) a + S1.size a ≤ S2.size a) ∧
  (∀ a, (k3_off21 v33_3_r0) a + S1x128x128.size a ≤ S2x128x128.size a)
theorem k3_off18_inb : ∀ (v33_3_r0 : BitVec 32) (k3_hw4 : k3_chk4 v33_3_r0), ∀ a, (k3_off18 v33_3_r0) a + S1x128x128.size a ≤ S2x128x128.size a := fun v33_3_r0 k3_hw4 => k3_hw4.1
theorem k3_off20_inb : ∀ (v33_3_r0 : BitVec 32) (k3_hw4 : k3_chk4 v33_3_r0), ∀ a, (k3_off20 v33_3_r0) a + S1.size a ≤ S2.size a := fun v33_3_r0 k3_hw4 => k3_hw4.2.1
theorem k3_off21_inb : ∀ (v33_3_r0 : BitVec 32) (k3_hw4 : k3_chk4 v33_3_r0), ∀ a, (k3_off21 v33_3_r0) a + S1x128x128.size a ≤ S2x128x128.size a := fun v33_3_r0 k3_hw4 => k3_hw4.2.2

abbrev grid4 : Pipeline.Grid := ⟨1, ![32], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x16x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x10x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S676x192 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x192 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S192x192 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x192 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S192x192 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x192 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S192x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S512x1 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x26 : Shape := ⟨2, ![16384, 26]⟩
abbrev S26x100001x32 : Shape := ⟨3, ![26, 100001, 32]⟩
abbrev S325x192 : Shape := ⟨2, ![325, 192]⟩
abbrev S192 : Shape := ⟨1, ![192]⟩
abbrev S192x192 : Shape := ⟨2, ![192, 192]⟩
abbrev S192x1 : Shape := ⟨2, ![192, 1]⟩
abbrev S1 : Shape := ⟨1, ![1]⟩
abbrev S325 : Shape := ⟨1, ![325]⟩
abbrev S2600026x32 : Shape := ⟨2, ![2600026, 32]⟩
abbrev S26 : Shape := ⟨1, ![26]⟩
abbrev S1x26 : Shape := ⟨2, ![1, 26]⟩
abbrev S_ : Shape := ⟨0, ![]⟩
abbrev S425984 : Shape := ⟨1, ![425984]⟩
abbrev S425984x1 : Shape := ⟨2, ![425984, 1]⟩
abbrev S425984x32 : Shape := ⟨2, ![425984, 32]⟩
abbrev S16384x26x32 : Shape := ⟨3, ![16384, 26, 32]⟩
abbrev S16384x26x26 : Shape := ⟨3, ![16384, 26, 26]⟩
abbrev S325x1 : Shape := ⟨2, ![325, 1]⟩
abbrev S325x2 : Shape := ⟨2, ![325, 2]⟩
abbrev S16384x325 : Shape := ⟨2, ![16384, 325]⟩
abbrev S16384x192 : Shape := ⟨2, ![16384, 192]⟩
abbrev S1x192 : Shape := ⟨2, ![1, 192]⟩
abbrev S16384x1 : Shape := ⟨2, ![16384, 1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x100001x32, .f32⟩
  | .hbm, ⟨2, _⟩ => ⟨S325x192, .f32⟩
  | .hbm, ⟨3, _⟩ => ⟨S192, .f32⟩
  | .hbm, ⟨4, _⟩ => ⟨S192x192, .f32⟩
  | .hbm, ⟨5, _⟩ => ⟨S192, .f32⟩
  | .hbm, ⟨6, _⟩ => ⟨S192x192, .f32⟩
  | .hbm, ⟨7, _⟩ => ⟨S192, .f32⟩
  | .hbm, ⟨8, _⟩ => ⟨S192x1, .f32⟩
  | .hbm, ⟨9, _⟩ => ⟨S1, .f32⟩
  | .hbm, ⟨10, _⟩ => ⟨S325, .i32⟩
  | .hbm, ⟨11, _⟩ => ⟨S325, .i1⟩
  | .hbm, ⟨12, _⟩ => ⟨S325, .i32⟩
  | .hbm, ⟨13, _⟩ => ⟨S325, .i1⟩
  | .hbm, ⟨14, _⟩ => ⟨S2600026x32, .f32⟩
  | .hbm, ⟨15, _⟩ => ⟨S26, .i32⟩
  | .hbm, ⟨16, _⟩ => ⟨S1x26, .i32⟩
  | .hbm, ⟨17, _⟩ => ⟨S_, .i32⟩
  | .hbm, ⟨18, _⟩ => ⟨S1x26, .i32⟩
  | .hbm, ⟨19, _⟩ => ⟨S1x26, .i32⟩
  | .hbm, ⟨20, _⟩ => ⟨S16384x26, .i32⟩
  | .hbm, ⟨21, _⟩ => ⟨S16384x26, .i32⟩
  | .hbm, ⟨22, _⟩ => ⟨S425984, .i32⟩
  | .hbm, ⟨23, _⟩ => ⟨S_, .i32⟩
  | .hbm, ⟨24, _⟩ => ⟨S425984, .i32⟩
  | .hbm, ⟨25, _⟩ => ⟨S425984, .i1⟩
  | .hbm, ⟨26, _⟩ => ⟨S_, .i32⟩
  | .hbm, ⟨27, _⟩ => ⟨S425984, .i32⟩
  | .hbm, ⟨28, _⟩ => ⟨S425984, .i32⟩
  | .hbm, ⟨29, _⟩ => ⟨S425984, .i32⟩
  | .hbm, ⟨30, _⟩ => ⟨S425984x1, .i32⟩
  | .hbm, ⟨31, _⟩ => ⟨S425984x32, .f32⟩
  | .hbm, ⟨32, _⟩ => ⟨S16384x26x32, .f32⟩
  | .hbm, ⟨33, _⟩ => ⟨S16384x26x26, .f32⟩
  | .hbm, ⟨34, _⟩ => ⟨S_, .i32⟩
  | .hbm, ⟨35, _⟩ => ⟨S325, .i32⟩
  | .hbm, ⟨36, _⟩ => ⟨S325, .i32⟩
  | .hbm, ⟨37, _⟩ => ⟨S325, .i32⟩
  | .hbm, ⟨38, _⟩ => ⟨S_, .i32⟩
  | .hbm, ⟨39, _⟩ => ⟨S325, .i32⟩
  | .hbm, ⟨40, _⟩ => ⟨S325, .i32⟩
  | .hbm, ⟨41, _⟩ => ⟨S325, .i32⟩
  | .hbm, ⟨42, _⟩ => ⟨S325x1, .i32⟩
  | .hbm, ⟨43, _⟩ => ⟨S325x1, .i32⟩
  | .hbm, ⟨44, _⟩ => ⟨S325x2, .i32⟩
  | .hbm, ⟨45, _⟩ => ⟨S16384x325, .f32⟩
  | .hbm, ⟨46, _⟩ => ⟨S16384x192, .f32⟩
  | .hbm, ⟨47, _⟩ => ⟨S1x192, .f32⟩
  | .hbm, ⟨48, _⟩ => ⟨S16384x192, .f32⟩
  | .hbm, ⟨49, _⟩ => ⟨S16384x192, .f32⟩
  | .hbm, ⟨50, _⟩ => ⟨S_, .f32⟩
  | .hbm, ⟨51, _⟩ => ⟨S16384x192, .f32⟩
  | .hbm, ⟨52, _⟩ => ⟨S16384x192, .f32⟩
  | .hbm, ⟨53, _⟩ => ⟨S16384x192, .f32⟩
  | .hbm, ⟨54, _⟩ => ⟨S1x192, .f32⟩
  | .hbm, ⟨55, _⟩ => ⟨S16384x192, .f32⟩
  | .hbm, ⟨56, _⟩ => ⟨S16384x192, .f32⟩
  | .hbm, ⟨57, _⟩ => ⟨S_, .f32⟩
  | .hbm, ⟨58, _⟩ => ⟨S16384x192, .f32⟩
  | .hbm, ⟨59, _⟩ => ⟨S16384x192, .f32⟩
  | .hbm, ⟨60, _⟩ => ⟨S16384x192, .f32⟩
  | .hbm, ⟨61, _⟩ => ⟨S1x192, .f32⟩
  | .hbm, ⟨62, _⟩ => ⟨S16384x192, .f32⟩
  | .hbm, ⟨63, _⟩ => ⟨S16384x192, .f32⟩
  | .hbm, ⟨64, _⟩ => ⟨S_, .f32⟩
  | .hbm, ⟨65, _⟩ => ⟨S16384x192, .f32⟩
  | .hbm, ⟨66, _⟩ => ⟨S16384x192, .f32⟩
  | .hbm, ⟨67, _⟩ => ⟨S16384x1, .f32⟩
  | .hbm, ⟨68, _⟩ => ⟨S1x1, .f32⟩
  | .hbm, ⟨69, _⟩ => ⟨S16384x1, .f32⟩
  | .hbm, ⟨70, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c_3 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_4 : Ref sig .tc := ⟨.hbm, 23, rfl⟩
abbrev main_v8 : Ref sig .tc := ⟨.hbm, 24, rfl⟩
abbrev main_v9 : Ref sig .tc := ⟨.hbm, 25, rfl⟩
abbrev main_c_5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_7 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Proof.Windows.lean ====
/-
  A pipelined gather of table rows by one tile, in windows of 128 indices, independent of any program: what the tile
  holds of its double buffers, and one rule per transfer or wait of the pipeline.

  Window `w` is the index words `128 w … 128 w + 127` of the index array and the rows of the same numbers of the
  result. The index buffer and the row buffer have two slots each; window `w` uses slot `w % 2` of both. A slot of the
  index buffer is free, in flight (its words are on their way from the index array) or full; a slot of the row buffer
  is free, full (it holds the gathered rows) or in flight (its rows are on their way to the result).
-/
module

public import Idealize.ShloMosaic.Lib.SparseCore.Ops
public import Idealize.ShloMosaic.Lib.SparseCore.Stream
public import Idealize.ShloMosaic.Lib.SparseCore.FromWhole
public import Idealize.ShloMosaic.Lib.ValueLayout
public import Idealize.ShloMosaic.Lib.ValueIdxCoords
public import Idealize.ShloMosaic.Lib.Tactic

@[expose] public section

noncomputable section

namespace Windows

open Idealize.ShloMosaic
open Idealize.ShloMosaic.ValueIdx
open Idealize.SL Idealize.SL.RA Idealize.SL.BI
open scoped Idealize.SL.BI
open Idealize.SL.BI.BIBase Idealize.SL.BI.Laws Idealize.SL.ProofMode Idealize.SL.Sem

/-! ## Index sets -/

/-- The indices of slot `b` of a two-slot buffer of `n` rows of 128. -/
def slotOf (n : ℕ) (b : Fin 2) : Finset (⟨3, ![2, n, 128]⟩ : Shape).Idx := Finset.univ.filter fun x => (x 0).val = b.val

/-- The indices of rows `lo … hi - 1` of an array of `M` rows of 128. -/
def rowsIn (M lo hi : ℕ) : Finset (⟨2, ![M, 128]⟩ : Shape).Idx := Finset.univ.filter fun x => lo ≤ (x 0).val ∧ (x 0).val < hi

theorem mem_slotOf {n : ℕ} {b : Fin 2} {x : (⟨3, ![2, n, 128]⟩ : Shape).Idx} : x ∈ slotOf n b ↔ (x 0).val = b.val := by
  unfold slotOf; simp

theorem mem_rowsIn {M lo hi : ℕ} {x : (⟨2, ![M, 128]⟩ : Shape).Idx} : x ∈ rowsIn M lo hi ↔ lo ≤ (x 0).val ∧ (x 0).val < hi := by
  unfold rowsIn; simp

theorem rowsIn_union {M a b c : ℕ} (h : a ≤ b) (h' : b ≤ c) : rowsIn M a b ∪ rowsIn M b c = rowsIn M a c := by
  ext x; simp only [Finset.mem_union, mem_rowsIn]; omega

theorem rowsIn_disjoint {M a b c d : ℕ} (h : b ≤ c) : Disjoint (rowsIn M a b) (rowsIn M c d) :=
  Finset.disjoint_left.mpr fun x hx hx' => by rw [mem_rowsIn] at hx hx'; omega

theorem rowsIn_empty {M a : ℕ} : rowsIn M a a = ∅ := by
  ext x; simp only [mem_rowsIn, Finset.notMem_empty, iff_false]; omega

theorem slotOf_union (n : ℕ) : slotOf n 0 ∪ slotOf n 1 = Finset.univ := by
  ext x
  have := (x 0).isLt
  change (x 0).val < 2 at this
  simp only [Finset.mem_union, mem_slotOf, Fin.val_zero, Fin.val_one, Finset.mem_univ, iff_true]; omega

theorem slotOf_disjoint (n : ℕ) : Disjoint (slotOf n 0) (slotOf n 1) :=
  Finset.disjoint_left.mpr fun x hx hx' => by rw [mem_slotOf] at hx hx'; rw [hx] at hx'; simp at hx'

theorem set_slot (n : ℕ) (b : Fin 2) (inb) :
    (Rect.unit (s := ⟨3, ![2, n, 128]⟩) ![b.val, 0, 0] (⟨3, ![1, n, 128]⟩ : Shape).size inb).set = slotOf n b := by
  ext x
  rw [Rect.mem_set_unit, mem_slotOf]
  have h1 := (x 1).isLt
  have h2 := (x 2).isLt
  change (x 1).val < n at h1
  change (x 2).val < 128 at h2
  constructor
  · intro h
    have := h 0
    change b.val ≤ (x 0).val ∧ (x 0).val < b.val + 1 at this
    omega
  · intro h a
    match a with
    | ⟨0, _⟩ => change b.val ≤ (x 0).val ∧ (x 0).val < b.val + 1; omega
    | ⟨1, _⟩ => change 0 ≤ (x 1).val ∧ (x 1).val < 0 + n; omega
    | ⟨2, _⟩ => change 0 ≤ (x 2).val ∧ (x 2).val < 0 + 128; omega

theorem set_window (M w : ℕ) (inb) :
    (Rect.unit (s := ⟨2, ![M, 128]⟩) ![128 * w, 0] (⟨2, ![128, 128]⟩ : Shape).size inb).set = rowsIn M (128 * w) (128 * (w + 1)) := by
  ext x
  rw [Rect.mem_set_unit, mem_rowsIn]
  have h1 := (x 1).isLt
  change (x 1).val < 128 at h1
  constructor
  · intro h
    have := h 0
    change 128 * w ≤ (x 0).val ∧ (x 0).val < 128 * w + 128 at this
    omega
  · intro h a
    match a with
    | ⟨0, _⟩ => change 128 * w ≤ (x 0).val ∧ (x 0).val < 128 * w + 128; omega
    | ⟨1, _⟩ => change 0 ≤ (x 1).val ∧ (x 1).val < 0 + 128; omega

/-! ## Views of a slot and of a window -/

section Views

variable {sig : RefSig} {κ : Kind} {sp : Space} {e : EltTy} {Val : EltTy → Type}

/-- The semaphore at index `b` of an array of two. -/
abbrev semAt (a : DmaSems sig ⟨1, ![2]⟩) (b : Fin 2) : DmaSem sig := a.ix (ix1 b)

theorem sem_slot (a : DmaSems sig ⟨1, ![2]⟩) (b : Fin 2) {off : Fin 1 → ℕ} (h : off = ![b.val]) (inb) (hq) :
    ((a.slice (Rect.unit (s := ⟨1, ![2]⟩) off (⟨1, ![1]⟩ : Shape).size inb)).squeeze ⟨0, ![]⟩ hq).sem = semAt a b := by
  subst h
  change a.ix _ = a.ix _
  congr 1
  funext d
  match d with
  | ⟨0, _⟩ =>
    apply Fin.ext
    have hj : ∀ j : Fin 1, b.val + 1 * j.val = b.val := fun j => by omega
    exact hj _

theorem setOn_slot {n : ℕ} (m : Memref sig κ sp ⟨3, ![2, n, 128]⟩ e) (b : Fin 2) (inb h1 h2) :
    ((m.slice (Rect.unit (s := ⟨3, ![2, n, 128]⟩) ![b.val, 0, 0] (⟨3, ![1, n, 128]⟩ : Shape).size inb) h1).squeeze ⟨2, ![n, 128]⟩ h2).view.set
      = m.view.setOn (slotOf n b) := by
  change ((m.view.slice _).reshape _ _).set = _
  rw [View.set_reshape, View.set_slice, set_slot]; rfl

theorem read_slot {n : ℕ} (m : Memref sig κ sp ⟨3, ![2, n, 128]⟩ e) (b : Fin 2) (inb h1 h2)
    (f : m.view.ty.Contents Val) (r : Fin n) (l : Fin 128) :
    ((m.slice (Rect.unit (s := ⟨3, ![2, n, 128]⟩) ![b.val, 0, 0] (⟨3, ![1, n, 128]⟩ : Shape).size inb) h1).squeeze ⟨2, ![n, 128]⟩ h2).view.read Val f
        (ix2 r l) = m.view.read Val f (ix3 b r l) := by
  change m.view.read Val f (Rect.emb _ (Shape.reshapeEquiv _ (ix2 r l))) = _
  congr 1
  erw [reshapeEquiv_ix2_1ab]
  funext a
  apply Fin.ext
  match a with
  | ⟨0, _⟩ => change b.val + 1 * 0 = b.val; omega
  | ⟨1, _⟩ => change 0 + 1 * r.val = r.val; omega
  | ⟨2, _⟩ => change 0 + 1 * l.val = l.val; omega

/-- Word `l` of window `w` of the index array. -/
theorem read_words {M : ℕ} (m : Memref sig κ sp ⟨2, ![1, M]⟩ e) (w : ℕ)
    (inb : ∀ a, (![0, 128 * w] : Fin 2 → ℕ) a + (⟨2, ![1, 128]⟩ : Shape).size a ≤ (⟨2, ![1, M]⟩ : Shape).size a) (h1 : ∀ _, _ = 1)
    (f : m.view.ty.Contents Val) (l : Fin 128) (h : 128 * w + l.val < M) :
    (m.slice (Rect.unit (s := ⟨2, ![1, M]⟩) ![0, 128 * w] (⟨2, ![1, 128]⟩ : Shape).size inb) h1).view.read Val f (ix2 (0 : Fin 1) l)
      = m.view.read Val f (ix2 (0 : Fin 1) ⟨128 * w + l.val, h⟩) :=
  congrArg (m.view.read Val f) (by
    funext a
    apply Fin.ext
    match a with
    | ⟨0, _⟩ => rfl
    | ⟨1, _⟩ => change 128 * w + 1 * l.val = 128 * w + l.val; omega)

/-- Row `r` of window `w` of the result, at lane `l`. -/
theorem emb_window {M : ℕ} (w : ℕ) (inb) (r l : Fin 128) (h : 128 * w + r.val < M) :
    (Rect.unit (s := ⟨2, ![M, 128]⟩) ![128 * w, 0] (⟨2, ![128, 128]⟩ : Shape).size inb).emb (ix2 r l)
      = (ix2 ⟨128 * w + r.val, h⟩ l : (⟨2, ![M, 128]⟩ : Shape).Idx) := by
  funext a
  apply Fin.ext
  match a with
  | ⟨0, _⟩ => change 128 * w + 1 * r.val = 128 * w + r.val; omega
  | ⟨1, _⟩ => change 0 + 1 * l.val = l.val; omega

theorem setOn_window {M : ℕ} (m : Memref sig κ sp ⟨2, ![M, 128]⟩ e) (w : ℕ) (inb h1) :
    (m.slice (Rect.unit (s := ⟨2, ![M, 128]⟩) ![128 * w, 0] (⟨2, ![128, 128]⟩ : Shape).size inb) h1).view.set
      = m.view.setOn (rowsIn M (128 * w) (128 * (w + 1))) := by
  change (m.view.slice _).set = _
  rw [View.set_slice, set_window]; rfl

/-- Rows written through a window are read back there. -/
theorem read_write_window {M : ℕ} (m : Memref sig κ sp ⟨2, ![M, 128]⟩ e) (w : ℕ)
    (inb : ∀ a, (![128 * w, 0] : Fin 2 → ℕ) a + (⟨2, ![128, 128]⟩ : Shape).size a ≤ (⟨2, ![M, 128]⟩ : Shape).size a) (h1 : ∀ _, _ = 1)
    (f : m.view.ty.Contents Val) (g : (⟨2, ![128, 128]⟩ : Shape).Idx → Val e) (r l : Fin 128) (h : 128 * w + r.val < M) :
    m.view.read Val ((m.slice (Rect.unit (s := ⟨2, ![M, 128]⟩) ![128 * w, 0] (⟨2, ![128, 128]⟩ : Shape).size inb) h1).view.write Val f g Finset.univ)
      (ix2 ⟨128 * w + r.val, h⟩ l) = g (ix2 r l) := by
  rw [← emb_window w inb r l h]
  exact congrFun (View.read_write_univ (v := (m.slice (Rect.unit (s := ⟨2, ![M, 128]⟩) ![128 * w, 0] (⟨2, ![128, 128]⟩ : Shape).size inb) h1).view) f g) (ix2 r l)

/-- An index of a window, by its row within the window. -/
theorem exists_of_mem_rowsIn {M w : ℕ} {x : (⟨2, ![M, 128]⟩ : Shape).Idx} (hx : x ∈ rowsIn M (128 * w) (128 * (w + 1))) :
    ∃ (r l : Fin 128) (h : 128 * w + r.val < M), x = ix2 ⟨128 * w + r.val, h⟩ l := by
  obtain ⟨h1, h2⟩ := mem_rowsIn.mp hx
  have hlt : (x 0).val < M := (x 0).isLt
  refine ⟨⟨(x 0).val - 128 * w, by omega⟩, x 1, by simp only; omega, ?_⟩
  refine (eq_ix2 x).trans (congrArg (fun y => ix2 y (x 1)) (Fin.ext ?_))
  simp only; omega

/-- The whole of an array of rows, sliced whole, reads as itself, and is all of it. -/
theorem emb_all {N : ℕ} (inb) (x : (⟨2, ![N, 128]⟩ : Shape).Idx) :
    (Rect.unit (s := ⟨2, ![N, 128]⟩) ![0, 0] (⟨2, ![N, 128]⟩ : Shape).size inb).emb x = x := by
  funext a
  apply Fin.ext
  match a with
  | ⟨0, _⟩ => change 0 + 1 * (x 0).val = (x 0).val; omega
  | ⟨1, _⟩ => change 0 + 1 * (x 1).val = (x 1).val; omega

theorem read_all {N : ℕ} (m : Memref sig κ sp ⟨2, ![N, 128]⟩ e)
    (inb : ∀ a, (![0, 0] : Fin 2 → ℕ) a + (⟨2, ![N, 128]⟩ : Shape).size a ≤ (⟨2, ![N, 128]⟩ : Shape).size a) (h1 : ∀ _, _ = 1)
    (f : m.view.ty.Contents Val) :
    (m.slice (Rect.unit (s := ⟨2, ![N, 128]⟩) ![0, 0] (⟨2, ![N, 128]⟩ : Shape).size inb) h1).view.read Val f = m.view.read Val f :=
  funext fun x => congrArg (m.view.read Val f) (emb_all inb x)

/-- One row of 128 counted as a list of 128: the same elements. -/
theorem emb_flat (inb) (h : (⟨1, ![128]⟩ : Shape).numel = (⟨2, ![1, 128]⟩ : Shape).numel) (l : Fin 128) :
    (Rect.unit (s := ⟨2, ![1, 128]⟩) ![0, 0] (⟨2, ![1, 128]⟩ : Shape).size inb).emb (Shape.reshapeEquiv h (ix1 l)) = ix2 (0 : Fin 1) l := by
  rw [Shape.reshapeEquiv_eq_of_rowMajor (y := (ix2 (0 : Fin 1) l : (⟨2, ![1, 128]⟩ : Shape).Idx)) h (by
    rw [Shape.rowMajor_val_one, Shape.rowMajor_val_two]
    change 0 * 128 + l.val = l.val
    omega)]
  exact emb_all (N := 1) inb _

theorem read_flat (m : Memref sig κ sp ⟨2, ![1, 128]⟩ e)
    (inb : ∀ a, (![0, 0] : Fin 2 → ℕ) a + (⟨2, ![1, 128]⟩ : Shape).size a ≤ (⟨2, ![1, 128]⟩ : Shape).size a) (h1 : ∀ _, _ = 1) (h2)
    (f : m.view.ty.Contents Val) (l : Fin 128) :
    ((m.slice (Rect.unit (s := ⟨2, ![1, 128]⟩) ![0, 0] (⟨2, ![1, 128]⟩ : Shape).size inb) h1).squeeze ⟨1, ![128]⟩ h2).view.read Val f (ix1 l)
      = m.view.read Val f (ix2 (0 : Fin 1) l) :=
  congrArg (m.view.read Val f) (emb_flat inb _ l)

theorem set_all {N : ℕ} (v : View sig κ sp ⟨2, ![N, 128]⟩ e)
    (inb : ∀ a, (![0, 0] : Fin 2 → ℕ) a + (⟨2, ![N, 128]⟩ : Shape).size a ≤ (⟨2, ![N, 128]⟩ : Shape).size a) :
    (v.slice (Rect.unit (s := ⟨2, ![N, 128]⟩) ![0, 0] (⟨2, ![N, 128]⟩ : Shape).size inb)).set = v.set := by
  rw [View.set_slice]
  unfold View.set
  congr 1
  ext x
  rw [← emb_all inb x]
  simp only [Finset.mem_univ, iff_true]
  rw [← Rect.map_emb_univ]
  exact Finset.mem_map_of_mem _ (Finset.mem_univ _)

theorem set_flat (m : Memref sig κ sp ⟨2, ![1, 128]⟩ e)
    (inb : ∀ a, (![0, 0] : Fin 2 → ℕ) a + (⟨2, ![1, 128]⟩ : Shape).size a ≤ (⟨2, ![1, 128]⟩ : Shape).size a) (h1 : ∀ _, _ = 1) (h2) :
    ((m.slice (Rect.unit (s := ⟨2, ![1, 128]⟩) ![0, 0] (⟨2, ![1, 128]⟩ : Shape).size inb) h1).squeeze ⟨1, ![128]⟩ h2).view.set = m.view.set :=
  (View.set_reshape _ _).trans (set_all m.view inb)

end Views

/-! ## Contents known through a view -/

section Contents

variable {nD : ℕ} {τ : Topo} {sig : RefSig} {Ix : Type} [DecidableEq Ix] {Val : EltTy → Type} {Name : Type} [DecidableEq Name]
variable {U : Type} [URA U] {Lvl : Type}
variable {sp : Space} {s : Shape} {e : EltTy} (c : Thread nD τ) (v : View sig c.2.kind sp s e)

local notation "𝕄" => MT nD τ sig Ix Val Name U Lvl

/-- The elements of the view under the indices `M`, holding anything. -/
def Some (M : Finset s.Idx) : sProp 𝕄 := iprop(∃ f, v.loc c ↦[v.setOn M]{fullShare} f)

/-- The elements of the view under the indices `M`, holding `g` there. -/
def Holds (M : Finset s.Idx) (g : s.Idx → Val e) : sProp 𝕄 :=
  iprop(∃ f, (v.loc c ↦[v.setOn M]{fullShare} f) ∗ ⌜∀ x ∈ M, v.read Val f x = g x⌝)

variable {c v}

theorem Holds.some {M : Finset s.Idx} {g : s.Idx → Val e} : (Holds c v M g : sProp 𝕄) ⊢ Some c v M := by
  unfold Holds Some
  iintro ⟨%f, H, -⟩
  iexists f; iexact H

theorem Holds.mono {M : Finset s.Idx} {g g' : s.Idx → Val e} (h : ∀ x ∈ M, g x = g' x) :
    (Holds c v M g : sProp 𝕄) ⊢ Holds c v M g' := by
  unfold Holds
  iintro ⟨%f, H, %hf⟩
  iexists f; iframe H; ipureintro
  exact fun x hx => (hf x hx).trans (h x hx)

/-- Contents that agree under the view's index are the same elements. -/
theorem eq_of_read {f f' : Buf Val (v.loc c)} {x : s.Idx} (h : v.read Val f x = v.read Val f' x) : f (v.emb x) = f' (v.emb x) :=
  (cast_inj (congrArg Val v.elt_eq)).mp h

theorem Holds.join {M M' M'' : Finset s.Idx} {g : s.Idx → Val e} (hd : Disjoint M M') (hu : M ∪ M' = M'') :
    iprop(Holds c v M g ∗ Holds c v M' g) ⊢ (Holds c v M'' g : sProp 𝕄) := by
  subst hu
  have hd' : Disjoint (v.setOn M) (v.setOn M') := (Finset.disjoint_map _).mpr hd
  have hu' : v.setOn (M ∪ M') = v.setOn M ∪ v.setOn M' := Finset.map_union _ _
  unfold Holds
  have e (f f' : Buf Val (v.loc c)) : iprop((v.loc c ↦[v.setOn M]{fullShare} f) ∗ (v.loc c ↦[v.setOn M']{fullShare} f'))
      ⊢ (v.loc c ↦[v.setOn (M ∪ M')]{fullShare} (v.write Val f (v.read Val f') M') : sProp 𝕄) := by
    have e1 : (v.loc c ↦[v.setOn M]{fullShare} f : sProp 𝕄) = v.loc c ↦[v.setOn M]{fullShare} (v.write Val f (v.read Val f') M') :=
      pointsTo_congr fun i hi => (View.write_of_not_mem f _ M' (Finset.disjoint_left.mp hd' hi)).symm
    have e2 : (v.loc c ↦[v.setOn M']{fullShare} f' : sProp 𝕄) = v.loc c ↦[v.setOn M']{fullShare} (v.write Val f (v.read Val f') M') :=
      pointsTo_congr fun i hi => by
        obtain ⟨x, hx, rfl⟩ := Finset.mem_map.mp hi
        exact eq_of_read (View.read_write_of_mem f _ hx).symm
    rw [e1, e2, hu']
    exact (pointsTo_union hd').2
  iintro ⟨⟨%f, H, %hf⟩, ⟨%f', H', %hf'⟩⟩
  iexists (v.write Val f (v.read Val f') M')
  isplitl [H H']
  · iapply e f f'
    isplitl [H]
    · iexact H
    · iexact H'
  · ipureintro
    intro x hx
    by_cases hx' : x ∈ M'
    · rw [View.read_write_of_mem f _ hx']; exact hf' x hx'
    · have hxM : x ∈ M := (Finset.mem_union.mp hx).resolve_right hx'
      rw [View.read_apply, View.write_of_not_mem f _ M' (fun h => hx' ((View.mem_setOn _).mp h)), ← View.read_apply]
      exact hf x hxM

theorem Some.split {M M' M'' : Finset s.Idx} (hd : Disjoint M M') (hu : M ∪ M' = M'') :
    (Some c v M'' : sProp 𝕄) ⊢ iprop(Some c v M ∗ Some c v M') := by
  subst hu
  have hd' : Disjoint (v.setOn M) (v.setOn M') := (Finset.disjoint_map _).mpr hd
  have hu' : v.setOn (M ∪ M') = v.setOn M ∪ v.setOn M' := Finset.map_union _ _
  unfold Some
  rw [hu']
  iintro ⟨%f, H⟩
  ihave H := (pointsTo_union hd').1 $$ H
  icases H with ⟨H, H'⟩
  isplitl [H]
  · iexists f; iexact H
  · iexists f; iexact H'

theorem Holds.empty {g : s.Idx → Val e} (f : Buf Val (v.loc c)) : (BI.emp : sProp 𝕄) ⊢ Holds c v ∅ g := by
  unfold Holds
  iintro -
  iexists f
  isplitl []
  · change _ ⊢ (v.loc c ↦[∅]{fullShare} f)
    rw [pointsTo_empty]
  · ipureintro; intro x hx; exact absurd hx (Finset.notMem_empty x)

end Contents

/-! ## The tile's buffers and what it holds of them -/

/-- What one tile's pipelined gather works on: the table, the index array and the result in HBM, the two double buffers
    in the tile's memory, a pair of semaphores for each, and the gather's own semaphore. -/
structure Bufs (sig : RefSig) (N M : ℕ) where
  /-- The table, `N` rows. -/
  tab : Memref sig .scVector .hbm ⟨2, ![N, 128]⟩ .f32
  /-- The index array, `M` words. -/
  idx : Memref sig .scVector .hbm ⟨2, ![1, M]⟩ .i32
  /-- The result, `M` rows. -/
  out : Memref sig .scVector .hbm ⟨2, ![M, 128]⟩ .f32
  /-- The index buffer. -/
  ibuf : Memref sig .scVector .vmem ⟨3, ![2, 1, 128]⟩ .i32
  /-- The row buffer. -/
  obuf : Memref sig .scVector .vmem ⟨3, ![2, 128, 128]⟩ .f32
  /-- The index buffer's semaphores. -/
  isem : DmaSems sig ⟨1, ![2]⟩
  /-- The row buffer's semaphores. -/
  osem : DmaSems sig ⟨1, ![2]⟩
  /-- The gather's semaphore. -/
  gsem : DmaSem sig

/-- The rows of the table `tv` at the words `iv`: row `r` is row `iv r` of the table (`d` where the word names none). -/
def gathered {F : FTy → Type} {N M : ℕ} (d : Elt F .f32) (tv : (⟨2, ![N, 128]⟩ : Shape).Idx → Elt F .f32) (iv : (⟨2, ![1, M]⟩ : Shape).Idx → Elt F .i32) :
    (⟨2, ![M, 128]⟩ : Shape).Idx → Elt F .f32 :=
  fun x => if h : (iv (ix2 (0 : Fin 1) (x 0))).toNat < N then tv (ix2 ⟨(iv (ix2 (0 : Fin 1) (x 0))).toNat, h⟩ (x 1)) else d

/-- Row `r` of a gather's payload is the table's row at entry `r` of the list. -/
theorem gatherPayload_rows {F : FTy → Type} {N n : ℕ} (hg : (⟨2, ![N, 128]⟩ : Shape).Gathers 0 ⟨2, ![128, 128]⟩) (hn)
    {list : (⟨1, ![128]⟩ : Shape).Idx → Elt F .i32} (hin : ∀ x, (list x).toNat < N) (tv : (⟨2, ![N, 128]⟩ : Shape).Idx → Elt F .f32) (r l : Fin 128)
    (h : n < N) (hr : (list (ix1 r)).toNat = n) :
    SparseCore.gatherPayload hg tv (SparseCore.rows list hn hin) (ix2 r l) = tv (ix2 ⟨n, h⟩ l) := by
  refine congrArg tv (funext fun a => Fin.ext ?_)
  match a with
  | ⟨0, _⟩ =>
    refine (congrArg Fin.val (Shape.Gathers.idx_axis hg _ (ix2 r l))).trans ?_
    refine (congrArg (fun x => (list x).toNat) ?_).trans hr
    rw [Equiv.symm_apply_eq]
    exact Fin.ext (Shape.rowMajor_val_one (d := ![128]) (ix1 r)).symm
  | ⟨1, _⟩ => exact Shape.Gathers.idx_of_ne hg _ (ix2 r l) ⟨1, Nat.one_lt_two⟩ one_ne_zero

section Rules

variable {nD : ℕ} {τ : Topo} {sig : RefSig} {Ix : Type} [DecidableEq Ix] {F : FTy → Type} {Name : Type} [DecidableEq Name]
variable {U : Type} [URA U] {Lvl : Type} [Preorder Lvl] {Λ : Labels} {defs : Defs nD τ sig (Elt F) Λ}
variable (EC : UEmb Counters (MT nD τ sig Ix (Elt F) Name U Lvl)) (𝒱 : Variants) (bd : Option 𝒱.V)
variable {N M : ℕ} (B : Bufs sig N M) (d : Dev nD) (sc : Fin τ.nSC) (su : Fin τ.nSub) (ι : Ix)

local notation "𝕄" => MT nD τ sig Ix (Elt F) Name U Lvl

/-- The tile's thread. -/
abbrev tile : Thread nD τ := (d, .scVector sc su)

/-- What the transfer of a window of index words credits. -/
abbrev iCredit : ℕ := sig.dmaCredit .scVector (Kind.scVector.table .vmem) B.ibuf.view.buf ⟨2, ![1, 128]⟩ .i32
/-- What the transfer of a window of rows out of the row buffer credits. -/
abbrev oCredit : ℕ := sig.dmaCredit .scVector (Kind.scVector.table .hbm) B.out.view.buf ⟨2, ![128, 128]⟩ .f32
/-- What the wait for a gathered window takes. -/
abbrev gCredit : ℕ := sig.dmaCredit .scVector (Kind.scVector.table .vmem) B.obuf.view.buf ⟨2, ![128, 128]⟩ .f32

variable (qs : Fin 2 → PosShare TreeShare) (fi : Buf (Elt F) (B.idx.view.loc (tile d sc su)))
variable (G : (⟨2, ![M, 128]⟩ : Shape).Idx → Elt F .f32)

/-- The words of window `w`, at slot `b` of the index buffer. -/
def winWords (b : Fin 2) (w : ℕ) (f : B.ibuf.view.ty.Contents (Elt F)) : Prop :=
  ∀ (l : Fin 128) (h : 128 * w + l.val < M),
    B.ibuf.view.read (Elt F) f (ix3 b (0 : Fin 1) l) = B.idx.view.read (Elt F) fi (ix2 (0 : Fin 1) ⟨128 * w + l.val, h⟩)

/-- The rows of window `w`, at slot `b` of the row buffer. -/
def winRows (b : Fin 2) (w : ℕ) (f : B.obuf.view.ty.Contents (Elt F)) : Prop :=
  ∀ (r : Fin 128) (l : Fin 128) (h : 128 * w + r.val < M),
    B.obuf.view.read (Elt F) f (ix3 b r l) = G (ix2 ⟨128 * w + r.val, h⟩ l)

/-- Slot `b` of the index buffer at contents `f`. -/
abbrev iSlot (b : Fin 2) (f : Buf (Elt F) (B.ibuf.view.loc (tile d sc su))) : sProp 𝕄 :=
  B.ibuf.view.loc (tile d sc su) ↦[B.ibuf.view.setOn (slotOf 1 b)]{fullShare} f

/-- Slot `b` of the row buffer at contents `f`. -/
abbrev oSlot (b : Fin 2) (f : Buf (Elt F) (B.obuf.view.loc (tile d sc su))) : sProp 𝕄 :=
  B.obuf.view.loc (tile d sc su) ↦[B.obuf.view.setOn (slotOf 128 b)]{fullShare} f

/-- Slot `b` of the index buffer, free: with it a share of the index array to fill it from, and its semaphore at zero. -/
def IFree (b : Fin 2) : sProp 𝕄 :=
  iprop((∃ f, iSlot B d sc su b f) ∗ (B.idx.view.loc (tile d sc su) ↦{qs b} fi) ∗ semVal (tile d sc su, .dma (semAt B.isem b)) 0)

/-- Slot `b` of the index buffer, holding window `w`. -/
def IFull (b : Fin 2) (w : ℕ) : sProp 𝕄 :=
  iprop((∃ f, iSlot B d sc su b f ∗ ⌜winWords B d sc su fi b w f⌝) ∗ (B.idx.view.loc (tile d sc su) ↦{qs b} fi)
    ∗ semVal (tile d sc su, .dma (semAt B.isem b)) 0)

/-- Window `w` on its way into slot `b` of the index buffer. -/
def IFly (b : Fin 2) (w : ℕ) : sProp 𝕄 :=
  Transfers.Flight EC (tile d sc su) (.dma (semAt B.isem b)) ι (iCredit B)
    iprop((∃ f, iSlot B d sc su b f ∗ ⌜winWords B d sc su fi b w f⌝) ∗ (B.idx.view.loc (tile d sc su) ↦{qs b} fi))

/-- Slot `b` of the row buffer, free, its semaphore at zero. -/
def OFree (b : Fin 2) : sProp 𝕄 := iprop((∃ f, oSlot B d sc su b f) ∗ semVal (tile d sc su, .dma (semAt B.osem b)) 0)

/-- Slot `b` of the row buffer, holding the rows of window `w`. -/
def OFull (b : Fin 2) (w : ℕ) : sProp 𝕄 :=
  iprop((∃ f, oSlot B d sc su b f ∗ ⌜winRows B G b w f⌝) ∗ semVal (tile d sc su, .dma (semAt B.osem b)) 0)

/-- The rows of window `w` on their way out of slot `b` of the row buffer. -/
def OFly (b : Fin 2) (w : ℕ) : sProp 𝕄 :=
  Transfers.Flight EC (tile d sc su) (.dma (semAt B.osem b)) ι (oCredit B)
    iprop(Holds (tile d sc su) B.out.view (rowsIn M (128 * w) (128 * (w + 1))) G ∗ ∃ f, oSlot B d sc su b f)

/-- What the tile owes, and the waits it has made beside those of `W₀`: all at level `ι`. -/
def Owes (O : CellTallies nD τ sig Ix) (W₀ : Waits sig Ix) : sProp 𝕄 :=
  iprop(∃ W, owes (tile d sc su) O W ∗ ⌜∀ p ∈ W, p ∈ W₀ ∨ p.2 = ι⌝)

variable {Q : PUnit → sProp (MT nD τ sig Ix (Elt F) Name U Lvl)} {O : CellTallies nD τ sig Ix} {W₀ : Waits sig Ix}
variable {B d sc su ι qs fi G}

/-- A wait of a transfer in flight on the semaphore. -/
theorem wait [EC.LandsIn (upEmb : UEmb _ 𝕄)] {sp sp' : Space} {s s' : Shape} {e e' : EltTy} {srcw : Memref sig .scVector sp' s' e'} {dstw : Memref sig .scVector sp s e}
    {hsrc : srcw.view.WordExact} {hdst : dstw.view.WordExact} {sm sm' : DmaSem sig} {C : ℕ} {D : sProp 𝕄}
    (hsm : sm = sm') (hN : dstw.view.dmaCredit = C) :
    iprop(Transfers.MayWaits (tile d sc su) ι O ∗ Transfers.Flight EC (tile d sc su) (.dma sm') ι C D ∗ Owes d sc su ι O W₀
        ∗ (iprop(D ∗ semVal (tile d sc su, .dma sm') 0 ∗ Owes d sc su ι O W₀) -∗ Q ⟨⟩))
      ⊢ wp frame (wpE defs 𝒱 (tile d sc su) bd) Set.univ (Prog.lift (.waitDma2 sm srcw dstw hsrc hdst)) Q := by
  subst hsm
  unfold Owes
  iintro ⟨#Hmw, Hf, ⟨%W, HO, %hW⟩, HQ⟩
  ihave Hm := Transfers.MayWaits.elim (SemLoc.dma sm) $$ Hmw
  iapply (Transfers.wp_waitLocalO EC 𝒱 (tile d sc su) bd ι hN) $$ [Hf HO Hm]
  · iframe Hf HO Hm
  iintro ⟨HD, Hv, HO⟩
  rw [wp_ret]; imodintro
  iapply HQ
  iframe HD Hv
  iexists _
  iframe HO
  ipureintro
  intro p hp
  rcases Finset.mem_insert.mp hp with rfl | hp
  · exact .inr rfl
  · exact hW p hp

/-- Window `w` is started into slot `b` of the index buffer. -/
theorem fetch [Infinite Name] [EC.LandsIn (upEmb : UEmb _ 𝕄)] {b : Fin 2} {w : ℕ} {offd : Fin 3 → ℕ} {offs : Fin 2 → ℕ} {sm : DmaSem sig}
    (hsm : sm = semAt B.isem b) (hd : offd = ![b.val, 0, 0]) (hs : offs = ![0, 128 * w])
    {inbd inbs h1 h2 h3 hsrc hdst hsem} :
    iprop(IFree B d sc su qs fi b ∗ (IFly EC B d sc su ι qs fi b w -∗ Q ⟨⟩))
      ⊢ wp frame (wpE defs 𝒱 (tile d sc su) bd) Set.univ
        (Prog.lift (.enqueueDma (B.idx.slice (Rect.unit (s := ⟨2, ![1, M]⟩) offs (⟨2, ![1, 128]⟩ : Shape).size inbs) h1)
          (.here ((B.ibuf.slice (Rect.unit (s := ⟨3, ![2, 1, 128]⟩) offd (⟨3, ![1, 1, 128]⟩ : Shape).size inbd) h2).squeeze ⟨2, ![1, 128]⟩ h3))
          (.dma sm) hsrc hdst hsem)) Q := by
  subst hsm; subst hd; subst hs
  unfold IFree IFly
  iintro ⟨⟨⟨%f, Hf⟩, Hi, Hv⟩, HQ⟩
  iapply (Transfers.wp_dmaFromWhole EC 𝒱 (tile d sc su) bd ι (iCredit B) rfl (sig.dmaCredit_pos _ _ _ _ _ (by decide))
    (setOn_slot B.ibuf b _ _ _).subset) $$ [Hf Hi Hv]
  · iframe Hi Hf Hv
  iintro Hfl
  rw [wp_ret]; imodintro
  iapply HQ
  iapply (Transfers.Flight_mono EC (tile d sc su) ?_) $$ Hfl
  iintro ⟨Hf, Hi⟩
  iframe Hi
  iexists _
  iframe Hf
  ipureintro
  intro l h
  rw [← read_slot B.ibuf b inbd h2 h3 _ (0 : Fin 1) l, View.read_write_univ]
  exact read_words B.idx w _ _ fi l h

/-- The rows of window `w` are started out of slot `b` of the row buffer into the result. -/
theorem put [Infinite Name] [EC.LandsIn (upEmb : UEmb _ 𝕄)] {b : Fin 2} {w hi : ℕ} {offs : Fin 3 → ℕ} {offd : Fin 2 → ℕ} {sm : DmaSem sig}
    (hsm : sm = semAt B.osem b) (hs : offs = ![b.val, 0, 0]) (hd : offd = ![128 * w, 0]) (hhi : w < hi) (hM : 128 * hi ≤ M)
    {inbd inbs h1 h2 h3 hsrc hdst hsem} :
    iprop(OFull B d sc su G b w ∗ Some (tile d sc su) B.out.view (rowsIn M (128 * w) (128 * hi))
        ∗ (iprop(OFly EC B d sc su ι G b w ∗ Some (tile d sc su) B.out.view (rowsIn M (128 * (w + 1)) (128 * hi))) -∗ Q ⟨⟩))
      ⊢ wp frame (wpE defs 𝒱 (tile d sc su) bd) Set.univ
        (Prog.lift (.enqueueDma ((B.obuf.slice (Rect.unit (s := ⟨3, ![2, 128, 128]⟩) offs (⟨3, ![1, 128, 128]⟩ : Shape).size inbs) h2).squeeze ⟨2, ![128, 128]⟩ h3)
          (.here (B.out.slice (Rect.unit (s := ⟨2, ![M, 128]⟩) offd (⟨2, ![128, 128]⟩ : Shape).size inbd) h1))
          (.dma sm) hsrc hdst hsem)) Q := by
  subst hsm; subst hd; subst hs
  unfold OFull OFly oSlot
  iintro ⟨⟨⟨%f, Hf, %hf⟩, Hv⟩, Ho, HQ⟩
  ihave Ho := (Some.split (M := rowsIn M (128 * w) (128 * (w + 1))) (M' := rowsIn M (128 * (w + 1)) (128 * hi))
    (rowsIn_disjoint le_rfl) (rowsIn_union (by omega) (by omega))) $$ Ho
  icases Ho with ⟨Ho, Hrest⟩
  unfold Some
  icases Ho with ⟨%fo, Ho⟩
  rw [← setOn_slot B.obuf b inbs h2 h3, ← setOn_window B.out w inbd h1]
  iapply (Transfers.wp_dmaLocal EC 𝒱 (tile d sc su) bd ι (oCredit B) rfl (sig.dmaCredit_pos _ _ _ _ _ (by decide))
    subset_rfl) $$ [Ho Hf Hv]
  · iframe Hf Ho Hv
  iintro Hfl
  rw [wp_ret]; imodintro
  iapply HQ
  iframe Hrest
  iapply (Transfers.Flight_mono EC (tile d sc su) ?_) $$ Hfl
  iintro ⟨Ho, Hf⟩
  isplitl [Ho]
  · unfold Holds
    iexists _
    rw [← setOn_window B.out w inbd h1]
    iframe Ho
    ipureintro
    intro x hx
    obtain ⟨r, l, h, rfl⟩ := exists_of_mem_rowsIn hx
    exact (read_write_window B.out w inbd h1 _ _ r l h).trans ((read_slot B.obuf b _ _ _ _ _ _).trans (hf _ _ _))
  · iexists _; iexact Hf

/-- The rows of window `w` on their way from the table into slot `b'` of the row buffer, named by slot `b` of the index
    buffer: with them come back the table's share and the index buffer's slot. -/
def GFly (qt : PosShare TreeShare) (ft : Buf (Elt F) (B.tab.view.loc (tile d sc su))) (b b' : Fin 2) (w : ℕ) : sProp 𝕄 :=
  Transfers.Flight EC (tile d sc su) (.dma B.gsem) ι (gCredit B)
    iprop((∃ f, oSlot B d sc su b' f ∗ ⌜winRows B G b' w f⌝) ∗ (B.tab.view.loc (tile d sc su) ↦[B.tab.view.set]{qt} ft) ∗ ∃ f, iSlot B d sc su b f)

/-- A gather of 128 rows of a table named by a row of 128 index words: it delivers, at the wait, the rows of those numbers. -/
theorem gatherRows [Infinite Name] [EC.LandsIn (upEmb : UEmb _ (MT nD τ sig Ix (Elt F) Name U Lvl))]
    (mt : Memref sig .scVector .hbm ⟨2, ![N, 128]⟩ .f32) (mo : Memref sig .scVector .vmem ⟨2, ![128, 128]⟩ .f32) (ml : Memref sig .scVector .vmem ⟨2, ![1, 128]⟩ .i32)
    {qt : PosShare TreeShare} {ft : Buf (Elt F) (mt.view.loc (tile d sc su))} {fo : Buf (Elt F) (mo.view.loc (tile d sc su))}
    {fl : Buf (Elt F) (ml.view.loc (tile d sc su))} {sm : DmaSem sig} {C : ℕ} {So Sl}
    (hSo : mo.view.set = So) (hSl : ml.view.set = Sl)
    (hin : ∀ r : Fin 128, (ml.view.read (Elt F) fl (ix2 (0 : Fin 1) r)).toNat < N) {inbl inbt h5 h6 h8 hg hn hp hsrc he hsp hr}
    (hN : ∑ j, (mo.slice ((⟨2, ![128, 128]⟩ : Shape).rowRect (Shape.Gathers.axis' hg) j) (Shape.stride_rowRect _ _)).view.dmaCredit = C) :
    iprop((mt.view.loc (tile d sc su) ↦[mt.view.set]{qt} ft) ∗ (mo.view.loc (tile d sc su) ↦[So]{fullShare} fo)
        ∗ (ml.view.loc (tile d sc su) ↦[Sl]{fullShare} fl) ∗ semVal (tile d sc su, .dma sm) 0
        ∗ (Transfers.Flight EC (tile d sc su) (.dma sm) ι C
            iprop((∃ f, (mo.view.loc (tile d sc su) ↦[So]{fullShare} f)
                ∗ ⌜∀ r l, mo.view.read (Elt F) f (ix2 r l) = mt.view.read (Elt F) ft (ix2 ⟨(ml.view.read (Elt F) fl (ix2 (0 : Fin 1) r)).toNat, hin r⟩ l)⌝)
              ∗ (mt.view.loc (tile d sc su) ↦[mt.view.set]{qt} ft) ∗ (ml.view.loc (tile d sc su) ↦[Sl]{fullShare} fl)) -∗ Q ⟨⟩))
      ⊢ wp frame (wpE defs 𝒱 (tile d sc su) bd) Set.univ
        (SparseCore.enqueueIndirectGather hp (mt.slice (Rect.unit (s := ⟨2, ![N, 128]⟩) ![0, 0] (⟨2, ![N, 128]⟩ : Shape).size inbt) h8) mo (a := 0) hg
          ((ml.slice (Rect.unit (s := ⟨2, ![1, 128]⟩) ![0, 0] (⟨2, ![1, 128]⟩ : Shape).size inbl) h5).squeeze ⟨1, ![128]⟩ h6)
          hn sm hsrc he hsp hr) Q := by
  subst hSo hSl
  have hl (x : (⟨1, ![128]⟩ : Shape).Idx) :
      ((ml.slice (Rect.unit (s := ⟨2, ![1, 128]⟩) ![0, 0] (⟨2, ![1, 128]⟩ : Shape).size inbl) h5).squeeze ⟨1, ![128]⟩ h6).view.read (Elt F) fl x
        = ml.view.read (Elt F) fl (ix2 (0 : Fin 1) (x 0)) :=
    (congrArg _ (eq_ix1 x)).trans (read_flat ml inbl h5 h6 fl (x 0))
  have hlin (x : (⟨1, ![128]⟩ : Shape).Idx) :
      (((ml.slice (Rect.unit (s := ⟨2, ![1, 128]⟩) ![0, 0] (⟨2, ![1, 128]⟩ : Shape).size inbl) h5).squeeze ⟨1, ![128]⟩ h6).view.read (Elt F) fl x).toNat < N := by
    rw [hl x]; exact hin _
  rw [← bind_pure (SparseCore.enqueueIndirectGather _ _ _ _ _ _ _ _ _ _ _), ← set_flat ml inbl h5 h6, ← set_all mt.view inbt]
  iintro ⟨Ht, Ho, Hf, Hv, HQ⟩
  iapply (SparseCore.wp_indirectGatherLocal EC 𝒱 (tile d sc su) bd ι C hN (by decide) hlin) $$ [Hf Ho Ht Hv]
  · iframe Ht Ho Hf Hv
  iintro Hfl
  rw [wp_pure]; imodintro
  iapply HQ
  iapply (Transfers.Flight_mono EC (tile d sc su) ?_) $$ Hfl
  iintro ⟨Ho, Ht, Hf⟩
  iframe Ht Hf
  iexists _
  iframe Ho
  ipureintro
  intro r l
  rw [View.read_write_univ, read_all]
  exact gatherPayload_rows hg hn hlin _ r l _ (congrArg BitVec.toNat (hl (ix1 r)))

/-- The gather of window `w` is started: its index words in slot `b` of the index buffer, its rows to slot `b'` of the
    row buffer. -/
theorem gather [Infinite Name] [EC.LandsIn (upEmb : UEmb _ (MT nD τ sig Ix (Elt F) Name U Lvl))] {b b' : Fin 2} {w : ℕ}
    {qt : PosShare TreeShare} {ft : Buf (Elt F) (B.tab.view.loc (tile d sc su))} {dflt : Elt F .f32} {offi offo : Fin 3 → ℕ} {sm : DmaSem sig}
    (hG : G = gathered dflt (B.tab.view.read (Elt F) ft) (B.idx.view.read (Elt F) fi))
    (hin : ∀ x, (B.idx.view.read (Elt F) fi x).toNat < N) (hw : 128 * w + 128 ≤ M)
    (hsm : sm = B.gsem) (hi : offi = ![b.val, 0, 0]) (ho : offo = ![b'.val, 0, 0])
    {inbi inbo inbl inbt h1 h2 h3 h4 h5 h6 h8 hg hn hp hsrc he hsp hr}
    (hN : ∑ j, (((B.obuf.slice (Rect.unit (s := ⟨3, ![2, 128, 128]⟩) offo (⟨3, ![1, 128, 128]⟩ : Shape).size inbo) h1).squeeze ⟨2, ![128, 128]⟩ h2).slice
      ((⟨2, ![128, 128]⟩ : Shape).rowRect (Shape.Gathers.axis' hg) j) (Shape.stride_rowRect _ _)).view.dmaCredit = gCredit B) :
    iprop(IFull B d sc su qs fi b w ∗ OFree B d sc su b' ∗ (B.tab.view.loc (tile d sc su) ↦[B.tab.view.set]{qt} ft) ∗ semVal (tile d sc su, .dma B.gsem) 0
        ∗ (iprop((B.idx.view.loc (tile d sc su) ↦{qs b} fi) ∗ semVal (tile d sc su, .dma (semAt B.isem b)) 0
            ∗ semVal (tile d sc su, .dma (semAt B.osem b')) 0 ∗ GFly EC (B := B) (d := d) (sc := sc) (su := su) (ι := ι) (G := G) qt ft b b' w) -∗ Q ⟨⟩))
      ⊢ wp frame (wpE defs 𝒱 (tile d sc su) bd) Set.univ
        (SparseCore.enqueueIndirectGather hp
          (B.tab.slice (Rect.unit (s := ⟨2, ![N, 128]⟩) ![0, 0] (⟨2, ![N, 128]⟩ : Shape).size inbt) h8)
          ((B.obuf.slice (Rect.unit (s := ⟨3, ![2, 128, 128]⟩) offo (⟨3, ![1, 128, 128]⟩ : Shape).size inbo) h1).squeeze ⟨2, ![128, 128]⟩ h2)
          (a := 0) hg
          ((((B.ibuf.slice (Rect.unit (s := ⟨3, ![2, 1, 128]⟩) offi (⟨3, ![1, 1, 128]⟩ : Shape).size inbi) h3).squeeze ⟨2, ![1, 128]⟩ h4).slice
            (Rect.unit (s := ⟨2, ![1, 128]⟩) ![0, 0] (⟨2, ![1, 128]⟩ : Shape).size inbl) h5).squeeze ⟨1, ![128]⟩ h6)
          hn sm hsrc he hsp hr) Q := by
  subst hsm hi ho hG
  unfold IFull OFree iSlot oSlot GFly
  iintro ⟨⟨⟨%f, Hf, %hf⟩, Hi, Hvi⟩, ⟨⟨%fo, Ho⟩, Hvo⟩, Ht, Hv, HQ⟩
  have hl (r : Fin 128) : ((B.ibuf.slice (Rect.unit (s := ⟨3, ![2, 1, 128]⟩) ![b.val, 0, 0] (⟨3, ![1, 1, 128]⟩ : Shape).size inbi) h3).squeeze ⟨2, ![1, 128]⟩ h4).view.read
        (Elt F) f (ix2 (0 : Fin 1) r) = B.idx.view.read (Elt F) fi (ix2 (0 : Fin 1) ⟨128 * w + r.val, by omega⟩) :=
    (read_slot B.ibuf b inbi h3 h4 f 0 r).trans (hf r (by omega))
  iapply (gatherRows EC 𝒱 bd B.tab
    ((B.obuf.slice (Rect.unit (s := ⟨3, ![2, 128, 128]⟩) ![b'.val, 0, 0] (⟨3, ![1, 128, 128]⟩ : Shape).size inbo) h1).squeeze ⟨2, ![128, 128]⟩ h2)
    ((B.ibuf.slice (Rect.unit (s := ⟨3, ![2, 1, 128]⟩) ![b.val, 0, 0] (⟨3, ![1, 1, 128]⟩ : Shape).size inbi) h3).squeeze ⟨2, ![1, 128]⟩ h4)
    (fl := f) (fo := fo) (ft := ft) (qt := qt) (sm := B.gsem) (setOn_slot B.obuf b' inbo h1 h2) (setOn_slot B.ibuf b inbi h3 h4) (fun r => by rw [hl r]; exact hin _) hN)
  isplitl [Ht]; · iexact Ht
  isplitl [Ho]; · iexact Ho
  isplitl [Hf]; · iexact Hf
  isplitl [Hv]; · iexact Hv
  iintro Hfl
  iapply HQ
  iframe Hi Hvi Hvo
  iapply (Transfers.Flight_mono EC (tile d sc su) ?_) $$ Hfl
  iintro ⟨⟨%f', Ho, %hf'⟩, Ht, Hf⟩
  iframe Ht
  isplitl [Ho]
  · iexists _
    iframe Ho
    ipureintro
    intro r l h
    rw [← read_slot B.obuf b' inbo h1 h2 _ r l, hf' r l]
    unfold gathered
    have hr := hin (ix2 (0 : Fin 1) ⟨128 * w + r.val, h⟩)
    refine Eq.trans ?_ (dif_pos hr).symm
    exact congrArg (fun n => B.tab.view.read (Elt F) ft (ix2 n l)) (Fin.ext (congrArg BitVec.toNat (hl r)))
  · iexists _; iexact Hf

/-! ## A trip's state -/

/-- The slot of window number `t` of a tile's run. -/
abbrev slot (t : ℕ) : Fin 2 := ⟨t % 2, Nat.mod_lt _ Nat.two_pos⟩

theorem slot_add_two (t : ℕ) : slot (t + 1 + 1) = slot t := Fin.ext (Nat.add_mod_right t 2)

variable (B d sc su ι qs fi G)
variable (v T t : ℕ)

/-- Window `t` of the run of `T` from `v` on is on its way into its slot of the index buffer — or there is none, and the slot is free. -/
def Ahead : sProp (MT nD τ sig Ix (Elt F) Name U Lvl) :=
  if t < T then IFly EC B d sc su ι qs fi (slot t) (v + t) else IFree B d sc su qs fi (slot t)

/-- The rows of the window before `t` are on their way out of their slot of the row buffer — or there is none, and the slot is free. -/
def Behind : sProp (MT nD τ sig Ix (Elt F) Name U Lvl) :=
  if 0 < t then OFly EC B d sc su ι G (slot (t + 1)) (v + (t - 1)) else OFree B d sc su (slot (t + 1))

/-- The result's rows of the run that no transfer has been started for yet. -/
def Rest : sProp (MT nD τ sig Ix (Elt F) Name U Lvl) := Some (tile d sc su) B.out.view (rowsIn M (128 * (v + t)) (128 * (v + T)))

/-- The result's rows of the run's first `t` windows, holding what they are to hold. -/
def Done : sProp (MT nD τ sig Ix (Elt F) Name U Lvl) := Holds (tile d sc su) B.out.view (rowsIn M (128 * v) (128 * (v + t))) G

/-- What a tile holds at the start of trip `t`. -/
def State (qt : PosShare TreeShare) (ft : Buf (Elt F) (B.tab.view.loc (tile d sc su))) (O : CellTallies nD τ sig Ix) (W₀ : Waits sig Ix) :
    sProp (MT nD τ sig Ix (Elt F) Name U Lvl) :=
  iprop(Ahead EC B d sc su ι qs fi v T t ∗ IFree B d sc su qs fi (slot (t + 1)) ∗ OFree B d sc su (slot t) ∗ Behind EC B d sc su ι G v t
    ∗ Rest B d sc su v T t ∗ Done B d sc su G v (t - 1) ∗ (B.tab.view.loc (tile d sc su) ↦[B.tab.view.set]{qt} ft) ∗ semVal (tile d sc su, .dma B.gsem) 0
    ∗ Owes d sc su ι O W₀)

variable {B d sc su ι qs fi G v T t}

/-- The wait for a gather: the slot of the row buffer is full, that of the index buffer free. -/
theorem waitGather [EC.LandsIn (upEmb : UEmb _ (MT nD τ sig Ix (Elt F) Name U Lvl))] {b b' : Fin 2} {w : ℕ} {sp' : Space} {s s' : Shape} {e e' : EltTy}
    {qt : PosShare TreeShare} {ft : Buf (Elt F) (B.tab.view.loc (tile d sc su))}
    {srcw : Memref sig .scVector sp' s' e'} {dstw : Memref sig .scVector .vmem s e} {hsrc : srcw.view.WordExact} {hdst : dstw.view.WordExact} {sm : DmaSem sig}
    (hsm : sm = B.gsem) (hN : dstw.view.dmaCredit = gCredit B) :
    iprop(Transfers.MayWaits (tile d sc su) ι O ∗ (iprop((B.idx.view.loc (tile d sc su) ↦{qs b} fi) ∗ semVal (tile d sc su, .dma (semAt B.isem b)) 0
            ∗ semVal (tile d sc su, .dma (semAt B.osem b')) 0 ∗ GFly EC (B := B) (d := d) (sc := sc) (su := su) (ι := ι) (G := G) qt ft b b' w)) ∗ Owes d sc su ι O W₀
        ∗ (iprop(IFree B d sc su qs fi b ∗ OFull B d sc su G b' w ∗ (B.tab.view.loc (tile d sc su) ↦[B.tab.view.set]{qt} ft) ∗ semVal (tile d sc su, .dma B.gsem) 0
          ∗ Owes d sc su ι O W₀) -∗ Q ⟨⟩))
      ⊢ wp frame (wpE defs 𝒱 (tile d sc su) bd) Set.univ (SparseCore.waitIndirectGather sm srcw dstw hsrc hdst) Q := by
  refine BIBase.Entails.trans ?_ (wait EC 𝒱 bd (ι := ι) (O := O) (W₀ := W₀)
    (D := iprop((∃ f, oSlot B d sc su b' f ∗ ⌜winRows B G b' w f⌝) ∗ (B.tab.view.loc (tile d sc su) ↦[B.tab.view.set]{qt} ft) ∗ ∃ f, iSlot B d sc su b f)) hsm hN)
  unfold GFly IFree OFull
  iintro ⟨Hm, ⟨Hi, Hvi, Hvo, Hf⟩, HO, HQ⟩
  iframe Hm Hf HO
  iintro ⟨⟨Ho, Ht, Hs⟩, Hv, HO⟩
  iapply HQ
  iframe Hi Hvi Hvo Ho Ht Hs Hv HO

/-! ## A trip's steps, each under the kernel's guard of it -/

theorem step_fetch {c : BitVec 1} (hc : c = 1#1 ↔ t + 1 < T) {m : c = 1#1 → Prog (TpuEff nD τ sig (Elt F) Λ (.scVector sc su)) PUnit}
    (hm : ∀ (h : c = 1#1) (Q : PUnit → sProp (MT nD τ sig Ix (Elt F) Name U Lvl)), iprop(IFree B d sc su qs fi (slot (t + 1)) ∗ (IFly EC B d sc su ι qs fi (slot (t + 1)) (v + (t + 1)) -∗ Q ⟨⟩)) ⊢ wp frame (wpE defs 𝒱 (tile d sc su) bd) Set.univ (m h) Q) :
    iprop(IFree B d sc su qs fi (slot (t + 1)) ∗ (Ahead EC B d sc su ι qs fi v T (t + 1) -∗ Q ⟨⟩))
      ⊢ wp frame (wpE defs 𝒱 (tile d sc su) bd) Set.univ (if h : c = 1#1 then do m h; pure ⟨⟩ else pure ⟨⟩) Q := by
  unfold Ahead
  by_cases hb : t + 1 < T
  · rw [dif_pos (hc.mpr hb), if_pos hb, wp_bind]
    iintro ⟨Hf, HQ⟩
    iapply (hm (hc.mpr hb))
    iframe Hf
    iintro Hf
    rw [wp_pure]; imodintro
    iapply HQ; iexact Hf
  · rw [dif_neg fun h => hb (hc.mp h), if_neg hb, wp_pure]
    iintro ⟨Hf, HQ⟩
    imodintro
    iapply HQ; iexact Hf

theorem step_waitIn {c : BitVec 1} (hc : c = 1#1) (ht : t < T) {m : c = 1#1 → Prog (TpuEff nD τ sig (Elt F) Λ (.scVector sc su)) PUnit}
    (hm : ∀ (h : c = 1#1) (Q : PUnit → sProp (MT nD τ sig Ix (Elt F) Name U Lvl)) (D : sProp (MT nD τ sig Ix (Elt F) Name U Lvl)), iprop(Transfers.MayWaits (tile d sc su) ι O ∗ Transfers.Flight EC (tile d sc su) (.dma (semAt B.isem (slot t))) ι (iCredit B) D
        ∗ Owes d sc su ι O W₀ ∗ (iprop(D ∗ semVal (tile d sc su, .dma (semAt B.isem (slot t))) 0 ∗ Owes d sc su ι O W₀) -∗ Q ⟨⟩)) ⊢ wp frame (wpE defs 𝒱 (tile d sc su) bd) Set.univ (m h) Q) :
    iprop(Transfers.MayWaits (tile d sc su) ι O ∗ Ahead EC B d sc su ι qs fi v T t ∗ Owes d sc su ι O W₀
        ∗ (iprop(IFull B d sc su qs fi (slot t) (v + t) ∗ Owes d sc su ι O W₀) -∗ Q ⟨⟩))
      ⊢ wp frame (wpE defs 𝒱 (tile d sc su) bd) Set.univ (if h : c = 1#1 then do m h; pure ⟨⟩ else pure ⟨⟩) Q := by
  unfold Ahead IFly IFull
  rw [dif_pos hc, if_pos ht, wp_bind]
  iintro ⟨Hm, Hf, HO, HQ⟩
  iapply (hm hc)
  iframe Hm Hf HO
  iintro ⟨⟨Hf, Hi⟩, Hv, HO⟩
  rw [wp_pure]; imodintro
  iapply HQ
  iframe Hf Hi Hv HO

theorem step_put {c : BitVec 1} (hc : c = 1#1) {m : c = 1#1 → Prog (TpuEff nD τ sig (Elt F) Λ (.scVector sc su)) PUnit}
    (hm : ∀ (h : c = 1#1) (Q : PUnit → sProp (MT nD τ sig Ix (Elt F) Name U Lvl)), iprop(OFull B d sc su G (slot t) (v + t) ∗ Some (tile d sc su) B.out.view (rowsIn M (128 * (v + t)) (128 * (v + T)))
        ∗ (iprop(OFly EC B d sc su ι G (slot t) (v + t) ∗ Some (tile d sc su) B.out.view (rowsIn M (128 * (v + t + 1)) (128 * (v + T)))) -∗ Q ⟨⟩)) ⊢ wp frame (wpE defs 𝒱 (tile d sc su) bd) Set.univ (m h) Q) :
    iprop(OFull B d sc su G (slot t) (v + t) ∗ Rest B d sc su v T t
        ∗ (iprop(Behind EC B d sc su ι G v (t + 1) ∗ Rest B d sc su v T (t + 1)) -∗ Q ⟨⟩))
      ⊢ wp frame (wpE defs 𝒱 (tile d sc su) bd) Set.univ (if h : c = 1#1 then do m h; pure ⟨⟩ else pure ⟨⟩) Q := by
  unfold Behind Rest
  rw [dif_pos hc, if_pos (Nat.succ_pos t), wp_bind, slot_add_two]
  iintro ⟨Hf, Hr, HQ⟩
  iapply (hm hc)
  iframe Hf Hr
  iintro ⟨Hf, Hr⟩
  rw [wp_pure]; imodintro
  iapply HQ
  isplitl [Hf]; · iexact Hf
  iexact Hr

/-- Rows of the result that hold what they are to, and those of the window after them, are those of one window more. -/
theorem done_succ : iprop(Done B d sc su G v t ∗ Holds (tile d sc su) B.out.view (rowsIn M (128 * (v + t)) (128 * (v + t + 1))) G)
    ⊢ (Done B d sc su G v (t + 1) : sProp (MT nD τ sig Ix (Elt F) Name U Lvl)) :=
  Holds.join (rowsIn_disjoint le_rfl) (rowsIn_union (by omega) (by omega))

theorem step_waitOut {c : BitVec 1} (hc : c = 1#1 ↔ 0 < t) {m : c = 1#1 → Prog (TpuEff nD τ sig (Elt F) Λ (.scVector sc su)) PUnit}
    (hm : ∀ (h : c = 1#1) (Q : PUnit → sProp (MT nD τ sig Ix (Elt F) Name U Lvl)) (D : sProp (MT nD τ sig Ix (Elt F) Name U Lvl)), iprop(Transfers.MayWaits (tile d sc su) ι O ∗ Transfers.Flight EC (tile d sc su) (.dma (semAt B.osem (slot (t + 1)))) ι (oCredit B) D
        ∗ Owes d sc su ι O W₀ ∗ (iprop(D ∗ semVal (tile d sc su, .dma (semAt B.osem (slot (t + 1)))) 0 ∗ Owes d sc su ι O W₀) -∗ Q ⟨⟩)) ⊢ wp frame (wpE defs 𝒱 (tile d sc su) bd) Set.univ (m h) Q) :
    iprop(Transfers.MayWaits (tile d sc su) ι O ∗ Behind EC B d sc su ι G v t ∗ Done B d sc su G v (t - 1) ∗ Owes d sc su ι O W₀
        ∗ (iprop(OFree B d sc su (slot (t + 1)) ∗ Done B d sc su G v t ∗ Owes d sc su ι O W₀) -∗ Q ⟨⟩))
      ⊢ wp frame (wpE defs 𝒱 (tile d sc su) bd) Set.univ (if h : c = 1#1 then do m h; pure ⟨⟩ else pure ⟨⟩) Q := by
  unfold Behind OFly OFree
  by_cases hb : 0 < t
  · obtain ⟨n, rfl⟩ := Nat.exists_eq_add_of_lt hb
    rw [dif_pos (hc.mpr hb), if_pos hb, wp_bind]
    simp only [Nat.zero_add, Nat.add_sub_cancel]
    iintro ⟨Hm, Hf, Hd, HO, HQ⟩
    iapply (hm (hc.mpr hb))
    simp only [Nat.zero_add]
    iframe Hm Hf HO
    iintro ⟨⟨Hr, Hf⟩, Hv, HO⟩
    rw [wp_pure]; imodintro
    iapply HQ
    iframe Hf Hv HO
    iapply done_succ
    iframe Hd
    iexact Hr
  · obtain rfl : t = 0 := by omega
    rw [dif_neg fun h => hb (hc.mp h), if_neg hb, wp_pure]
    iintro ⟨-, Hf, Hd, HO, HQ⟩
    imodintro
    iapply HQ
    iframe Hf HO
    iexact Hd

end Rules

end Windows

end
-- ==== Proof.Tile.lean ====
/-
  What the two gathers' tiles have in common: how a checked and a guarded step run, and the tile's state before its first
  trip, after its last one, and between kernels.
-/
module

public import proofs.«01_k».proof.Proof.Windows
public import proofs.«01_k».proof.Proof.Gen.KernelIdeal.Skeleton

@[expose] public section

noncomputable section

namespace Tile

open Idealize.ShloMosaic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Windows

variable {F : FTy → Type} [FloatOps F] {Ix : Type} [DecidableEq Ix] {Name : Type} [DecidableEq Name] [Infinite Name]
variable {U : Type} [URA U] {Lvl : Type} [Preorder Lvl]
variable (EC : UEmb Counters (MT nD τ sig Ix (Elt F) Name U Lvl)) (𝒱 : Variants) (bd : Option 𝒱.V)

/-- A side condition that holds is passed. -/
theorem wp_check {p : Thread nD τ} {P : Prop} {dec : Decidable P} (h : P) {defs : Defs nD τ sig (Elt F) Λ₀} {Q : PLift P → sProp (MT nD τ sig Ix (Elt F) Name U Lvl)} :
    Q ⟨h⟩ ⊢ wp frame (wpE defs 𝒱 p bd) Set.univ (Prog.lift (TpuEff.assume P dec)) Q := by
  unfold Prog.lift
  rw [wp_assume_of 𝒱 p bd Set.univ h, wp_ret]
  iintro HQ
  imodintro
  iexact HQ

/-- A guarded step and what follows it, from the guarded step alone. -/
theorem wp_guarded {p : Thread nD τ} {α : Type} {P : sProp (MT nD τ sig Ix (Elt F) Name U Lvl)} {c : BitVec 1} {m : c = 1#1 → Prog (TpuEff nD τ sig (Elt F) Λ₀ p.2) PUnit}
    {r : Prog (TpuEff nD τ sig (Elt F) Λ₀ p.2) α} {Q : α → sProp (MT nD τ sig Ix (Elt F) Name U Lvl)} {defs : Defs nD τ sig (Elt F) Λ₀}
    (H : P ⊢ wp frame (wpE defs 𝒱 p bd) Set.univ (if h : c = 1#1 then do m h; (pure ⟨⟩ : Prog _ PUnit) else pure ⟨⟩) fun _ => wp frame (wpE defs 𝒱 p bd) Set.univ r Q) :
    P ⊢ wp frame (wpE defs 𝒱 p bd) Set.univ (if h : c = 1#1 then m h >>= fun _ => r else r) Q := by
  rw [← wp_bind (k := fun _ => r)] at H
  refine H.trans (Entails.of_eq (congrArg (fun x => wp frame (wpE defs 𝒱 p bd) Set.univ x Q) ?_))
  split
  · simp only [bind_assoc, pure_bind]
  · simp only [pure_bind]

variable {N M : ℕ} (B : Bufs sig N M) (d : Dev nD) (sc : Fin τ.nSC) (su : Fin τ.nSub) (ι : Ix) (qs : Fin 2 → PosShare TreeShare)
variable (fi : Buf (Elt F) (B.idx.view.loc (tile d sc su))) (v T : ℕ)
variable (qt : PosShare TreeShare) (ft : Buf (Elt F) (B.tab.view.loc (tile d sc su))) (O : CellTallies nD τ sig Ix) (W₀ : Waits sig Ix)

local notation "𝕄" => MT nD τ sig Ix (Elt F) Name U Lvl

/-- What the gather of 128 rows into a slot credits, row by row, is what its wait takes. -/
def RowCredits {N M : ℕ} (B : Bufs sig N M) : Prop :=
  ∀ (offo : Fin 3 → ℕ) (inbo) (h1) (h2) (hg : (⟨2, ![N, 128]⟩ : Shape).Gathers 0 ⟨2, ![128, 128]⟩),
    ∑ j, (((B.obuf.slice (Rect.unit (s := ⟨3, ![2, 128, 128]⟩) offo (⟨3, ![1, 128, 128]⟩ : Shape).size inbo) h1).squeeze ⟨2, ![128, 128]⟩ h2).slice
      ((⟨2, ![128, 128]⟩ : Shape).rowRect (Shape.Gathers.axis' hg) j) (Shape.stride_rowRect _ _)).view.dmaCredit = gCredit B

/-- The tile's state before its first trip, from its buffers with the first window started. -/
theorem start (hT : 0 < T) [EC.LandsIn (upEmb : UEmb _ (MT nD τ sig Ix (Elt F) Name U Lvl))] (G : (⟨2, ![M, 128]⟩ : Shape).Idx → Elt F .f32) :
    iprop(IFly EC B d sc su ι qs fi 0 v ∗ IFree B d sc su qs fi 1 ∗ OFree B d sc su 0 ∗ OFree B d sc su 1
        ∗ Some (tile d sc su) B.out.view (rowsIn M (128 * v) (128 * (v + T)))
        ∗ (B.tab.view.loc (tile d sc su) ↦[B.tab.view.set]{qt} ft) ∗ semVal (tile d sc su, .dma B.gsem) 0 ∗ Owes d sc su ι O W₀)
      ⊢ State EC B d sc su ι qs fi G v T 0 qt ft O W₀ := by
  unfold State Ahead Behind Rest Done
  rw [if_pos hT, if_neg (lt_irrefl 0)]
  simp only [Nat.zero_sub, Nat.add_zero, rowsIn_empty]
  iintro ⟨Ha, Hi, Ho, Hb, Hr, Ht, Hv, HO⟩
  iframe Ha Hi Ho Hb Ht Hv HO
  unfold Some
  icases Hr with ⟨%f, Hr⟩
  isplitl
  · iexists f; iexact Hr
  · iapply (Holds.empty f); iempintro

/-- The tile's state after its last trip: the last window's rows are on their way out, all else is done. -/
theorem finish [EC.LandsIn (upEmb : UEmb _ (MT nD τ sig Ix (Elt F) Name U Lvl))] (G : (⟨2, ![M, 128]⟩ : Shape).Idx → Elt F .f32) (hT : 0 < T) (h2 : T % 2 = 0) {n : ℕ} (hn : n = T) :
    State EC B d sc su ι qs fi G v T n qt ft O W₀
      ⊢ iprop(IFree B d sc su qs fi 0 ∗ IFree B d sc su qs fi 1 ∗ OFree B d sc su 0 ∗ OFly EC B d sc su ι G 1 (v + (T - 1))
        ∗ Done B d sc su G v (T - 1)
        ∗ (B.tab.view.loc (tile d sc su) ↦[B.tab.view.set]{qt} ft) ∗ semVal (tile d sc su, .dma B.gsem) 0 ∗ Owes d sc su ι O W₀) := by
  subst hn
  have e0 : slot n = 0 := Fin.ext h2
  have e1 : slot (n + 1) = 1 := Fin.ext (by show (n + 1) % 2 = 1; omega)
  unfold State Ahead Behind
  rw [if_neg (lt_irrefl n), if_pos hT, e0, e1]
  iintro ⟨Hi, Hi', Ho, Hf, -, Hd, Ht, Hv, HO⟩
  iframe Hi Hi' Ho Hf Ht Hv HO
  iexact Hd

/-- What the tile has between two kernels: its buffers free, its share of the table, its semaphores at zero. -/
def Idle : sProp (MT nD τ sig Ix (Elt F) Name U Lvl) :=
  iprop(IFree B d sc su qs fi 0 ∗ IFree B d sc su qs fi 1 ∗ OFree B d sc su 0 ∗ OFree B d sc su 1
    ∗ (B.tab.view.loc (tile d sc su) ↦[B.tab.view.set]{qt} ft) ∗ semVal (tile d sc su, .dma B.gsem) 0 ∗ Owes d sc su ι O W₀)

end Tile

end
-- ==== Proof.Call.lean ====
/-
  What the two calls' sides have in common. Each of the 2 × 16 tiles is handed a share of the table, a share of the index
  array and its rows of the result, and brings the rows back at what the index words name; a SparseCore's hand is its
  sixteen tiles', dealt out and gathered up again.
-/
module

public import proofs.«01_k».proof.Proof.Tile
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Launch

open Cert.KernelIdeal Cert.KernelIdeal.Gen Windows
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as a launch -/

abbrev ΛP : Labels := Pipeline.Sig Λ₀ (Fin 3) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
abbrev EP : Emb UP (MT nD τ sig (HIx 2) (Elt F) ℕ UU ℕ) := (Emb.inl : Emb UP (UP × Counters)).trans embR

/-! ## Dealing out and gathering up -/

/-- A hand: a share of the table, a share of the index array, and some rows of the result, at `f`. -/
abbrev hand {lt li lo : Loc nD τ sig} (q : PosShare TreeShare) (ft : Buf (Elt F) lt) (fi : Buf (Elt F) li) (rows : Finset lo.2.ty.shape.Idx)
    (f : Buf (Elt F) lo) : sProp 𝕄 :=
  iprop((lt ↦{q} ft) ∗ (li ↦{q} fi) ∗ lo ↦[rows]{fullShare} f)

/-- A hand is as many hands as its rows have parts, its shares dealt to them. -/
theorem deal {lt li lo : Loc nD τ sig} {n : ℕ} (hn : 0 < n) (q : PosShare TreeShare) (ft : Buf (Elt F) lt) (fi : Buf (Elt F) li)
    {rows : Finset lo.2.ty.shape.Idx} {part : Fin n → Finset lo.2.ty.shape.Idx} (f : Buf (Elt F) lo)
    (hd : ∀ i ∈ (Finset.univ : Finset (Fin n)), ∀ j ∈ (Finset.univ : Finset (Fin n)), i ≠ j → Disjoint (part i) (part j))
    (hc : Finset.univ.biUnion part = rows) :
    (hand q ft fi rows f : sProp 𝕄) = bigSep Finset.univ fun s : Fin n => hand (Transfers.dealOf q Finset.univ s) ft fi (part s) f := by
  unfold hand
  rw [bigSep_sep', bigSep_sep', ← pointsTo_biUnion Finset.univ part hd, hc, ← Transfers.pointsTo_deal Finset.univ ⟨⟨0, hn⟩, Finset.mem_univ _⟩,
    ← Transfers.pointsTo_deal Finset.univ ⟨⟨0, hn⟩, Finset.mem_univ _⟩]

/-- Consecutive blocks of `k` rows, from row `b` on, are disjoint, -/
theorem blocks_disjoint (M b k n : ℕ) : ∀ i ∈ (Finset.univ : Finset (Fin n)), ∀ j ∈ (Finset.univ : Finset (Fin n)), i ≠ j →
    Disjoint (rowsIn M (b + k * i.val) (b + k * (i.val + 1))) (rowsIn M (b + k * j.val) (b + k * (j.val + 1))) := by
  have le {x y : ℕ} (h : x < y) : b + k * (x + 1) ≤ b + k * y := Nat.add_le_add_left (Nat.mul_le_mul_left k h) b
  intro i _ j _ h
  rcases lt_or_gt_of_ne (fun e => h (Fin.ext e) : i.val ≠ j.val) with h | h
  · exact rowsIn_disjoint (le h)
  · exact (rowsIn_disjoint (le h)).symm

/-- and `n` of them are the `k * n` rows from row `b` on. -/
theorem blocks_cover (M b k n : ℕ) : (Finset.univ : Finset (Fin n)).biUnion (fun i => rowsIn M (b + k * i.val) (b + k * (i.val + 1))) = rowsIn M b (b + k * n) := by
  ext x
  simp only [Finset.mem_biUnion, Finset.mem_univ, true_and, mem_rowsIn]
  constructor
  · rintro ⟨s, h⟩
    have := Nat.mul_le_mul_left k (show s.val + 1 ≤ n from s.isLt)
    omega
  · rintro ⟨h, h'⟩
    have hk : 0 < k := Nat.pos_of_ne_zero fun e => by subst e; omega
    have hq : ((x 0).val - b) / k < n := (Nat.div_lt_iff_lt_mul hk).mpr (by rw [Nat.mul_comm]; omega)
    refine ⟨⟨((x 0).val - b) / k, hq⟩, ?_⟩
    have h1 := Nat.mul_div_le ((x 0).val - b) k
    have h2 := Nat.lt_mul_div_succ ((x 0).val - b) hk
    simp only; omega

/-- The rows of SparseCore `c` and of its tile `s`, `k` rows to a tile. -/
abbrev coreRows (M k : ℕ) (c : Fin 2) : Finset (⟨2, ![M, 128]⟩ : Shape).Idx := rowsIn M (0 + k * 16 * c.val) (0 + k * 16 * (c.val + 1))
abbrev tileRows (M k : ℕ) (c : Fin 2) (s : Fin 16) : Finset (⟨2, ![M, 128]⟩ : Shape).Idx :=
  rowsIn M (0 + k * 16 * c.val + k * s.val) (0 + k * 16 * c.val + k * (s.val + 1))

theorem cores_cover (M k : ℕ) (h : k * 16 * 2 = M) : (Finset.univ : Finset (Fin 2)).biUnion (coreRows M k) = Finset.univ := by
  refine (blocks_cover M 0 (k * 16) 2).trans (Finset.eq_univ_iff_forall.mpr fun x => mem_rowsIn.mpr ⟨Nat.zero_le _, ?_⟩)
  have hx : (x 0).val < M := (x 0).isLt
  omega

theorem tiles_cover (M k : ℕ) (c : Fin 2) : (Finset.univ : Finset (Fin 16)).biUnion (tileRows M k c) = coreRows M k c := by
  refine (blocks_cover M _ k 16).trans ?_
  rw [Nat.add_assoc, ← Nat.mul_succ]

/-- The share of what is read that SparseCore `c` takes, and that its tile `s` takes. -/
abbrev coreShare (c : Fin 2) : PosShare TreeShare := Transfers.dealOf fullShare Finset.univ c
abbrev tileShare (c : Fin 2) (s : Fin 16) : PosShare TreeShare := Transfers.dealOf (coreShare c) Finset.univ s

/-! ## What a tile has of its own -/

section Task

variable (d : Dev nD) (c : Fin τ.nSC) (s : Fin τ.nSub)

/-- A DMA semaphore of the tile. -/
abbrev cell (j : DmaSem sig) : GSem nD τ sig := (V d c s, .dma j)

theorem mem_own (j : DmaSem sig) : cell d c s j ∈ ownCells (V d c s) :=
  mem_ownCells.mpr ⟨rfl, by
    show (SemLoc.dma j : SemLoc sig).isScoped .scVector = true
    revert j; decide⟩

theorem cell_ne {j k : DmaSem sig} (h : j ≠ k) : cell d c s j ≠ cell d c s k := fun e => h (by
  have := congrArg Prod.snd e
  exact SemLoc.dma.inj this)

/-- Five DMA semaphores of the tile, at zero. -/
abbrev Five (j₁ j₂ j₃ j₄ j₅ : DmaSem sig) : sProp 𝕄 :=
  iprop(semVal (cell d c s j₁) 0 ∗ semVal (cell d c s j₂) 0 ∗ semVal (cell d c s j₃) 0 ∗ semVal (cell d c s j₄) 0 ∗ semVal (cell d c s j₅) 0)

/-- Five DMA semaphores are among the tile's own. -/
theorem ownSems0_five {j₁ j₂ j₃ j₄ j₅ : DmaSem sig} (h : [j₁, j₂, j₃, j₄, j₅].Nodup) :
    (ownSems0 (V d c s) : sProp 𝕄)
      = iprop(Five d c s j₁ j₂ j₃ j₄ j₅
          ∗ bigSep ((((((ownCells (V d c s)).erase (cell d c s j₁)).erase (cell d c s j₂)).erase (cell d c s j₃)).erase (cell d c s j₄)).erase (cell d c s j₅))
              fun g => semVal g 0) := by
  simp only [List.nodup_cons, List.mem_cons, List.not_mem_nil, or_false, not_or, List.nodup_nil, not_false_eq_true, and_true] at h
  obtain ⟨⟨h12, h13, h14, h15⟩, ⟨h23, h24, h25⟩, ⟨h34, h35⟩, h45⟩ := h
  have assoc (A B C : sProp 𝕄) : iprop((A ∗ B) ∗ C) = iprop(A ∗ B ∗ C) := by
    have h₁ : iprop((A ∗ B) ∗ C) ⊢ iprop(A ∗ B ∗ C) := by
      iintro ⟨⟨HA, HB⟩, HC⟩; iframe HA HB HC
    have h₂ : iprop(A ∗ B ∗ C) ⊢ iprop((A ∗ B) ∗ C) := by
      iintro ⟨HA, HB, HC⟩; iframe HA HB HC
    exact BI.Entails.antisymm h₁ h₂
  have sym {j k : DmaSem sig} (h : ¬ j = k) : cell d c s k ≠ cell d c s j := cell_ne d c s fun e => h e.symm
  unfold SparseCore.Cfg.ownSems0 Five
  rw [SparseCore.bigSep_erase' (mem_own d c s j₁),
    SparseCore.bigSep_erase' (Finset.mem_erase.mpr ⟨sym h12, mem_own d c s j₂⟩),
    SparseCore.bigSep_erase' (Finset.mem_erase.mpr ⟨sym h23, Finset.mem_erase.mpr ⟨sym h13, mem_own d c s j₃⟩⟩),
    SparseCore.bigSep_erase' (Finset.mem_erase.mpr ⟨sym h34, Finset.mem_erase.mpr ⟨sym h24, Finset.mem_erase.mpr ⟨sym h14, mem_own d c s j₄⟩⟩⟩),
    SparseCore.bigSep_erase' (Finset.mem_erase.mpr ⟨sym h45, Finset.mem_erase.mpr ⟨sym h35, Finset.mem_erase.mpr ⟨sym h25,
      Finset.mem_erase.mpr ⟨sym h15, mem_own d c s j₅⟩⟩⟩⟩)]
  simp only [assoc]

/-- Two vector memories are among the tile's own. -/
theorem ownBufs_two {a b : Ref sig .scVector} (ha : ((Proc.scVector c s).devRef a).owner = .proc (.scVector c s))
    (hb : ((Proc.scVector c s).devRef b).owner = .proc (.scVector c s)) (h : b ≠ a) :
    (ownBufs (V d c s) : sProp 𝕄)
      = iprop((∃ f, (V d c s).loc a ↦{fullShare} f) ∗ (∃ f, (V d c s).loc b ↦{fullShare} f)
          ∗ bigSep (((ownRefs (τ := τ) (.scVector c s)).erase ((Proc.scVector c s).devRef a)).erase ((Proc.scVector c s).devRef b))
              fun b => iprop(∃ f, ((d, b) : Loc nD τ sig) ↦{fullShare} f)) := by
  unfold SparseCore.Cfg.ownBufs
  refine (SparseCore.bigSep_erase' (SparseCore.Cfg.mem_ownRefs_of_owner (p := Proc.scVector c s) (b := (Proc.scVector c s).devRef a) ha)).trans ?_
  rw [SparseCore.bigSep_erase' (Finset.mem_erase.mpr ⟨fun e => h (Proc.devRef_injective _ e),
    SparseCore.Cfg.mem_ownRefs_of_owner (p := Proc.scVector c s) (b := (Proc.scVector c s).devRef b) hb⟩)]

/-- A view of a whole buffer under some indices is those elements. -/
theorem setOn_whole (b : Ref sig .scVector) (M : Finset b.ty.shape.Idx) : (View.whole b).setOn M = M := Finset.map_refl

/-- Two parts of a view, holding anything, are one. -/
theorem some_join {t : Thread nD τ} {sp : Space} {sh : Shape} {e : EltTy} {v : View sig t.2.kind sp sh e} {M M' M'' : Finset sh.Idx}
    (hd : Disjoint M M') (hu : M ∪ M' = M'') : iprop(Some t v M ∗ Some t v M') ⊢ (Some t v M'' : sProp 𝕄) := by
  have h (f f' : Buf (Elt F) (v.loc t)) : iprop((v.loc t ↦[v.setOn M]{fullShare} f) ∗ v.loc t ↦[v.setOn M']{fullShare} f') ⊢ (Some t v M'' : sProp 𝕄) := by
    let g : sh.Idx → Elt F e := fun x => if x ∈ M then v.read (Elt F) f x else v.read (Elt F) f' x
    refine BIBase.Entails.trans ?_ ((Holds.join (g := g) hd hu).trans Holds.some)
    unfold Holds
    iintro ⟨H, H'⟩
    isplitl [H]
    · iexists f; iframe H; ipureintro
      exact fun x hx => (if_pos hx).symm
    · iexists f'; iframe H'; ipureintro
      exact fun x hx => (if_neg (Finset.disjoint_right.mp hd hx)).symm
  show iprop((∃ f, v.loc t ↦[v.setOn M]{fullShare} f) ∗ (∃ f, v.loc t ↦[v.setOn M']{fullShare} f)) ⊢ _
  iintro ⟨⟨%f, H⟩, ⟨%f', H'⟩⟩
  iapply (h f f')
  iframe H H'

/-! ## A tile's run -/

variable {N M : ℕ} (B : Bufs sig N M) (q : PosShare TreeShare)
variable (fi : Buf (Elt F) (B.idx.view.loc (V d c s))) (ft : Buf (Elt F) (B.tab.view.loc (V d c s)))
variable (O : CellTallies nD τ sig (HIx 2)) (W : Waits sig (HIx 2))

/-- The tile's two halves of its share of the index array, one for each slot it fetches into. -/
abbrev halves (q : PosShare TreeShare) (b : Fin 2) : PosShare TreeShare := if b = 0 then q.left else q.right

/-- What the tile has of its own for the call: its two vector memories and its five semaphores. -/
abbrev Own : sProp 𝕄 :=
  iprop(Some (V d c s) B.ibuf.view Finset.univ ∗ Some (V d c s) B.obuf.view Finset.univ
    ∗ Five d c s (semAt B.isem 0) (semAt B.isem 1) (semAt B.osem 0) (semAt B.osem 1) B.gsem)

/-- What the tile reads: its shares of the table and of the index array. -/
abbrev Reads : sProp 𝕄 := iprop((B.tab.view.loc (V d c s) ↦[B.tab.view.set]{q} ft) ∗ (B.idx.view.loc (V d c s) ↦{q} fi))

theorem to_idle : iprop(Own d c s B ∗ Reads d c s B q fi ft ∗ Owes d c s (default : HIx 2) O W)
    ⊢ (Tile.Idle B d c s (default : HIx 2) (halves q) fi q ft O W : sProp 𝕄) := by
  iintro ⟨⟨Hi, Hr, Hs1, Hs2, Hs3, Hs4, Hs5⟩, ⟨Ht, Hx⟩, HO⟩
  ihave Hi := (Some.split (slotOf_disjoint 1) (slotOf_union 1)) $$ Hi
  icases Hi with ⟨Hi, Hi'⟩
  ihave Hr := (Some.split (slotOf_disjoint 128) (slotOf_union 128)) $$ Hr
  icases Hr with ⟨Hr, Hr'⟩
  ihave Hx := (pointsTo_share (PosShare.mem_left_op_right q)).1 $$ Hx
  icases Hx with ⟨Hx, Hx'⟩
  unfold Tile.Idle IFree OFree Windows.Some
  isplitl [Hi Hx Hs1]
  · isplitl [Hi]; · iexact Hi
    isplitl [Hx]; · iexact Hx
    iexact Hs1
  isplitl [Hi' Hx' Hs2]
  · isplitl [Hi']; · iexact Hi'
    isplitl [Hx']; · iexact Hx'
    iexact Hs2
  isplitl [Hr Hs3]
  · isplitl [Hr]; · iexact Hr
    iexact Hs3
  isplitl [Hr' Hs4]
  · isplitl [Hr']; · iexact Hr'
    iexact Hs4
  isplitl [Ht]; · iexact Ht
  isplitl [Hs5]; · iexact Hs5
  iexact HO

theorem of_idle : (Tile.Idle B d c s (default : HIx 2) (halves q) fi q ft O W : sProp 𝕄)
    ⊢ iprop(Own d c s B ∗ Reads d c s B q fi ft ∗ Owes d c s (default : HIx 2) O W) := by
  unfold Tile.Idle IFree OFree
  iintro ⟨⟨Hi, Hx, Hs1⟩, ⟨Hi', Hx', Hs2⟩, ⟨Hr, Hs3⟩, ⟨Hr', Hs4⟩, Ht, Hs5, HO⟩
  isplitl [Hi Hi' Hr Hr' Hs1 Hs2 Hs3 Hs4 Hs5]
  · isplitl [Hi Hi']
    · iapply (some_join (slotOf_disjoint 1) (slotOf_union 1))
      unfold Windows.Some
      isplitl [Hi]; · iexact Hi
      iexact Hi'
    isplitl [Hr Hr']
    · iapply (some_join (slotOf_disjoint 128) (slotOf_union 128))
      unfold Windows.Some
      isplitl [Hr]; · iexact Hr
      iexact Hr'
    isplitl [Hs1]; · iexact Hs1
    isplitl [Hs2]; · iexact Hs2
    isplitl [Hs3]; · iexact Hs3
    isplitl [Hs4]; · iexact Hs4
    iexact Hs5
  iframe HO
  isplitl [Ht]; · iexact Ht
  iapply (pointsTo_share (PosShare.mem_left_op_right q)).2
  isplitl [Hx]; · iexact Hx
  iexact Hx'

/-- A tile's kernel, from what the tile is handed and has of its own to the same with its rows brought. -/
theorem tile_run {rows : Finset (⟨2, ![M, 128]⟩ : Shape).Idx} {G : (⟨2, ![M, 128]⟩ : Shape).Idx → Elt F .f32} {prog : Prog (TpuEff nD τ sig (Elt F) Λ₀ (V d c s).2) PUnit}
    (hO : ∀ g, O g none = 0)
    (hb : iprop(Transfers.MayWaits (V d c s) (default : HIx 2) O ∗ Tile.Idle B d c s (default : HIx 2) (halves q) fi q ft O W ∗ Some (V d c s) B.out.view rows)
      ⊢ wp frame (wpE (defs₀ (F := F)) 𝒱₀ (V d c s) none) Set.univ prog
        (fun _ => iprop(Tile.Idle B d c s (default : HIx 2) (halves q) fi q ft O W ∗ Holds (V d c s) B.out.view rows G) : PUnit → sProp 𝕄)) :
    iprop(levAts (K (F := F)).L (K (F := F)).lev ∗ (Reads d c s B q fi ft ∗ Some (V d c s) B.out.view rows) ∗ Own d c s B ∗ owes (V d c s) O W)
      ⊢ wp frame (wpE (defs₀ (F := F)) 𝒱₀ (V d c s) none) Set.univ prog
          (fun _ => iprop((Reads d c s B q fi ft ∗ Holds (V d c s) B.out.view rows G) ∗ Own d c s B
            ∗ ∃ W', ⌜∀ p ∈ W', p ∈ W ∨ p.2 = none⌝ ∗ owes (V d c s) O W') : PUnit → sProp 𝕄) := by
  have hi := to_idle d c s B q fi ft O W
  have ho := of_idle d c s B q fi ft O W
  iintro ⟨#Hlv, ⟨HR, Ho⟩, Hown, HO⟩
  ihave Hmw := (show levAts (K (F := F)).L (K (F := F)).lev ⊢ Transfers.MayWaits (V d c s) (default : HIx 2) O from
    (K (F := F)).mayWaits_none (thr := V d c s) hO) $$ Hlv
  ihave HI := hi $$ [Hown HR HO]
  · iframe Hown HR
    unfold Windows.Owes
    iexists W
    iframe HO
    ipureintro
    exact fun p hp => .inl hp
  ihave Hw := hb $$ [Hmw HI Ho]
  · iframe Hmw HI Ho
  iapply (wp_wand frame) $$ Hw
  iintro %a ⟨HI, HG⟩
  ihave HI := ho $$ HI
  icases HI with ⟨Hown, HR, HO⟩
  iframe Hown HR HG
  unfold Windows.Owes
  icases HO with ⟨%W', HO, %hW⟩
  iexists W'
  iframe HO
  ipureintro
  exact hW

end Task

/-- What a tile's wait leaves recorded, as the call's obligation asks it. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'
  iframe HO
  ipureintro
  exact fun p hp => (hW' p hp).imp_right Or.inl

end Launch

end
-- ==== Proof.Net.lean ====
/-
  The network: what the TensorCore call's body does at a point of the grid.
-/
module

public import proofs.«01_k».proof.Proof.Call
public import proofs.«01_k».proof.Proof.Gen.KernelIdeal.Skeleton
public import Idealize.ShloMosaic.Lib.Pipeline.TableIdle
public import Idealize.ShloMosaic.Lib.VecWindow

@[expose] public section

noncomputable section

namespace Launch

open Cert.KernelIdeal Cert.KernelIdeal.Gen
open Idealize.ShloMosaic Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 2) (Elt F) ℕ UU ℕ

/-- What the body leaves in the result's block, from the blocks of the operands. -/
def netOut (x0 : S512x16x32.Idx → Elt F .f32) (x1 : S512x10x32.Idx → Elt F .f32) (x2 : S676x192.Idx → Elt F .f32) (x3 : S1x192.Idx → Elt F .f32)
    (x4 : S192x192.Idx → Elt F .f32) (x5 : S1x192.Idx → Elt F .f32) (x6 : S192x192.Idx → Elt F .f32) (x7 : S1x192.Idx → Elt F .f32)
    (x8 : S192x1.Idx → Elt F .f32) (x9 : S1x1.Idx → Elt F .f32) : S512x1.Idx → Elt F .f32 :=
  k4_pay1 (k4_pay2 x0 x1 x2 x3 x4 x5 x6 x7) x8 x9

/-- A staging memref held whole, reading `X`. -/
abbrev rd (c : Dev nD) {s : Shape} (M : Memref sig .tc .vmem s .f32) (X : s.Idx → Elt F .f32) : sProp 𝕄 :=
  M.view.loc (c : Thread nD τ) ↦[M.view.set]{fullShare} M.view.rep X

/-- A buffer stored whole holds what was stored. -/
theorem stored [∀ e, Nonempty (Elt F e)] (c : Dev nD) {s : Shape} (M : Memref sig .tc .vmem s .f32) (f : M.view.ty.Contents (Elt F)) {off : Fin s.rank → ℕ}
    (inb : ∀ a, off a + s.size a ≤ s.size a) (x : s.Idx → Elt F .f32) :
    (M.view.loc (c : Thread nD τ) ↦[M.view.set]{fullShare} M.view.writes (Elt F) f [⟨Rect.unit off s.size inb, x⟩] : sProp 𝕄) ⊢ rd c M x := by
  rw [rd, ← owns_eq_rep (c : Thread nD τ) M fullShare x]
  unfold owns
  iintro H
  iexists _
  isplitr
  · ipureintro; exact View.read_writes_full M.view f inb x []
  iexact H

set_option maxRecDepth 16384 in
theorem net_body [∀ e, Nonempty (Elt F e)] (c : Dev nD) (i : grid4.Coords)
    (M0 : Memref sig .tc .vmem S512x16x32 .f32) (h0 : M0.IsWhole) (M1 : Memref sig .tc .vmem S512x10x32 .f32) (h1 : M1.IsWhole)
    (M2 : Memref sig .tc .vmem S676x192 .f32) (h2 : M2.IsWhole) (M3 : Memref sig .tc .vmem S1x192 .f32) (h3 : M3.IsWhole)
    (M4 : Memref sig .tc .vmem S192x192 .f32) (h4 : M4.IsWhole) (M5 : Memref sig .tc .vmem S1x192 .f32) (h5 : M5.IsWhole)
    (M6 : Memref sig .tc .vmem S192x192 .f32) (h6 : M6.IsWhole) (M7 : Memref sig .tc .vmem S1x192 .f32) (h7 : M7.IsWhole)
    (M8 : Memref sig .tc .vmem S192x1 .f32) (h8 : M8.IsWhole) (M9 : Memref sig .tc .vmem S1x1 .f32) (h9 : M9.IsWhole)
    (M10 : Memref sig .tc .vmem S512x1 .f32) (h10 : M10.IsWhole)
    (x0 : S512x16x32.Idx → Elt F .f32) (x1 : S512x10x32.Idx → Elt F .f32) (x2 : S676x192.Idx → Elt F .f32) (x3 : S1x192.Idx → Elt F .f32)
    (x4 : S192x192.Idx → Elt F .f32) (x5 : S1x192.Idx → Elt F .f32) (x6 : S192x192.Idx → Elt F .f32) (x7 : S1x192.Idx → Elt F .f32)
    (x8 : S192x1.Idx → Elt F .f32) (x9 : S1x1.Idx → Elt F .f32) (x10 : S512x1.Idx → Elt F .f32) (Q : PUnit → sProp 𝕄) :
    iprop(rd c M0 x0 ∗ rd c M1 x1 ∗ rd c M2 x2 ∗ rd c M3 x3 ∗ rd c M4 x4 ∗ rd c M5 x5 ∗ rd c M6 x6 ∗ rd c M7 x7 ∗ rd c M8 x8 ∗ rd c M9 x9 ∗ rd c M10 x10
        ∗ (rd c M0 x0 ∗ rd c M1 x1 ∗ rd c M2 x2 ∗ rd c M3 x3 ∗ rd c M4 x4 ∗ rd c M5 x5 ∗ rd c M6 x6 ∗ rd c M7 x7 ∗ rd c M8 x8 ∗ rd c M9 x9
            ∗ rd c M10 (netOut x0 x1 x2 x3 x4 x5 x6 x7 x8 x9) -∗ Q ⟨⟩))
      ⊢ wp frame (wpE (defs₀ (F := F)) 𝒱₀ (c : Thread nD τ) none) Set.univ
          (cc4__tc_body i M0 h0 M1 h1 M2 h2 M3 h3 M4 h4 M5 h5 M6 h6 M7 h7 M8 h8 M9 h9 M10 h10) Q := by
  unfold netOut
  rw [cc4__tc_body_eq_skeleton, cc4__tc_body_skel, k4_part1_eq_skeleton, k4_part1_skel]
  iintro ⟨H0, H1, H2, H3, H4, H5, H6, H7, H8, H9, H10, Hk⟩
  sl_exec!
  sl_step
  sl_unfold_run_names
  rw [View.readAt_rep_full M0.view x0 inb_S512x16x32_S512x16x32_0_0_0, View.readAt_rep_full M1.view x1 inb_S512x10x32_S512x10x32_0_0_0,
    View.readAt_rep_full M2.view x2 inb_S676x192_S676x192_0_0, View.readAt_rep_full M3.view x3 inb_S1x192_S1x192_0_0, View.readAt_rep_full M4.view x4 inb_S192x192_S192x192_0_0,
    View.readAt_rep_full M5.view x5 inb_S1x192_S1x192_0_0, View.readAt_rep_full M6.view x6 inb_S192x192_S192x192_0_0,
    View.readAt_rep_full M7.view x7 inb_S1x192_S1x192_0_0, View.readAt_rep_full M8.view x8 inb_S192x1_S192x1_0_0, View.readAt_rep_full M9.view x9 inb_S1x1_S1x1_0_0]
  ihave H10 := (stored c M10 _ inb_S512x1_S512x1_0_0 _) $$ H10
  iapply Hk
  iframe H0 H1 H2 H3 H4 H5 H6 H7 H8 H9
  iexact H10

end Launch

end
-- ==== Proof.Merge.lean ====
/-
  The merges' body, which the first and the third call run at each of their points: from four fields' rows, held by lane, and
  a 128 by 128 matrix, it stores their product.
-/
module

public import proofs.«01_k».proof.Proof.Net

@[expose] public section

noncomputable section

namespace Launch

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

set_option maxRecDepth 16384 in
theorem merge_body [∀ e, Nonempty (Elt F e)] (c : Dev nD) (i : grid0.Coords)
    (M0 : Memref sig .tc .vmem S4x32x6400 .f32) (h0 : M0.IsWhole) (M1 : Memref sig .tc .vmem S128x128 .f32) (h1 : M1.IsWhole)
    (M2 : Memref sig .tc .vmem S6400x128 .f32) (h2 : M2.IsWhole)
    (x0 : S4x32x6400.Idx → Elt F .f32) (x1 : S128x128.Idx → Elt F .f32) (x2 : S6400x128.Idx → Elt F .f32) (Q : PUnit → sProp 𝕄) :
    iprop(rd c M0 x0 ∗ rd c M1 x1 ∗ rd c M2 x2 ∗ (rd c M0 x0 ∗ rd c M1 x1 ∗ rd c M2 (k0_pay1 x0 x1) -∗ Q ⟨⟩))
      ⊢ wp frame (wpE (defs₀ (F := F)) 𝒱₀ (c : Thread nD τ) none) Set.univ (cc0__merge_body i M0 h0 M1 h1 M2 h2) Q := by
  rw [cc0__merge_body_eq_skeleton, cc0__merge_body_skel]
  iintro ⟨H0, H1, H2, Hk⟩
  sl_exec!
  sl_step
  sl_unfold_run_names
  rw [View.readAt_rep_full M0.view x0 inb_S4x32x6400_S4x32x6400_0_0_0, View.readAt_rep_full M1.view x1 inb_S128x128_S128x128_0_0]
  ihave H2 := (stored c M2 _ inb_S6400x128_S6400x128_0_0 _) $$ H2
  iapply Hk
  iframe H0 H1
  iexact H2

/-- The third call runs the same body. -/
theorem merge_body' (i : grid2.Coords) (M0 : Memref sig .tc .vmem S4x32x6400 .f32) (h0 : M0.IsWhole) (M1 : Memref sig .tc .vmem S128x128 .f32) (h1 : M1.IsWhole)
    (M2 : Memref sig .tc .vmem S6400x128 .f32) (h2 : M2.IsWhole) :
    cc2__merge_body (F := F) i M0 h0 M1 h1 M2 h2 = cc0__merge_body (grid0.coords ⟨0, by decide⟩) M0 h0 M1 h1 M2 h2 := by
  rw [cc2__merge_body_eq_skeleton, cc0__merge_body_eq_skeleton]
  rfl

end Launch

end
-- ==== Proof.Region.lean ====
/-
  The TensorCore calls over their grids: what each reads at a point, what it leaves there, and that its body does so.
-/
module

public import proofs.«01_k».proof.Proof.Merge
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.RegionArraysS
public import Idealize.ShloMosaic.Lib.Pipeline.FrameBody
public import Idealize.ShloMosaic.Lib.Pipeline.TableIdle
public import Idealize.ShloMosaic.Lib.Pipeline.ValueKit

@[expose] public section

noncomputable section

namespace Launch

open Cert.KernelIdeal Cert.KernelIdeal.Gen
open Idealize.ShloMosaic Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 2) (Elt F) ℕ UU ℕ

variable (W : Dev nD → Valuation τ sig (Elt F))

/-- Window `w`'s block at point `t` of call `p`, of the array's contents before the call. -/
def blk (p : Fin 3) (c : Dev nD) (w : Fin (cfgs p).W) (t : Fin (cfgs p).N) : (((cfgs p).win w).xblock ((cfgs p).grid.coords t)).Idx → Elt F ((cfgs p).win w).elt :=
  (((cfgs p).win w).blk t).view.read (Elt F) (W c (Proc.devRef .tc (Pipeline.arrRef (cfgs p).spec w)))

/-- The network's block of the result at point `t`. -/
def outBlk (c : Dev nD) (t : Fin cfg4.N) : S512x1.Idx → Elt F .f32 :=
  netOut (blk W 2 c (0 : Fin 11) t) (blk W 2 c (1 : Fin 11) t) (blk W 2 c (2 : Fin 11) t) (blk W 2 c (3 : Fin 11) t) (blk W 2 c (4 : Fin 11) t)
    (blk W 2 c (5 : Fin 11) t) (blk W 2 c (6 : Fin 11) t) (blk W 2 c (7 : Fin 11) t) (blk W 2 c (8 : Fin 11) t) (blk W 2 c (9 : Fin 11) t)

/-- The merges' blocks of the merged tables. -/
def mergeBlkA (c : Dev nD) (t : Fin cfg0.N) : S6400x128.Idx → Elt F .f32 := k0_pay1 (blk W 0 c (0 : Fin 3) t) (blk W 0 c (1 : Fin 3) t)
def mergeBlkB (c : Dev nD) (t : Fin cfg2.N) : S6400x128.Idx → Elt F .f32 := k0_pay1 (blk W 1 c (0 : Fin 3) t) (blk W 1 c (1 : Fin 3) t)

/-- What the staging buffers hold after the body at a point of each call. -/
def leftA (c : Dev nD) : (w : Fin 3) → (t : Fin cfg0.N) → (cfg0.win w).block.Idx → Elt F (cfg0.win w).elt
  | 0, t => blk W 0 c (0 : Fin 3) t | 1, t => blk W 0 c (1 : Fin 3) t | 2, t => mergeBlkA W c t
def leftB (c : Dev nD) : (w : Fin 3) → (t : Fin cfg2.N) → (cfg2.win w).block.Idx → Elt F (cfg2.win w).elt
  | 0, t => blk W 1 c (0 : Fin 3) t | 1, t => blk W 1 c (1 : Fin 3) t | 2, t => mergeBlkB W c t
def leftN (c : Dev nD) : (w : Fin 11) → (t : Fin cfg4.N) → (cfg4.win w).block.Idx → Elt F (cfg4.win w).elt
  | 0, t => blk W 2 c (0 : Fin 11) t | 1, t => blk W 2 c (1 : Fin 11) t | 2, t => blk W 2 c (2 : Fin 11) t | 3, t => blk W 2 c (3 : Fin 11) t
  | 4, t => blk W 2 c (4 : Fin 11) t | 5, t => blk W 2 c (5 : Fin 11) t | 6, t => blk W 2 c (6 : Fin 11) t | 7, t => blk W 2 c (7 : Fin 11) t
  | 8, t => blk W 2 c (8 : Fin 11) t | 9, t => blk W 2 c (9 : Fin 11) t | 10, t => outBlk W c t

def left : (p : Fin 3) → (c : Dev nD) → (w : Fin (cfgs p).W) → (t : Fin (cfgs p).N) → ((cfgs p).win w).block.Idx → Elt F ((cfgs p).win w).elt
  | 0 => leftA W | 1 => leftB W | 2 => leftN W

/-- The pairs a thread may have recorded by the time `k` SparseCore calls are over. -/
def early (k : ℕ) (c : Dev nD) : Set (SemLoc sig × HIx 2) := {p | (K (F := F)).lev ((SparseCore.T c : Thread nD τ), p.1) p.2 ≤ 8 * k}

/-- The proof data of call `p`, before which `p` SparseCore calls are over: the core owes the later ones their start. -/
def dat (p : Fin 3) (c : Dev nD) : Dat τ (Elt F) (HIx 2) ℕ UU ℕ (cfgs p) c where
  A w := W c (Proc.devRef .tc (Pipeline.arrRef (cfgs p).spec w))
  after := left W p c
  Φ _ := Pipeline.scopedRest (cfgs p).spec c
  q _ := fullShare
  owed _ := (K (F := F)).Otc c p.val
  recorded _ := early (F := F) p.val c

theorem before_A (c : Dev nD) (w : Fin 3) (hw : w ≠ 2) (t : Fin cfg0.N) (d) : (dat W 0 c).before w t d = leftA W c w t := by
  match w with
  | 0 | 1 => exact Dat.before_in_eq_fetched (dat W 0 c) _ rfl (fun _ => rfl) (fun _ _ _ => rfl) (fun _ => rfl) t d
  | 2 => exact absurd rfl hw
theorem before_B (c : Dev nD) (w : Fin 3) (hw : w ≠ 2) (t : Fin cfg2.N) (d) : (dat W 1 c).before w t d = leftB W c w t := by
  match w with
  | 0 | 1 => exact Dat.before_in_eq_fetched (dat W 1 c) _ rfl (fun _ => rfl) (fun _ _ _ => rfl) (fun _ => rfl) t d
  | 2 => exact absurd rfl hw
theorem before_N (c : Dev nD) (w : Fin 11) (hw : w ≠ 10) (t : Fin cfg4.N) (d) : (dat W 2 c).before w t d = leftN W c w t := by
  match w with
  | 0 | 1 | 2 | 3 | 4 | 5 | 6 | 7 | 8 | 9 => exact Dat.before_in_eq_fetched (dat W 2 c) _ rfl (fun _ => rfl) (fun _ _ _ => rfl) (fun _ => rfl) t d
  | 10 => exact absurd rfl hw

theorem obligation_A [∀ e, Nonempty (Elt F e)] (c : Dev nD) : BodyObligation (dat W 0 c) (defs₀ (F := F)) 𝒱₀ none Set.univ := fun t => by
  rw [bigSep_W0, bigSep_W0]
  simp only [before_A W c 0 (by decide), before_A W c 1 (by decide), owns_eq_rep]
  rw [show (dat W 0 c).owesAt none t.succ = (dat W 0 c).owesAt none t.castSucc from rfl, show (dat W 0 c).Φ t.succ = (dat W 0 c).Φ t.castSucc from rfl]
  change _ ⊢ wp frame (wpE (defs₀ (F := F)) 𝒱₀ (c : Thread nD τ) none) Set.univ (bodyAt0 t) _
  iintro ⟨HΦ, Howes, ⟨%d0, H0⟩, ⟨%d1, H1⟩, ⟨%d2, H2⟩⟩
  iapply (merge_body c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (blk W 0 c (0 : Fin 3) t) (blk W 0 c (1 : Fin 3) t) _ _)
  isplitl [H0]; · iexact H0
  isplitl [H1]; · iexact H1
  isplitl [H2]; · iexact H2
  iintro H
  isplitl [HΦ]; · iexact HΦ
  isplitl [Howes]; · iexact Howes
  iexact H

theorem obligation_B [∀ e, Nonempty (Elt F e)] (c : Dev nD) : BodyObligation (dat W 1 c) (defs₀ (F := F)) 𝒱₀ none Set.univ := fun t => by
  rw [bigSep_W2, bigSep_W2]
  simp only [before_B W c 0 (by decide), before_B W c 1 (by decide), owns_eq_rep]
  rw [show (dat W 1 c).owesAt none t.succ = (dat W 1 c).owesAt none t.castSucc from rfl, show (dat W 1 c).Φ t.succ = (dat W 1 c).Φ t.castSucc from rfl]
  change _ ⊢ wp frame (wpE (defs₀ (F := F)) 𝒱₀ (c : Thread nD τ) none) Set.univ (bodyAt2 t) _
  unfold bodyAt2
  rw [merge_body']
  iintro ⟨HΦ, Howes, ⟨%d0, H0⟩, ⟨%d1, H1⟩, ⟨%d2, H2⟩⟩
  iapply (merge_body c _ (win2_0.stage (cfg2.slots t 0)) (hstage2_0 ((cfg2.slots t 0).cast nbuf2_0)) (win2_1.stage (cfg2.slots t 1)) (hstage2_1 ((cfg2.slots t 1).cast nbuf2_1))
    (win2_2.stage (cfg2.slots t 2)) (hstage2_2 ((cfg2.slots t 2).cast nbuf2_2)) (blk W 1 c (0 : Fin 3) t) (blk W 1 c (1 : Fin 3) t) _ _)
  isplitl [H0]; · iexact H0
  isplitl [H1]; · iexact H1
  isplitl [H2]; · iexact H2
  iintro H
  isplitl [HΦ]; · iexact HΦ
  isplitl [Howes]; · iexact Howes
  iexact H

theorem obligation_N [∀ e, Nonempty (Elt F e)] (c : Dev nD) : BodyObligation (dat W 2 c) (defs₀ (F := F)) 𝒱₀ none Set.univ := fun t => by
  rw [bigSep_W4, bigSep_W4]
  simp only [before_N W c 0 (by decide), before_N W c 1 (by decide), before_N W c 2 (by decide), before_N W c 3 (by decide), before_N W c 4 (by decide),
    before_N W c 5 (by decide), before_N W c 6 (by decide), before_N W c 7 (by decide), before_N W c 8 (by decide), before_N W c 9 (by decide), owns_eq_rep]
  rw [show (dat W 2 c).owesAt none t.succ = (dat W 2 c).owesAt none t.castSucc from rfl, show (dat W 2 c).Φ t.succ = (dat W 2 c).Φ t.castSucc from rfl]
  change _ ⊢ wp frame (wpE (defs₀ (F := F)) 𝒱₀ (c : Thread nD τ) none) Set.univ (bodyAt4 t) _
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (net_body c (grid4.coords t) (win4_0.stage (cfg4.slots t 0)) (hstage4_0 ((cfg4.slots t 0).cast nbuf4_0)) (win4_1.stage (cfg4.slots t 1)) (hstage4_1 ((cfg4.slots t 1).cast nbuf4_1))
    (win4_2.stage (cfg4.slots t 2)) (hstage4_2 ((cfg4.slots t 2).cast nbuf4_2)) (win4_3.stage (cfg4.slots t 3)) (hstage4_3 ((cfg4.slots t 3).cast nbuf4_3))
    (win4_4.stage (cfg4.slots t 4)) (hstage4_4 ((cfg4.slots t 4).cast nbuf4_4)) (win4_5.stage (cfg4.slots t 5)) (hstage4_5 ((cfg4.slots t 5).cast nbuf4_5))
    (win4_6.stage (cfg4.slots t 6)) (hstage4_6 ((cfg4.slots t 6).cast nbuf4_6)) (win4_7.stage (cfg4.slots t 7)) (hstage4_7 ((cfg4.slots t 7).cast nbuf4_7))
    (win4_8.stage (cfg4.slots t 8)) (hstage4_8 ((cfg4.slots t 8).cast nbuf4_8)) (win4_9.stage (cfg4.slots t 9)) (hstage4_9 ((cfg4.slots t 9).cast nbuf4_9))
    (win4_10.stage (cfg4.slots t 10)) (hstage4_10 ((cfg4.slots t 10).cast nbuf4_10))
    (blk W 2 c (0 : Fin 11) t) (blk W 2 c (1 : Fin 11) t) (blk W 2 c (2 : Fin 11) t) (blk W 2 c (3 : Fin 11) t) (blk W 2 c (4 : Fin 11) t) (blk W 2 c (5 : Fin 11) t) (blk W 2 c (6 : Fin 11) t) (blk W 2 c (7 : Fin 11) t) (blk W 2 c (8 : Fin 11) t) (blk W 2 c (9 : Fin 11) t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro H
  isplitl [HΦ]; · iexact HΦ
  isplitl [Howes]; · iexact Howes
  iexact H

/-- So each call's body does at every point. -/
theorem obligation [∀ e, Nonempty (Elt F e)] (p : Fin 3) (c : Dev nD) : BodyObligation (dat W p c) (defs₀ (F := F)) 𝒱₀ none Set.univ :=
  match p with | 0 => obligation_A W c | 1 => obligation_B W c | 2 => obligation_N W c

end Launch

end
-- ==== Proof.TcRun.lean ====
/-
  A TensorCore call as a step of the program: from every array at some contents, it leaves the result's array at what its
  points wrote back, and the others as they were. What the core owes the SparseCore calls still to come it owes throughout.
-/
module

public import proofs.«01_k».proof.Proof.Region

@[expose] public section

noncomputable section

namespace Launch

open Cert.KernelIdeal Cert.KernelIdeal.Gen
open Idealize.ShloMosaic Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 2) (Elt F) ℕ UU ℕ

variable (W : Dev nD → Valuation τ sig (Elt F))

abbrev adm : (p : Fin 3) → (pcfgs (F := F) p).Adm := fun p => (cfgs p).toPCfg_adm

def pdats : (p : Fin 3) → (c : Dev nD) → Dat τ (Elt F) (HIx 2) ℕ UU ℕ (Pipeline.pin (pcfgs (F := F)) adm p) c := fun p => dat W p

theorem launches (p : Fin 3) : Pipeline.LaunchFacts (nD := nD) (τ := τ) cfgs p := match p with | 0 => launch0 | 1 => launch2 | 2 => launch4

theorem plaunch (p : Fin 3) : Pipeline.PLaunchFacts (nD := nD) (τ := τ) (pcfgs (F := F)) p := (launches p).toP

/-- The arrays after call `p`. -/
def afterCall (p : Fin 3) (c : Dev nD) : Valuation τ sig (Elt F) := Pipeline.afterRegion (dat W p c) (W c)

/-- What the core owes once `k` SparseCore calls are over. -/
abbrev owing (k : ℕ) (c : Dev nD) : sProp 𝕄 :=
  iprop(∃ Wd, ⌜(K (F := F)).WBelow (SparseCore.T c : Thread nD τ) Wd (8 * k)⌝ ∗ owes (SparseCore.T c : Thread nD τ) ((K (F := F)).Otc c k) Wd)

/-- It owes nothing at the index of its own waits. -/
theorem owes_none (c : Dev nD) (k : ℕ) (g : GSem nD τ sig) : (K (F := F)).Otc c k g none = 0 := by
  by_contra h
  have h := SparseCore.Cfg.lev_of_Otc_pos (Nat.pos_of_ne_zero h)
  exact absurd h (by simp)

/-- The scoped buffers no window of the call stages stay as they are. -/
theorem scoped_eq (p : Fin 3) (c : Dev nD) (t) : (pdats W p c).Φ t = Pipeline.scopedRest (Pipeline.pin (pcfgs (F := F)) adm p).spec c := rfl

set_option backward.isDefEq.respectTransparency.types false in
/-- The call, over a set of arrays that has the windows' among them. -/
def reg [∀ e, Nonempty (Elt F e)] (p : Fin 3) (S : Finset (DevRef τ sig)) (hS : Pipeline.arrRefs (cfgs p).spec ⊆ S) :
    Pipeline.RegionSeg (pcfgs (F := F)) adm (pdats W) none (defs₀ (F := F)) 𝒱₀ (K (F := F)).L (K (F := F)).lev p where
  win := (launches p).win.to₀
  block_pos := (launches p).block_pos
  stage_whole := (launches p).stage_whole
  K := PEmpty
  osem k := k.elim
  ho := Pipeline.OwnSemFacts.none _
  hbody c := (obligation W p c).loose
  hwaits c := Pipeline.cellsWaits_intro _ _ _ p c fun w s _ => (K (F := F)).mayWait_none _ (owes_none c p.val)
  pre c := iprop(StableHlo.held (c.tc : Thread nD τ) S (W c) ∗ owing p.val c)
  post c := iprop(StableHlo.held (c.tc : Thread nD τ) S (afterCall W p c) ∗ owing p.val c)
  X _ := iprop(emp)
  Y _ := iprop(emp)
  Z c := StableHlo.held (c.tc : Thread nD τ) (S \ Pipeline.arrRefs (cfgs p).spec) (W c)
  hentry c := by
    rw [Pipeline.ownSems0_none, Pipeline.prefHeld_of_none _ rfl, StableHlo.held_sub_split (c.tc : Thread nD τ) hS (W c),
      Pipeline.arrays_held (pcfgs (F := F)) adm (pdats W) p (plaunch p) c ((pdats W p c).share_full fun _ => rfl) ((pdats W p c).arrAt · 0) (W c) fun _ => rfl]
    iintro ⟨⟨⟨Ha, Hr⟩, %Wd, %hW, HO⟩, -, -⟩
    imodintro
    isplitl [Ha]; · iexact Ha
    isplitr; · iempintro
    isplitl [HO]
    · iexists Wd
      isplitr; · ipureintro; exact fun p hp => Or.inl (hW p hp)
      iexact HO
    isplitr; · iempintro
    iexact Hr
  hin c := by
    rw [scoped_eq]
    iintro ⟨-, -, H⟩
    iexact H
  hout c := by
    rw [Pipeline.ownSems0_none, scoped_eq]
    iintro H
    isplitr; · iempintro
    isplitr; · iempintro
    iexact H
  hexit c := by
    unfold afterCall
    rw [StableHlo.held_sub_split (c.tc : Thread nD τ) hS, StableHlo.held_congr (c.tc : Thread nD τ) (S := S \ Pipeline.arrRefs (cfgs p).spec) (Pipeline.afterRegion_off (dat W p c) (W c) S),
      Pipeline.arrays_held (pcfgs (F := F)) adm (pdats W) p (plaunch p) c ((pdats W p c).share_full fun _ => rfl) ((pdats W p c).arrAt · (cfgs p).N) (Pipeline.afterRegion (dat W p c) (W c))
        fun w => (Pipeline.afterRegion_arr (dat W p c) (W c) (launches p).win.arr_inj w).symm]
    iintro ⟨Ha, ⟨%Wd, %hW, HO⟩, -, Hr⟩
    imodintro
    isplitl [Ha Hr]
    · isplitl [Ha]; · iexact Ha
      iexact Hr
    iexists Wd
    isplitr
    · ipureintro
      intro x hx
      rcases hW hx with h | ⟨w, s, rfl⟩
      · exact h
      · exact Nat.zero_le _
    iexact HO

variable {P : (K (F := F)).Pay (N := 2) (nD := nD) (Val := Elt F) (Name := ℕ) (U := UU)}

theorem cells_inj : Function.Injective (Pipeline.cellOf (nD := nD) (τ := τ) (Pipeline.pin (pcfgs (F := F)) adm)) := (plaunch 0).cellOf_inj adm

/-- What the launch deals a core for a call's transfers. -/
abbrev ghost (p : Fin 3) (c : Dev nD) : sProp 𝕄 :=
  iprop(Pipeline.cellsGhost (Pipeline.pin (pcfgs (F := F)) adm) EP p c ∗ Pipeline.toksInit (Pipeline.pin (pcfgs (F := F)) adm) EP p c)

theorem tc_run [∀ e, Nonempty (Elt F e)] (p : Fin 3) (κ : GSem nD τ sig → ℕ) (S : Finset (DevRef τ sig)) (hS : Pipeline.arrRefs (cfgs p).spec ⊆ S) (c : Dev nD) {Φ : PUnit → sProp 𝕄} :
    iprop((K (F := F)).ctx EH P κ ∗ (K (F := F)).tcSt EH c p.val ∗ boundary (SparseCore.T c : Thread nD τ) ∗ StableHlo.held (SparseCore.T c : Thread nD τ) S (W c) ∗ ghost (F := F) p c
        ∗ ((K (F := F)).tcSt EH c p.val ∗ boundary (SparseCore.T c : Thread nD τ) ∗ StableHlo.held (SparseCore.T c : Thread nD τ) S (afterCall W p c) -∗ Φ ⟨⟩))
      ⊢ wp frame (wpE ((K (F := F)).defs (D (F := F))) 𝒱 (SparseCore.T c) none) Set.univ
          (Prog.lift (.customCall (SparseCore.inner (Pipeline.entry p)) ())) Φ := by
  unfold SparseCore.Cfg.tcSt
  have h := (K (F := F)).wp_liftProg (D (F := F)) 𝒱 (SparseCore.T c) Set.univ none (.op (.customCall (Pipeline.entry p) ()) .ret) Φ
  have hr := Pipeline.RegionSeg.wp (pcfgs (F := F)) adm (pdats W) none cells_inj EP (defs₀ (F := F)) 𝒱₀ (K (F := F)).L (K (F := F)).lev (reg W p S hS) c none
    (fun _ h => nomatch h) .ret Φ
  rw [show (reg W p S hS).pre c = iprop(StableHlo.held (c.tc : Thread nD τ) S (W c) ∗ owing p.val c) from rfl,
    show (reg W p S hS).post c = iprop(StableHlo.held (c.tc : Thread nD τ) S (afterCall W p c) ∗ owing p.val c) from rfl] at hr
  iintro ⟨#Hctx, ⟨HO, Hst⟩, Hb, Hh, ⟨Hg, Ht⟩, Hk⟩
  iapply h
  iapply hr
  isplitl [Hst Hk]
  · iintro ⟨Hb, Hh, HO⟩
    rw [wp_ret]
    imodintro
    iapply Hk
    iframe Hb Hst
    isplitl [HO]; · iexact HO
    iexact Hh
  isplitl [Hb]; · iexact Hb
  isplitl [HO Hh]
  · isplitl [Hh]; · iexact Hh
    iexact HO
  isplitr
  · iapply (SparseCore.Cfg.ctx_levAts κ)
    iexact Hctx
  isplitl [Hg] <;> iassumption

end Launch

end
-- ==== Proof.Words.lean ====
/-
  The index words of a tile's loop, in closed form. On trip `t` of `T` the loop carries how many windows of index words
  it has started, how many it has used, how many windows of rows it has started out, how many of those it has waited
  for, and the window it is at. Tile `s` of SparseCore `c` does the `T` windows from `first T c s` on. The first call's
  tiles do 64 windows each, the second call's 40.
-/
module

public import proofs.«01_k».proof.Proof.Gen.KernelIdeal.Skeleton

@[expose] public section

noncomputable section

namespace Words

open Idealize.ShloMosaic Cert.KernelIdeal Cert.KernelIdeal.Gen

/-! ## What is to be true of a loop of `T` trips -/

section Text

variable (T : ℕ)

/-- The first window of tile `s` of SparseCore `c`. -/
def first (c s : ℕ) : ℕ := T * (s + 16 * c)

/-- The same as the tile computes it. -/
abbrev firstWord (c s : ℕ) : BitVec 32 :=
  Scalar.muli (Scalar.addi (Scalar.addi 0#32 (Scalar.muli (BitVec.ofNat 32 s) 1#32)) (Scalar.muli (BitVec.ofNat 32 c) 16#32)) (BitVec.ofNat 32 T)

/-- What the loop carries at the start of trip `t`. -/
def carried (t : ℕ) : BitVec 32 × BitVec 32 × BitVec 32 × BitVec 32 × BitVec 32 :=
  (BitVec.ofNat 32 (min (t + 1) T), BitVec.ofNat 32 t, BitVec.ofNat 32 t, BitVec.ofNat 32 (t - 1), BitVec.ofNat 32 (t % T))

/-- A trip's own window `w`, the window after it and the one before it, round the `T` from `f` on. -/
abbrev ownWord (f w : BitVec 32) : BitVec 32 := Scalar.addi w f
abbrev nextWord (f w : BitVec 32) : BitVec 32 :=
  Scalar.addi (Scalar.select (Scalar.cmpi .eq (Scalar.select 1#1 (Scalar.addi w 1#32) w) (BitVec.ofNat 32 T)) 0#32 (Scalar.select 1#1 (Scalar.addi w 1#32) w)) f
abbrev prevWord (f w : BitVec 32) : BitVec 32 :=
  Scalar.addi (Scalar.select (Scalar.cmpi .eq (Scalar.select 1#1 (Scalar.subi w 1#32) w) 4294967295#32) (BitVec.ofNat 32 (T - 1)) (Scalar.select 1#1 (Scalar.subi w 1#32) w)) f

/-- How many windows of index words the trip has started at its end. -/
abbrev started (f : BitVec 32) (t : Fin T) : BitVec 32 :=
  Scalar.select (Scalar.andi (Scalar.andi (Scalar.cmpi .ne (ownWord f (carried T t).2.2.2.2) (nextWord T f (carried T t).2.2.2.2))
    (Scalar.xori (Scalar.cmpi .sge (Scf.iv 0#32 1#32 t) (BitVec.ofNat 32 (T - 1))) 1#1)) 1#1) (Scalar.addi (carried T t).1 1#32) (carried T t).1

/-- What the trip hands to the next. -/
abbrev handed (f : BitVec 32) (t : Fin T) : BitVec 32 × BitVec 32 × BitVec 32 × BitVec 32 × BitVec 32 :=
  (started T f t,
    Scalar.select (Scalar.ori (Scalar.cmpi .ne (ownWord f (carried T t).2.2.2.2) (nextWord T f (carried T t).2.2.2.2)) (Scalar.cmpi .eq (Scf.iv 0#32 1#32 t) (BitVec.ofNat 32 (T - 1))))
      (Scalar.addi (carried T t).2.1 1#32) (carried T t).2.1,
    Scalar.select (Scalar.andi (Scalar.ori (Scalar.cmpi .ne (ownWord f (carried T t).2.2.2.2) (nextWord T f (carried T t).2.2.2.2)) (Scalar.cmpi .eq (Scf.iv 0#32 1#32 t) (BitVec.ofNat 32 (T - 1)))) 1#1)
      (Scalar.addi (carried T t).2.2.1 1#32) (carried T t).2.2.1,
    Scalar.select (Scalar.andi (Scalar.andi (Scalar.cmpi .ne (ownWord f (carried T t).2.2.2.2) (prevWord T f (carried T t).2.2.2.2))
      (Scalar.xori (Scalar.cmpi .eq (Scf.iv 0#32 1#32 t) 0#32) 1#1)) 1#1) (Scalar.addi (carried T t).2.2.2.1 1#32) (carried T t).2.2.2.1,
    Scalar.select (Scalar.cmpi .eq (Scalar.select 1#1 (Scalar.addi (carried T t).2.2.2.2 1#32) (carried T t).2.2.2.2) (BitVec.ofNat 32 T)) 0#32
      (Scalar.select 1#1 (Scalar.addi (carried T t).2.2.2.2 1#32) (carried T t).2.2.2.2))

variable {C : Type}

/-- Which of its steps a trip takes: it starts the next window unless it is the last, always waits for its own window's
    words and starts its rows out, and waits for the rows of the window before unless it is the first. -/
abbrev Conds (c1 c2 c5 c7 : C → Fin T → BitVec 32 → BitVec 1) : Prop :=
  ∀ (i : C) (t : Fin T), (c1 i t (carried T t).2.2.2.2 = 1#1 ↔ t.val + 1 < T) ∧ c2 i t (carried T t).2.2.2.2 = 1#1
    ∧ c5 i t (carried T t).2.2.2.2 = 1#1 ∧ (c7 i t (carried T t).2.2.2.2 = 1#1 ↔ 0 < t.val)

/-- The slots of a trip, at the offsets the trip computes. -/
abbrev Slots (o4 : BitVec 32 → Fin 3 → ℕ) (o6 o9 : BitVec 32 → Fin 1 → ℕ) (o11 o10 o12 : BitVec 32 → Fin 3 → ℕ) (o14 o17 : BitVec 32 → Fin 1 → ℕ) : Prop :=
  ∀ t : Fin T, (t.val + 1 < T → o4 (carried T t).1 = ![(t.val + 1) % 2, 0, 0] ∧ o6 (carried T t).1 = ![(t.val + 1) % 2])
    ∧ o9 (carried T t).2.1 = ![t.val % 2] ∧ o11 (carried T t).2.1 = ![t.val % 2, 0, 0]
    ∧ o10 (carried T t).2.2.1 = ![t.val % 2, 0, 0] ∧ o12 (carried T t).2.2.1 = ![t.val % 2, 0, 0] ∧ o14 (carried T t).2.2.1 = ![t.val % 2]
    ∧ (0 < t.val → o17 (carried T t).2.2.2.1 = ![(t.val + 1) % 2])

/-- The windows of a trip, at the offsets the trip computes. -/
abbrev Wins (v : C → ℕ) (o5 o13 : C → BitVec 32 → Fin 2 → ℕ) : Prop :=
  ∀ (i : C) (t : Fin T), (t.val + 1 < T → o5 i (carried T t).2.2.2.2 = ![0, 128 * (v i + (t.val + 1))])
    ∧ o13 i (carried T t).2.2.2.2 = ![128 * (v i + t.val), 0]

/-- A tile's windows lie in the `32 * T` there are. -/
theorem first_le {c s : ℕ} (hc : c < 2) (hs : s < 16) : first T c s + T ≤ 32 * T := by
  have h : s + 16 * c + 1 ≤ 32 := by omega
  exact (Nat.mul_succ T _).symm.le.trans ((Nat.mul_le_mul_left T h).trans (Nat.mul_comm T 32).le)

end Text

/-! ## The first call: 64 trips -/

namespace A

/-- A fact about every tile follows from its instances. -/
theorem forall_coords {P : grid1.Coords → Prop} (h : ∀ (c : Fin 2) (s : Fin 16), P fun a => match a with | ⟨0, _⟩ => c | ⟨1, _⟩ => s) (i : grid1.Coords) : P i := by
  have e : i = fun a => match a with | ⟨0, _⟩ => i 0 | ⟨1, _⟩ => i 1 := by
    funext a
    match a with
    | ⟨0, _⟩ => rfl
    | ⟨1, _⟩ => rfl
  rw [e]; exact h _ _

/-- The tile's first window, and its word. -/
abbrev v (i : grid1.Coords) : ℕ := first 64 (i 0).val (i 1).val
abbrev f (i : grid1.Coords) : BitVec 32 := firstWord 64 (i 0).val (i 1).val
/-- What trip `t` is handed. -/
abbrev w (t : ℕ) := carried 64 t

theorem chk1 : ∀ (i : grid1.Coords) (t : Fin 64), k1_chk1 i t (w t).1 (w t).2.1 (w t).2.2.1 (w t).2.2.2.1 (w t).2.2.2.2 :=
  fun i t => @of_decide_eq_true _ (k1_chk1.dec _ _ _ _ _ _ _) (forall_coords (P := fun i => ∀ t : Fin 64, @decide _ (k1_chk1.dec i t (w t).1 (w t).2.1 (w t).2.2.1 (w t).2.2.2.1 (w t).2.2.2.2) = true)
    (by decide +kernel) i t)
theorem chk2 : ∀ t : Fin 64, k1_chk2 (BitVec.ofNat 32 t) := by decide +kernel
theorem chk3 : ∀ t : Fin 64, k1_chk3 (BitVec.ofNat 32 t) := by decide +kernel
theorem chk4 : k1_chk4 (w 64).2.2.2.1 := by decide +kernel
theorem chk5 : ∀ i : grid1.Coords, k1_chk5 i (w 64).2.2.2.2 := forall_coords (by decide +kernel)
theorem conds : Conds 64 k1_cond1 k1_cond2 k1_cond5 k1_cond7 := forall_coords (by decide +kernel)
theorem slots : Slots 64 k1_off4 k1_off6 k1_off9 k1_off11 k1_off10 k1_off12 k1_off14 k1_off17 := by decide +kernel
theorem wins : Wins 64 v k1_off5 k1_off13 := forall_coords (by decide +kernel)
theorem last : k1_off20 (w 64).2.2.2.1 = ![1] := by decide +kernel
theorem carry : ∀ (i : grid1.Coords) (t : Fin 64), handed 64 (f i) t = w (t.val + 1) := forall_coords (by decide +kernel)
theorem le (i : grid1.Coords) : v i + 64 ≤ 2048 := first_le 64 (i 0).isLt (i 1).isLt

end A

/-! ## The second call: 40 trips -/

namespace B

/-- A fact about every tile follows from its instances. -/
theorem forall_coords {P : grid3.Coords → Prop} (h : ∀ (c : Fin 2) (s : Fin 16), P fun a => match a with | ⟨0, _⟩ => c | ⟨1, _⟩ => s) (i : grid3.Coords) : P i :=
  A.forall_coords (P := P) h i

/-- The tile's first window, and its word. -/
abbrev v (i : grid3.Coords) : ℕ := first 40 (i 0).val (i 1).val
abbrev f (i : grid3.Coords) : BitVec 32 := firstWord 40 (i 0).val (i 1).val
/-- What trip `t` is handed. -/
abbrev w (t : ℕ) := carried 40 t

theorem chk1 : ∀ (i : grid3.Coords) (t : Fin 40), k3_chk1 i t (w t).1 (w t).2.1 (w t).2.2.1 (w t).2.2.2.1 (w t).2.2.2.2 :=
  fun i t => @of_decide_eq_true _ (k3_chk1.dec _ _ _ _ _ _ _) (forall_coords (P := fun i => ∀ t : Fin 40, @decide _ (k3_chk1.dec i t (w t).1 (w t).2.1 (w t).2.2.1 (w t).2.2.2.1 (w t).2.2.2.2) = true)
    (by decide +kernel) i t)
theorem chk2 : ∀ t : Fin 40, k3_chk2 (BitVec.ofNat 32 t) := by decide +kernel
theorem chk3 : ∀ t : Fin 40, k3_chk3 (BitVec.ofNat 32 t) := by decide +kernel
theorem chk4 : k3_chk4 (w 40).2.2.2.1 := by decide +kernel
theorem chk5 : ∀ i : grid3.Coords, k3_chk5 i (w 40).2.2.2.2 := forall_coords (by decide +kernel)
theorem conds : Conds 40 k3_cond1 k3_cond2 k3_cond5 k3_cond7 := forall_coords (by decide +kernel)
theorem slots : Slots 40 k3_off4 k3_off6 k3_off9 k3_off11 k3_off10 k3_off12 k3_off14 k3_off17 := by decide +kernel
theorem wins : Wins 40 v k3_off5 k3_off13 := forall_coords (by decide +kernel)
theorem last : k3_off20 (w 40).2.2.2.1 = ![1] := by decide +kernel
theorem carry : ∀ (i : grid3.Coords) (t : Fin 40), handed 40 (f i) t = w (t.val + 1) := forall_coords (by decide +kernel)
theorem le (i : grid3.Coords) : v i + 40 ≤ 1280 := first_le 40 (i 0).isLt (i 1).isLt

end B

end Words

end
-- ==== Proof.TileA.lean ====
/-
  The first gather's kernel: what one vector subcore does with its 64 windows. Over memory references that stand for the
  kernel's own, it takes its rows of the result — at anything — to the table's rows its index words name.
-/
module

public import proofs.«01_k».proof.Proof.Tile
public import proofs.«01_k».proof.Proof.Words

@[expose] public section

noncomputable section

namespace TileA

open Idealize.ShloMosaic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Windows Words Tile
open Words.A (v f w)

variable {F : FTy → Type} [FloatOps F] {Ix : Type} [DecidableEq Ix] {Name : Type} [DecidableEq Name] [Infinite Name]
variable {U : Type} [URA U] {Lvl : Type} [Preorder Lvl]
variable (EC : UEmb Counters (MT nD τ sig Ix (Elt F) Name U Lvl)) (𝒱 : Variants) (bd : Option 𝒱.V)

variable (i : grid1.Coords) (arg2 : Memref sig .scVector .hbm S1638400x128 .f32) (harg2 : arg2.IsWhole)
  (arg3 : Memref sig .scVector .hbm S1x262144 .i32) (harg3 : arg3.IsWhole) (arg4 : Memref sig .scVector .hbm S262144x128 .f32) (harg4 : arg4.IsWhole)
  (ib : Memref sig .scVector .vmem S2x1x128 .i32) (hib : ib.IsWhole) (ism : DmaSems sig S2)
  (ob : Memref sig .scVector .vmem S2x128x128 .f32) (hob : ob.IsWhole) (osm : DmaSems sig S2) (gsm : DmaSems sig S_)

/-- The tile's buffers. -/
abbrev bufs : Bufs sig 1638400 262144 := ⟨arg2, arg3, arg4, ib, ob, ism, osm, gsm.sem⟩

/-- The tile's SparseCore and its number there. -/
abbrev cV : Fin τ.nSC := (i 0).castLE hcore1
abbrev jV : Fin τ.nSub := (i 1).castLE hsub1

variable (d : Dev nD) (ι : Ix) (qs : Fin 2 → PosShare TreeShare) (fi : Buf (Elt F) (arg3.view.loc (tile d (cV i) (jV i))))
variable (qt : PosShare TreeShare) (ft : Buf (Elt F) (arg2.view.loc (tile d (cV i) (jV i)))) (O : CellTallies nD τ sig Ix) (W₀ : Waits sig Ix)
variable (dflt : Elt F .f32)

local notation "𝕄" => MT nD τ sig Ix (Elt F) Name U Lvl
local notation "BB" => bufs arg2 arg3 arg4 ib ism ob osm gsm
local notation "WP" => wp frame (wpE (defs₀ (F := F)) 𝒱 (tile d (cV i) (jV i)) bd) Set.univ

/-- What the result is to hold: row `r` is the table's row that index word `r` names. -/
abbrev rowsOf : S262144x128.Idx → Elt F .f32 := gathered dflt (arg2.view.read (Elt F) ft) (arg3.view.read (Elt F) fi)

variable (t : Fin 64)

/-- The first part of a trip: it starts the next window, if there is one. -/
theorem part1 [EC.LandsIn (upEmb : UEmb _ (MT nD τ sig Ix (Elt F) Name U Lvl))] {Q : _ → sProp (MT nD τ sig Ix (Elt F) Name U Lvl)} :
    iprop(IFree BB d (cV i) (jV i) qs fi (slot (t + 1))
        ∗ (Ahead EC BB d (cV i) (jV i) ι qs fi (v i) 64 (t + 1) -∗ Q ⟨A.chk3 t, A.chk2 t, A.chk1 i t, Scf.iv 0#32 1#32 t, Scalar.cmpi .eq (Scf.iv 0#32 1#32 t) 0#32,
          Scalar.cmpi .eq (Scf.iv 0#32 1#32 t) 63#32, ownWord (f i) (w t).2.2.2.2, prevWord 64 (f i) (w t).2.2.2.2, nextWord 64 (f i) (w t).2.2.2.2,
          started 64 (f i) t, Scalar.cmpi .ne (ownWord (f i) (w t).2.2.2.2) (prevWord 64 (f i) (w t).2.2.2.2)⟩))
      ⊢ WP (k1_part1 (F := F) i arg2 harg2 arg3 harg3 arg4 harg4 ib hib ism ob hob osm gsm (f i) 0#32 1#32 t (w t).1 (w t).2.1 (w t).2.2.1
        (w t).2.2.2.1 (w t).2.2.2.2) Q := by
  rw [k1_part1_eq_skeleton]
  unfold k1_part1_skel
  simp only [wp_bind]
  refine BIBase.Entails.trans ?_ (wp_check 𝒱 bd (A.chk3 t))
  refine BIBase.Entails.trans ?_ (wp_check 𝒱 bd (A.chk2 t))
  refine BIBase.Entails.trans ?_ (wp_check 𝒱 bd (A.chk1 i t))
  refine wp_guarded 𝒱 bd (BIBase.Entails.trans ?_ (step_fetch EC 𝒱 bd (B := BB) (ι := ι) (qs := qs) (fi := fi) (v := v i) (A.conds i t).1 fun h Q => fetch EC 𝒱 bd
    (sem_slot _ (slot (t + 1)) ((A.slots t).1 ((A.conds i t).1.mp h)).2 _ _) ((A.slots t).1 ((A.conds i t).1.mp h)).1 ((A.wins i t).1 ((A.conds i t).1.mp h))))
  iintro ⟨Hf, HQ⟩
  iframe Hf
  iintro Hf
  rw [wp_pure]; imodintro
  iapply HQ
  iexact Hf

/-- The second part: it waits for its window's words, and gathers the rows they name. -/
theorem part2 [EC.LandsIn (upEmb : UEmb _ (MT nD τ sig Ix (Elt F) Name U Lvl))] {Q : _ → sProp (MT nD τ sig Ix (Elt F) Name U Lvl)}
    (hin : ∀ x, (arg3.view.read (Elt F) fi x).toNat < 1638400) (hN : RowCredits BB) {a5 : BitVec 32} {b64 b65 : BitVec 1} {a66 a71 a76 : BitVec 32} {b96 : BitVec 1} :
    iprop(Transfers.MayWaits (tile d (cV i) (jV i)) ι O ∗ Ahead EC BB d (cV i) (jV i) ι qs fi (v i) 64 t ∗ OFree BB d (cV i) (jV i) (slot t)
        ∗ (arg2.view.loc (tile d (cV i) (jV i)) ↦[arg2.view.set]{qt} ft) ∗ semVal (tile d (cV i) (jV i), .dma gsm.sem) 0 ∗ Owes d (cV i) (jV i) ι O W₀
        ∗ (iprop(IFree BB d (cV i) (jV i) qs fi (slot t) ∗ OFull BB d (cV i) (jV i) (rowsOf i arg2 arg3 d fi ft dflt) (slot t) (v i + t)
          ∗ (arg2.view.loc (tile d (cV i) (jV i)) ↦[arg2.view.set]{qt} ft) ∗ semVal (tile d (cV i) (jV i), .dma gsm.sem) 0 ∗ Owes d (cV i) (jV i) ι O W₀) -∗ Q ⟨⟩))
      ⊢ WP (k1_part2 (F := F) i arg2 harg2 arg3 harg3 arg4 harg4 ib hib ism ob hob osm gsm t (w t).1 (w t).2.1 (w t).2.2.1
        (w t).2.2.2.1 (w t).2.2.2.2 (A.chk3 t) (A.chk2 t) (A.chk1 i t) a5 b64 b65 a66 a71 a76 b96) Q := by
  have hl := A.le i
  have hw : 128 * (v i + t) + 128 ≤ 262144 := by omega
  rw [k1_part2_eq_skeleton]
  unfold k1_part2_skel
  refine wp_guarded 𝒱 bd ?_
  simp only [wp_bind, ite_self]
  refine BIBase.Entails.trans ?_ (step_waitIn EC 𝒱 bd (B := BB) (ι := ι) (qs := qs) (fi := fi) (v := v i) (T := 64) (t := t) (O := O) (W₀ := W₀) (A.conds i t).2.1 t.isLt
    fun h Q D => wait EC 𝒱 bd (sem_slot _ (slot t) (A.slots t).2.1 _ _) rfl)
  iintro ⟨#Hm, Ha, Ho, Ht, Hv, HO, HQ⟩
  iframe Hm Ha HO
  iintro ⟨Hi, HO⟩
  iapply (gather EC 𝒱 bd (B := BB) (ι := ι) (qs := qs) (fi := fi) (qt := qt) (ft := ft) (dflt := dflt) (b := slot t) (b' := slot t) (w := v i + t) rfl hin hw rfl
    (A.slots t).2.2.1 (A.slots t).2.2.2.1 (hN _ _ _ _ _))
  iframe Hi Ho Ht Hv
  iintro Hg
  iapply (waitGather EC 𝒱 bd (B := BB) (ι := ι) (qs := qs) (fi := fi) (qt := qt) (ft := ft) (b := slot t) (b' := slot t) (w := v i + t) (O := O) (W₀ := W₀) rfl rfl)
  iframe Hm Hg HO
  iintro H
  rw [wp_pure]; imodintro
  iapply HQ
  iexact H

/-- A trip: from its start to the next trip's. -/
theorem trip [EC.LandsIn (upEmb : UEmb _ (MT nD τ sig Ix (Elt F) Name U Lvl))]
    (hin : ∀ x, (arg3.view.read (Elt F) fi x).toNat < 1638400) (hN : RowCredits BB) :
    iprop(Transfers.MayWaits (tile d (cV i) (jV i)) ι O ∗ State EC BB d (cV i) (jV i) ι qs fi (rowsOf i arg2 arg3 d fi ft dflt) (v i) 64 t qt ft O W₀)
      ⊢ WP (k1_t1_body (F := F) i arg2 harg2 arg3 harg3 arg4 harg4 ib hib ism ob hob osm gsm (f i) t (w t))
        (fun x => iprop(⌜x = w (t + 1)⌝ ∗ Transfers.MayWaits (tile d (cV i) (jV i)) ι O ∗ State EC BB d (cV i) (jV i) ι qs fi (rowsOf i arg2 arg3 d fi ft dflt) (v i) 64 (t + 1) qt ft O W₀)) := by
  have hl := A.le i
  have hw : 128 * (v i + 64) ≤ 262144 := by omega
  have hc := A.carry i t
  unfold k1_t1_body State
  rw [wp_bind]
  refine BIBase.Entails.trans ?_ (part1 EC 𝒱 bd i arg2 harg2 arg3 harg3 arg4 harg4 ib hib ism ob hob osm gsm d ι qs fi t)
  iintro ⟨#Hm, Ha, Hi, Ho, Hb, Hr, Hd, Ht, Hv, HO⟩
  iframe Hi
  iintro Ha'
  simp only [wp_bind]
  iapply (part2 EC 𝒱 bd i arg2 harg2 arg3 harg3 arg4 harg4 ib hib ism ob hob osm gsm d ι qs fi qt ft O W₀ dflt t hin hN)
  iframe Hm Ha Ho Ht Hv HO
  iintro ⟨Hi, Ho, Ht, Hv, HO⟩
  iapply (wp_guarded 𝒱 bd (step_put EC 𝒱 bd (B := BB) (ι := ι) (G := rowsOf i arg2 arg3 d fi ft dflt) (v := v i) (T := 64) (t := t) (A.conds i t).2.2.1
    fun h Q => put EC 𝒱 bd (w := v i + t) (hi := v i + 64) (sem_slot _ (slot t) (A.slots t).2.2.2.2.2.1 _ _) (A.slots t).2.2.2.2.1 (A.wins i t).2 (by omega) hw))
  iframe Ho Hr
  iintro ⟨Hb', Hr⟩
  simp only [ite_self]
  iapply (wp_guarded 𝒱 bd (step_waitOut EC 𝒱 bd (B := BB) (ι := ι) (G := rowsOf i arg2 arg3 d fi ft dflt) (v := v i) (t := t) (O := O) (W₀ := W₀) (A.conds i t).2.2.2
    fun h Q D => wait EC 𝒱 bd (sem_slot _ (slot (t + 1)) ((A.slots t).2.2.2.2.2.2 ((A.conds i t).2.2.2.mp h)) _ _) rfl))
  iframe Hm Hb Hd HO
  iintro ⟨Ho, Hd, HO⟩
  rw [wp_pure]; imodintro
  isplitr
  · ipureintro; exact hc
  rw [slot_add_two]
  iframe Ha' Hi Ho Hb' Hr Ht Hv HO
  iexact Hd

/-- The tile's kernel: from its rows of the result at anything to those rows at the table's rows its words name. -/
theorem body [EC.LandsIn (upEmb : UEmb _ (MT nD τ sig Ix (Elt F) Name U Lvl))]
    (hin : ∀ x, (arg3.view.read (Elt F) fi x).toNat < 1638400) (hN : RowCredits BB) :
    iprop(Transfers.MayWaits (tile d (cV i) (jV i)) ι O ∗ Idle BB d (cV i) (jV i) ι qs fi qt ft O W₀
        ∗ Some (tile d (cV i) (jV i)) arg4.view (rowsIn 262144 (128 * v i) (128 * (v i + 64))))
      ⊢ WP (cc1_sc_kernel (F := F) i arg2 harg2 arg3 harg3 arg4 harg4 ib hib ism ob hob osm gsm)
        (fun _ => iprop(Idle BB d (cV i) (jV i) ι qs fi qt ft O W₀
          ∗ Holds (tile d (cV i) (jV i)) arg4.view (rowsIn 262144 (128 * v i) (128 * (v i + 64))) (rowsOf i arg2 arg3 d fi ft dflt)) :
            PUnit → sProp (MT nD τ sig Ix (Elt F) Name U Lvl)) := by
  have hd : iprop(Done BB d (cV i) (jV i) (rowsOf i arg2 arg3 d fi ft dflt) (v i) 63
      ∗ Holds (tile d (cV i) (jV i)) arg4.view (rowsIn 262144 (128 * (v i + 63)) (128 * (v i + 63 + 1))) (rowsOf i arg2 arg3 d fi ft dflt))
      ⊢ (Holds (tile d (cV i) (jV i)) arg4.view (rowsIn 262144 (128 * v i) (128 * (v i + 64))) (rowsOf i arg2 arg3 d fi ft dflt) :
        sProp (MT nD τ sig Ix (Elt F) Name U Lvl)) := done_succ
  rw [cc1_sc_kernel_eq_skeleton]
  unfold cc1_sc_kernel_skel
  rw [k1_part3_eq_skeleton, k1_part4_eq_skeleton]
  unfold k1_part3_skel k1_part4_skel
  simp only [wp_bind]
  unfold Idle
  iintro ⟨#Hm, ⟨Hi, Hi', Ho, Ho', Ht, Hv, HO⟩, Hr⟩
  iapply (fetch EC 𝒱 bd (B := BB) (ι := ι) (qs := qs) (fi := fi) (b := 0) (w := v i) (sem_slot _ 0 k1_off3_eq _ _) k1_off1_eq
    ((k1_off2_eq i).trans (congrArg (fun n => ![0, n]) (by unfold Words.A.v first; omega))))
  iframe Hi
  iintro Ha
  rw [wp_pure]; imodintro
  iapply (Scf.wp_for _ _ _ _ _ _ k1_t1_ok _ _ (fun n x => iprop(⌜x = w n⌝ ∗ Transfers.MayWaits (tile d (cV i) (jV i)) ι O
    ∗ State EC BB d (cV i) (jV i) ι qs fi (rowsOf i arg2 arg3 d fi ft dflt) (v i) 64 n qt ft O W₀)) fun t x => by
      iintro ⟨%hw, H⟩
      subst hw
      iapply (trip EC 𝒱 bd i arg2 harg2 arg3 harg3 arg4 harg4 ib hib ism ob hob osm gsm d ι qs fi qt ft O W₀ dflt t hin hN)
      iexact H)
  isplitl [Ha Hi' Ho Ho' Hr Ht Hv HO]
  · isplitr
    · ipureintro; rfl
    isplitr
    · iexact Hm
    iapply (start EC BB d (cV i) (jV i) ι qs fi (v i) 64 qt ft O W₀ (by decide) (rowsOf i arg2 arg3 d fi ft dflt))
    iframe Ha Hi' Ho Ho' Hr Ht Hv HO
  iintro %x ⟨%hw, -, Hs⟩
  obtain rfl : x = w 64 := hw
  iapply (wp_check 𝒱 bd (A.chk5 i))
  iapply (wp_check 𝒱 bd A.chk4)
  rw [wp_pure]; imodintro
  ihave Hs := (finish EC BB d (cV i) (jV i) ι qs fi (v i) 64 qt ft O W₀ (rowsOf i arg2 arg3 d fi ft dflt) (by decide) (by decide) (by decide)) $$ Hs
  icases Hs with ⟨Hi, Hi', Ho, Hf, Hd, Ht, Hv, HO⟩
  unfold OFly
  iapply (wait EC 𝒱 bd (O := O) (W₀ := W₀) (sem_slot _ 1 A.last _ _) rfl)
  iframe Hm Hf HO
  iintro ⟨⟨Hr, Ho'⟩, Hv', HO⟩
  rw [wp_pure]; imodintro
  iframe Hi Hi' Ho Ht Hv HO
  unfold OFree
  iframe Ho' Hv'
  iapply hd
  iframe Hd
  iexact Hr

end TileA
-- ==== Proof.TileB.lean ====
/-
  The second gather's kernel: what one vector subcore does with its 40 windows. Over memory references that stand for the
  kernel's own, it takes its rows of the result — at anything — to the table's rows its index words name.
-/
module

public import proofs.«01_k».proof.Proof.Tile
public import proofs.«01_k».proof.Proof.Words

@[expose] public section

noncomputable section

namespace TileB

open Idealize.ShloMosaic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Windows Words Tile
open Words.B (v f w)

variable {F : FTy → Type} [FloatOps F] {Ix : Type} [DecidableEq Ix] {Name : Type} [DecidableEq Name] [Infinite Name]
variable {U : Type} [URA U] {Lvl : Type} [Preorder Lvl]
variable (EC : UEmb Counters (MT nD τ sig Ix (Elt F) Name U Lvl)) (𝒱 : Variants) (bd : Option 𝒱.V)

variable (i : grid3.Coords) (arg2 : Memref sig .scVector .hbm S1228800x128 .f32) (harg2 : arg2.IsWhole)
  (arg3 : Memref sig .scVector .hbm S1x163840 .i32) (harg3 : arg3.IsWhole) (arg4 : Memref sig .scVector .hbm S163840x128 .f32) (harg4 : arg4.IsWhole)
  (ib : Memref sig .scVector .vmem S2x1x128 .i32) (hib : ib.IsWhole) (ism : DmaSems sig S2)
  (ob : Memref sig .scVector .vmem S2x128x128 .f32) (hob : ob.IsWhole) (osm : DmaSems sig S2) (gsm : DmaSems sig S_)

/-- The tile's buffers. -/
abbrev bufs : Bufs sig 1228800 163840 := ⟨arg2, arg3, arg4, ib, ob, ism, osm, gsm.sem⟩

/-- The tile's SparseCore and its number there. -/
abbrev cV : Fin τ.nSC := (i 0).castLE hcore3
abbrev jV : Fin τ.nSub := (i 1).castLE hsub3

variable (d : Dev nD) (ι : Ix) (qs : Fin 2 → PosShare TreeShare) (fi : Buf (Elt F) (arg3.view.loc (tile d (cV i) (jV i))))
variable (qt : PosShare TreeShare) (ft : Buf (Elt F) (arg2.view.loc (tile d (cV i) (jV i)))) (O : CellTallies nD τ sig Ix) (W₀ : Waits sig Ix)
variable (dflt : Elt F .f32)

local notation "𝕄" => MT nD τ sig Ix (Elt F) Name U Lvl
local notation "BB" => bufs arg2 arg3 arg4 ib ism ob osm gsm
local notation "WP" => wp frame (wpE (defs₀ (F := F)) 𝒱 (tile d (cV i) (jV i)) bd) Set.univ

/-- What the result is to hold: row `r` is the table's row that index word `r` names. -/
abbrev rowsOf : S163840x128.Idx → Elt F .f32 := gathered dflt (arg2.view.read (Elt F) ft) (arg3.view.read (Elt F) fi)

variable (t : Fin 40)

/-- The first part of a trip: it starts the next window, if there is one. -/
theorem part1 [EC.LandsIn (upEmb : UEmb _ (MT nD τ sig Ix (Elt F) Name U Lvl))] {Q : _ → sProp (MT nD τ sig Ix (Elt F) Name U Lvl)} :
    iprop(IFree BB d (cV i) (jV i) qs fi (slot (t + 1))
        ∗ (Ahead EC BB d (cV i) (jV i) ι qs fi (v i) 40 (t + 1) -∗ Q ⟨B.chk3 t, B.chk2 t, B.chk1 i t, Scf.iv 0#32 1#32 t, Scalar.cmpi .eq (Scf.iv 0#32 1#32 t) 0#32,
          Scalar.cmpi .eq (Scf.iv 0#32 1#32 t) 39#32, ownWord (f i) (w t).2.2.2.2, prevWord 40 (f i) (w t).2.2.2.2, nextWord 40 (f i) (w t).2.2.2.2,
          started 40 (f i) t, Scalar.cmpi .ne (ownWord (f i) (w t).2.2.2.2) (prevWord 40 (f i) (w t).2.2.2.2)⟩))
      ⊢ WP (k3_part1 (F := F) i arg2 harg2 arg3 harg3 arg4 harg4 ib hib ism ob hob osm gsm (f i) 0#32 1#32 t (w t).1 (w t).2.1 (w t).2.2.1
        (w t).2.2.2.1 (w t).2.2.2.2) Q := by
  rw [k3_part1_eq_skeleton]
  unfold k3_part1_skel
  simp only [wp_bind]
  refine BIBase.Entails.trans ?_ (wp_check 𝒱 bd (B.chk3 t))
  refine BIBase.Entails.trans ?_ (wp_check 𝒱 bd (B.chk2 t))
  refine BIBase.Entails.trans ?_ (wp_check 𝒱 bd (B.chk1 i t))
  refine wp_guarded 𝒱 bd (BIBase.Entails.trans ?_ (step_fetch EC 𝒱 bd (B := BB) (ι := ι) (qs := qs) (fi := fi) (v := v i) (B.conds i t).1 fun h Q => fetch EC 𝒱 bd
    (sem_slot _ (slot (t + 1)) ((B.slots t).1 ((B.conds i t).1.mp h)).2 _ _) ((B.slots t).1 ((B.conds i t).1.mp h)).1 ((B.wins i t).1 ((B.conds i t).1.mp h))))
  iintro ⟨Hf, HQ⟩
  iframe Hf
  iintro Hf
  rw [wp_pure]; imodintro
  iapply HQ
  iexact Hf

/-- The second part: it waits for its window's words, and gathers the rows they name. -/
theorem part2 [EC.LandsIn (upEmb : UEmb _ (MT nD τ sig Ix (Elt F) Name U Lvl))] {Q : _ → sProp (MT nD τ sig Ix (Elt F) Name U Lvl)}
    (hin : ∀ x, (arg3.view.read (Elt F) fi x).toNat < 1228800) (hN : RowCredits BB) {a5 : BitVec 32} {b40 b65 : BitVec 1} {a66 a71 a76 : BitVec 32} {b96 : BitVec 1} :
    iprop(Transfers.MayWaits (tile d (cV i) (jV i)) ι O ∗ Ahead EC BB d (cV i) (jV i) ι qs fi (v i) 40 t ∗ OFree BB d (cV i) (jV i) (slot t)
        ∗ (arg2.view.loc (tile d (cV i) (jV i)) ↦[arg2.view.set]{qt} ft) ∗ semVal (tile d (cV i) (jV i), .dma gsm.sem) 0 ∗ Owes d (cV i) (jV i) ι O W₀
        ∗ (iprop(IFree BB d (cV i) (jV i) qs fi (slot t) ∗ OFull BB d (cV i) (jV i) (rowsOf i arg2 arg3 d fi ft dflt) (slot t) (v i + t)
          ∗ (arg2.view.loc (tile d (cV i) (jV i)) ↦[arg2.view.set]{qt} ft) ∗ semVal (tile d (cV i) (jV i), .dma gsm.sem) 0 ∗ Owes d (cV i) (jV i) ι O W₀) -∗ Q ⟨⟩))
      ⊢ WP (k3_part2 (F := F) i arg2 harg2 arg3 harg3 arg4 harg4 ib hib ism ob hob osm gsm t (w t).1 (w t).2.1 (w t).2.2.1
        (w t).2.2.2.1 (w t).2.2.2.2 (B.chk3 t) (B.chk2 t) (B.chk1 i t) a5 b40 b65 a66 a71 a76 b96) Q := by
  have hl := B.le i
  have hw : 128 * (v i + t) + 128 ≤ 163840 := by omega
  rw [k3_part2_eq_skeleton]
  unfold k3_part2_skel
  refine wp_guarded 𝒱 bd ?_
  simp only [wp_bind, ite_self]
  refine BIBase.Entails.trans ?_ (step_waitIn EC 𝒱 bd (B := BB) (ι := ι) (qs := qs) (fi := fi) (v := v i) (T := 40) (t := t) (O := O) (W₀ := W₀) (B.conds i t).2.1 t.isLt
    fun h Q D => wait EC 𝒱 bd (sem_slot _ (slot t) (B.slots t).2.1 _ _) rfl)
  iintro ⟨#Hm, Ha, Ho, Ht, Hv, HO, HQ⟩
  iframe Hm Ha HO
  iintro ⟨Hi, HO⟩
  iapply (gather EC 𝒱 bd (B := BB) (ι := ι) (qs := qs) (fi := fi) (qt := qt) (ft := ft) (dflt := dflt) (b := slot t) (b' := slot t) (w := v i + t) rfl hin hw rfl
    (B.slots t).2.2.1 (B.slots t).2.2.2.1 (hN _ _ _ _ _))
  iframe Hi Ho Ht Hv
  iintro Hg
  iapply (waitGather EC 𝒱 bd (B := BB) (ι := ι) (qs := qs) (fi := fi) (qt := qt) (ft := ft) (b := slot t) (b' := slot t) (w := v i + t) (O := O) (W₀ := W₀) rfl rfl)
  iframe Hm Hg HO
  iintro H
  rw [wp_pure]; imodintro
  iapply HQ
  iexact H

/-- A trip: from its start to the next trip's. -/
theorem trip [EC.LandsIn (upEmb : UEmb _ (MT nD τ sig Ix (Elt F) Name U Lvl))]
    (hin : ∀ x, (arg3.view.read (Elt F) fi x).toNat < 1228800) (hN : RowCredits BB) :
    iprop(Transfers.MayWaits (tile d (cV i) (jV i)) ι O ∗ State EC BB d (cV i) (jV i) ι qs fi (rowsOf i arg2 arg3 d fi ft dflt) (v i) 40 t qt ft O W₀)
      ⊢ WP (k3_t1_body (F := F) i arg2 harg2 arg3 harg3 arg4 harg4 ib hib ism ob hob osm gsm (f i) t (w t))
        (fun x => iprop(⌜x = w (t + 1)⌝ ∗ Transfers.MayWaits (tile d (cV i) (jV i)) ι O ∗ State EC BB d (cV i) (jV i) ι qs fi (rowsOf i arg2 arg3 d fi ft dflt) (v i) 40 (t + 1) qt ft O W₀)) := by
  have hl := B.le i
  have hw : 128 * (v i + 40) ≤ 163840 := by omega
  have hc := B.carry i t
  unfold k3_t1_body State
  rw [wp_bind]
  refine BIBase.Entails.trans ?_ (part1 EC 𝒱 bd i arg2 harg2 arg3 harg3 arg4 harg4 ib hib ism ob hob osm gsm d ι qs fi t)
  iintro ⟨#Hm, Ha, Hi, Ho, Hb, Hr, Hd, Ht, Hv, HO⟩
  iframe Hi
  iintro Ha'
  simp only [wp_bind]
  iapply (part2 EC 𝒱 bd i arg2 harg2 arg3 harg3 arg4 harg4 ib hib ism ob hob osm gsm d ι qs fi qt ft O W₀ dflt t hin hN)
  iframe Hm Ha Ho Ht Hv HO
  iintro ⟨Hi, Ho, Ht, Hv, HO⟩
  iapply (wp_guarded 𝒱 bd (step_put EC 𝒱 bd (B := BB) (ι := ι) (G := rowsOf i arg2 arg3 d fi ft dflt) (v := v i) (T := 40) (t := t) (B.conds i t).2.2.1
    fun h Q => put EC 𝒱 bd (w := v i + t) (hi := v i + 40) (sem_slot _ (slot t) (B.slots t).2.2.2.2.2.1 _ _) (B.slots t).2.2.2.2.1 (B.wins i t).2 (by omega) hw))
  iframe Ho Hr
  iintro ⟨Hb', Hr⟩
  simp only [ite_self]
  iapply (wp_guarded 𝒱 bd (step_waitOut EC 𝒱 bd (B := BB) (ι := ι) (G := rowsOf i arg2 arg3 d fi ft dflt) (v := v i) (t := t) (O := O) (W₀ := W₀) (B.conds i t).2.2.2
    fun h Q D => wait EC 𝒱 bd (sem_slot _ (slot (t + 1)) ((B.slots t).2.2.2.2.2.2 ((B.conds i t).2.2.2.mp h)) _ _) rfl))
  iframe Hm Hb Hd HO
  iintro ⟨Ho, Hd, HO⟩
  rw [wp_pure]; imodintro
  isplitr
  · ipureintro; exact hc
  rw [slot_add_two]
  iframe Ha' Hi Ho Hb' Hr Ht Hv HO
  iexact Hd

/-- The tile's kernel: from its rows of the result at anything to those rows at the table's rows its words name. -/
theorem body [EC.LandsIn (upEmb : UEmb _ (MT nD τ sig Ix (Elt F) Name U Lvl))]
    (hin : ∀ x, (arg3.view.read (Elt F) fi x).toNat < 1228800) (hN : RowCredits BB) :
    iprop(Transfers.MayWaits (tile d (cV i) (jV i)) ι O ∗ Idle BB d (cV i) (jV i) ι qs fi qt ft O W₀
        ∗ Some (tile d (cV i) (jV i)) arg4.view (rowsIn 163840 (128 * v i) (128 * (v i + 40))))
      ⊢ WP (cc3_sc_kernel (F := F) i arg2 harg2 arg3 harg3 arg4 harg4 ib hib ism ob hob osm gsm)
        (fun _ => iprop(Idle BB d (cV i) (jV i) ι qs fi qt ft O W₀
          ∗ Holds (tile d (cV i) (jV i)) arg4.view (rowsIn 163840 (128 * v i) (128 * (v i + 40))) (rowsOf i arg2 arg3 d fi ft dflt)) :
            PUnit → sProp (MT nD τ sig Ix (Elt F) Name U Lvl)) := by
  have hd : iprop(Done BB d (cV i) (jV i) (rowsOf i arg2 arg3 d fi ft dflt) (v i) 39
      ∗ Holds (tile d (cV i) (jV i)) arg4.view (rowsIn 163840 (128 * (v i + 39)) (128 * (v i + 39 + 1))) (rowsOf i arg2 arg3 d fi ft dflt))
      ⊢ (Holds (tile d (cV i) (jV i)) arg4.view (rowsIn 163840 (128 * v i) (128 * (v i + 40))) (rowsOf i arg2 arg3 d fi ft dflt) :
        sProp (MT nD τ sig Ix (Elt F) Name U Lvl)) := done_succ
  rw [cc3_sc_kernel_eq_skeleton]
  unfold cc3_sc_kernel_skel
  rw [k3_part3_eq_skeleton, k3_part4_eq_skeleton]
  unfold k3_part3_skel k3_part4_skel
  simp only [wp_bind]
  unfold Idle
  iintro ⟨#Hm, ⟨Hi, Hi', Ho, Ho', Ht, Hv, HO⟩, Hr⟩
  iapply (fetch EC 𝒱 bd (B := BB) (ι := ι) (qs := qs) (fi := fi) (b := 0) (w := v i) (sem_slot _ 0 k3_off3_eq _ _) k3_off1_eq
    ((k3_off2_eq i).trans (congrArg (fun n => ![0, n]) (by unfold Words.B.v first; omega))))
  iframe Hi
  iintro Ha
  rw [wp_pure]; imodintro
  iapply (Scf.wp_for _ _ _ _ _ _ k3_t1_ok _ _ (fun n x => iprop(⌜x = w n⌝ ∗ Transfers.MayWaits (tile d (cV i) (jV i)) ι O
    ∗ State EC BB d (cV i) (jV i) ι qs fi (rowsOf i arg2 arg3 d fi ft dflt) (v i) 40 n qt ft O W₀)) fun t x => by
      iintro ⟨%hw, H⟩
      subst hw
      iapply (trip EC 𝒱 bd i arg2 harg2 arg3 harg3 arg4 harg4 ib hib ism ob hob osm gsm d ι qs fi qt ft O W₀ dflt t hin hN)
      iexact H)
  isplitl [Ha Hi' Ho Ho' Hr Ht Hv HO]
  · isplitr
    · ipureintro; rfl
    isplitr
    · iexact Hm
    iapply (start EC BB d (cV i) (jV i) ι qs fi (v i) 40 qt ft O W₀ (by decide) (rowsOf i arg2 arg3 d fi ft dflt))
    iframe Ha Hi' Ho Ho' Hr Ht Hv HO
  iintro %x ⟨%hw, -, Hs⟩
  obtain rfl : x = w 40 := hw
  iapply (wp_check 𝒱 bd (B.chk5 i))
  iapply (wp_check 𝒱 bd B.chk4)
  rw [wp_pure]; imodintro
  ihave Hs := (finish EC BB d (cV i) (jV i) ι qs fi (v i) 40 qt ft O W₀ (rowsOf i arg2 arg3 d fi ft dflt) (by decide) (by decide) (by decide)) $$ Hs
  icases Hs with ⟨Hi, Hi', Ho, Hf, Hd, Ht, Hv, HO⟩
  unfold OFly
  iapply (wait EC 𝒱 bd (O := O) (W₀ := W₀) (sem_slot _ 1 B.last _ _) rfl)
  iframe Hm Hf HO
  iintro ⟨⟨Hr, Ho'⟩, Hv', HO⟩
  rw [wp_pure]; imodintro
  iframe Hi Hi' Ho Ht Hv HO
  unfold OFree
  iframe Ho' Hv'
  iapply hd
  iframe Hd
  iexact Hr

end TileB
-- ==== Proof.Launch.lean ====
/-
  The two calls: what each is given, what it brings back, and that its tiles do so.
-/
module

public import proofs.«01_k».proof.Proof.TcRun
public import proofs.«01_k».proof.Proof.TileA
public import proofs.«01_k».proof.Proof.TileB

@[expose] public section

noncomputable section

namespace Launch

open Cert.KernelIdeal Cert.KernelIdeal.Gen Windows Words
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The arrays -/

/-- An array of the TensorCore. -/
abbrev at' (d : Dev nD) (b : Ref sig .tc) : Loc nD τ sig := (SparseCore.T d).loc b

/-- The arrays the calls are given: tables, index arrays, and what their results hold before them. -/
structure Given (F : FTy → Type) where
  tabA (d : Dev nD) : Buf (Elt F) (at' d main_v18)
  idxA (d : Dev nD) : Buf (Elt F) (at' d main_v17)
  outA (d : Dev nD) : Buf (Elt F) (at' d main_v19)
  tabB (d : Dev nD) : Buf (Elt F) (at' d main_v37)
  idxB (d : Dev nD) : Buf (Elt F) (at' d main_v36)
  outB (d : Dev nD) : Buf (Elt F) (at' d main_v38)

variable (X : Given F)

/-- What an element is where no index word says. -/
def dfltA (d : Dev nD) : Elt F .f32 := X.tabA d (ValueIdx.ix2 (0 : Fin 1638400) (0 : Fin 128))
def dfltB (d : Dev nD) : Elt F .f32 := X.tabB d (ValueIdx.ix2 (0 : Fin 1228800) (0 : Fin 128))

/-- The rows the index words name. -/
def GA (d : Dev nD) : Buf (Elt F) (at' d main_v19) := gathered (F := F) (N := 1638400) (M := 262144) (dfltA X d) (X.tabA d) (X.idxA d)
def GB (d : Dev nD) : Buf (Elt F) (at' d main_v38) := gathered (F := F) (N := 1228800) (M := 163840) (dfltB X d) (X.tabB d) (X.idxB d)

/-- What the calls ask of the index arrays: every word names a row of the table. -/
def PreOK : Prop := ∀ d : Dev nD, (∀ x : S1x262144.Idx, (X.idxA d x).toNat < 1638400) ∧ ∀ x : S1x163840.Idx, (X.idxB d x).toNat < 1228800

/-- The hands of the two calls. -/
abbrev handA (d : Dev nD) (f : Buf (Elt F) (at' d main_v19)) (q : PosShare TreeShare) (rows : Finset S262144x128.Idx) : sProp 𝕄 :=
  hand (lt := at' d main_v18) (li := at' d main_v17) (lo := at' d main_v19) q (X.tabA d) (X.idxA d) rows f
abbrev handB (d : Dev nD) (f : Buf (Elt F) (at' d main_v38)) (q : PosShare TreeShare) (rows : Finset S163840x128.Idx) : sProp 𝕄 :=
  hand (lt := at' d main_v37) (li := at' d main_v36) (lo := at' d main_v38) q (X.tabB d) (X.idxB d) rows f

/-- The SparseCores and tiles of a call, by number. -/
theorem nCore_eq (q : Fin 2) : (K (F := F)).nCore q = 2 := match q with | 0 => rfl | 1 => rfl
theorem nSub_eq (q : Fin 2) : (K (F := F)).nSub q = 16 := match q with | 0 => rfl | 1 => rfl

abbrev coreHand (q : Fin 2) (d : Dev nD) (after : Bool) (c : Fin 2) : sProp 𝕄 := match q with
  | 0 => handA X d (if after then GA X d else X.outA d) (coreShare c) (coreRows 262144 8192 c)
  | 1 => handB X d (if after then GB X d else X.outB d) (coreShare c) (coreRows 163840 5120 c)
abbrev tileHand (q : Fin 2) (d : Dev nD) (after : Bool) (c : Fin 2) (s : Fin 16) : sProp 𝕄 := match q with
  | 0 => handA X d (if after then GA X d else X.outA d) (tileShare c s) (tileRows 262144 8192 c s)
  | 1 => handB X d (if after then GB X d else X.outB d) (tileShare c s) (tileRows 163840 5120 c s)

/-- A call takes the table, the index array and the result as it finds it, and brings back the result with the rows. -/
def P : (K (F := F)).Pay (nD := nD) (Val := Elt F) (Name := ℕ) (U := UU) where
  st := fun q d c => coreHand X q d false (Fin.cast (nCore_eq q) c)
  dn := fun q d c => coreHand X q d true (Fin.cast (nCore_eq q) c)
  go := fun q d c s => tileHand X q d false (Fin.cast (nCore_eq q) c) (Fin.cast (nSub_eq q) s)
  td := fun q d c s => tileHand X q d true (Fin.cast (nCore_eq q) c) (Fin.cast (nSub_eq q) s)
  x := fun _ _ => iprop(emp)

instance coreHand_storable (q : Fin 2) (d : Dev nD) (after : Bool) (c : Fin 2) : BI.Storable (upEmb : UEmb _ 𝕄) (coreHand X q d after c) := match q with
  | 0 => (inferInstance : BI.Storable (upEmb : UEmb _ 𝕄) (handA X d _ _ _))
  | 1 => (inferInstance : BI.Storable (upEmb : UEmb _ 𝕄) (handB X d _ _ _))
instance tileHand_storable (q : Fin 2) (d : Dev nD) (after : Bool) (c : Fin 2) (s : Fin 16) : BI.Storable (upEmb : UEmb _ 𝕄) (tileHand X q d after c s) := match q with
  | 0 => (inferInstance : BI.Storable (upEmb : UEmb _ 𝕄) (handA X d _ _ _))
  | 1 => (inferInstance : BI.Storable (upEmb : UEmb _ 𝕄) (handB X d _ _ _))

instance P_storable : (P (F := F) X).IsStorable where
  st _ _ _ := coreHand_storable X _ _ _ _
  dn _ _ _ := coreHand_storable X _ _ _ _
  go _ _ _ _ := tileHand_storable X _ _ _ _ _
  td _ _ _ _ := tileHand_storable X _ _ _ _ _

/-! ## Dealing out and gathering up -/

/-- A SparseCore's hand is its tiles'. -/
theorem core_tiles (q : Fin 2) (d : Dev nD) (after : Bool) (c : Fin 2) :
    (coreHand X q d after c : sProp 𝕄) = bigSep Finset.univ fun s : Fin 16 => tileHand X q d after c s := match q with
  | 0 => deal (by decide) _ _ _ _ (blocks_disjoint 262144 _ 8192 16) (tiles_cover 262144 8192 c)
  | 1 => deal (by decide) _ _ _ _ (blocks_disjoint 163840 _ 5120 16) (tiles_cover 163840 5120 c)

/-- A call's operands and result are the SparseCores' hands. -/
theorem whole_cores (q : Fin 2) (d : Dev nD) (after : Bool) : (match q with
      | 0 => handA X d (if after then GA X d else X.outA d) fullShare Finset.univ
      | 1 => handB X d (if after then GB X d else X.outB d) fullShare Finset.univ : sProp 𝕄)
    = bigSep Finset.univ fun c : Fin 2 => coreHand X q d after c := match q with
  | 0 => deal (by decide) _ _ _ _ (blocks_disjoint 262144 _ (8192 * 16) 2) (cores_cover 262144 8192 (by decide))
  | 1 => deal (by decide) _ _ _ _ (blocks_disjoint 163840 _ (5120 * 16) 2) (cores_cover 163840 5120 (by decide))

theorem vecSplit (q : Fin 2) : (K (F := F)).VecSplit' (P X) q := by
  have hu (f : Fin 16 → sProp 𝕄) : (bigSep (Finset.univ : Finset (Fin ((K (F := F)).nSub q))) fun s => f (Fin.cast (nSub_eq q) s)) = bigSep Finset.univ f :=
    match q with | 0 => rfl | 1 => rfl
  intro d c
  show coreHand X q d false (Fin.cast (nCore_eq q) c) ⊢ |={Set.univ}=> iprop(
      (bigSep Finset.univ fun s => tileHand X q d false (Fin.cast (nCore_eq q) c) (Fin.cast (nSub_eq q) s))
      ∗ ((bigSep Finset.univ fun s => tileHand X q d true (Fin.cast (nCore_eq q) c) (Fin.cast (nSub_eq q) s))
          -∗ coreHand X q d true (Fin.cast (nCore_eq q) c)))
  rw [hu (fun s => tileHand X q d false (Fin.cast (nCore_eq q) c) s), hu (fun s => tileHand X q d true (Fin.cast (nCore_eq q) c) s), core_tiles, core_tiles]
  iintro H; imodintro
  isplitl [H]; · iexact H
  iintro H; iexact H

/-! ## The tiles -/

abbrev tabA : Memref sig .scVector .hbm S1638400x128 .f32 := Memref.whole main_v18_scv
abbrev idxA : Memref sig .scVector .hbm S1x262144 .i32 := Memref.whole main_v17_scv
abbrev outA : Memref sig .scVector .hbm S262144x128 .f32 := Memref.whole main_v19_scv
abbrev ibA : Memref sig .scVector .vmem S2x1x128 .i32 := Memref.whole cc1_scoped0
abbrev obA : Memref sig .scVector .vmem S2x128x128 .f32 := Memref.whole cc1_scoped2
abbrev BA : Bufs sig 1638400 262144 := TileA.bufs tabA idxA outA ibA cc1_scoped1 obA cc1_scoped3 cc1_scoped4

abbrev tabB : Memref sig .scVector .hbm S1228800x128 .f32 := Memref.whole main_v37_scv
abbrev idxB : Memref sig .scVector .hbm S1x163840 .i32 := Memref.whole main_v36_scv
abbrev outB : Memref sig .scVector .hbm S163840x128 .f32 := Memref.whole main_v38_scv
abbrev ibB : Memref sig .scVector .vmem S2x1x128 .i32 := Memref.whole cc3_scoped0
abbrev obB : Memref sig .scVector .vmem S2x128x128 .f32 := Memref.whole cc3_scoped2
abbrev BB : Bufs sig 1228800 163840 := TileB.bufs tabB idxB outB ibB cc3_scoped1 obB cc3_scoped3 cc3_scoped4

theorem creditsA : Tile.RowCredits BA := by
  intro offo inbo h1 h2 hg
  have : ∀ hg : S1638400x128.Gathers 0 S128x128, ∑ j : Fin (S128x128.size (Shape.Gathers.axis' hg)),
      sig.dmaCredit .scVector (Kind.scVector.table .vmem) obA.view.buf ((S128x128.rowRect (Shape.Gathers.axis' hg) j).shape) .f32 = Windows.gCredit BA := by decide
  exact this hg

theorem creditsB : Tile.RowCredits BB := by
  intro offo inbo h1 h2 hg
  have : ∀ hg : S1228800x128.Gathers 0 S128x128, ∑ j : Fin (S128x128.size (Shape.Gathers.axis' hg)),
      sig.dmaCredit .scVector (Kind.scVector.table .vmem) obB.view.buf ((S128x128.rowRect (Shape.Gathers.axis' hg) j).shape) .f32 = Windows.gCredit BB := by decide
  exact this hg

/-- The two numbers of a tile. -/
abbrev cA (L : grid1.Coords) : Fin 2 := Fin.cast (show grid1.bound 0 = 2 from rfl) (L 0)
abbrev sA (L : grid1.Coords) : Fin 16 := Fin.cast (show grid1.bound 1 = 16 from rfl) (L 1)
abbrev cB (L : grid3.Coords) : Fin 2 := Fin.cast (show grid3.bound 0 = 2 from rfl) (L 0)
abbrev sB (L : grid3.Coords) : Fin 16 := Fin.cast (show grid3.bound 1 = 16 from rfl) (L 1)

/-- A tile's task, from its kernel's run: over whole arrays, what it is handed and has of its own are the buffers' own. -/
theorem task {N M : ℕ} (B : Bufs sig N M) (d : Dev nD) (c : Fin τ.nSC) (s : Fin τ.nSub) (O : CellTallies nD τ sig (HIx 2)) (W : Waits sig (HIx 2))
    {a b : Ref sig .scVector} (ha : ((Proc.scVector c s).devRef a).owner = .proc (.scVector c s)) (hb : ((Proc.scVector c s).devRef b).owner = .proc (.scVector c s))
    (hab : b ≠ a) (hsem : [semAt B.isem 0, semAt B.isem 1, semAt B.osem 0, semAt B.osem 1, B.gsem].Nodup)
    (hi0 : (Some (V d c s) B.ibuf.view Finset.univ : sProp 𝕄) = iprop(∃ f, (V d c s).loc a ↦{fullShare} f))
    (ho0 : (Some (V d c s) B.obuf.view Finset.univ : sProp 𝕄) = iprop(∃ f, (V d c s).loc b ↦{fullShare} f))
    {H H' R Ho Ho' : sProp 𝕄} (h : H ⊢ iprop(R ∗ Ho)) (h' : iprop(R ∗ Ho') ⊢ H') {prog : Prog (TpuEff nD τ sig (Elt F) Λ₀ (V d c s).2) PUnit}
    (hrun : iprop(levAts (K (F := F)).L (K (F := F)).lev ∗ (R ∗ Ho) ∗ Own d c s B ∗ owes (V d c s) O W)
      ⊢ wp frame (wpE (defs₀ (F := F)) 𝒱₀ (V d c s) none) Set.univ prog
          (fun _ => iprop((R ∗ Ho') ∗ Own d c s B ∗ ∃ W', ⌜∀ p ∈ W', p ∈ W ∨ p.2 = none⌝ ∗ owes (V d c s) O W') : PUnit → sProp 𝕄)) :
    iprop(levAts (K (F := F)).L (K (F := F)).lev ∗ emp ∗ H ∗ scopedBufs (V d c s) ∗ scopedSems0 (V d c s) ∗ owes (V d c s) O W)
      ⊢ wp frame (wpE (defs₀ (F := F)) 𝒱₀ (V d c s) none) Set.univ prog
          (fun _ => iprop(H' ∗ scopedBufs (V d c s) ∗ scopedSems0 (V d c s) ∗ ∃ W', ⌜∀ p ∈ W', p ∈ W ∨ p.2 = none⌝ ∗ owes (V d c s) O W') : PUnit → sProp 𝕄) := by
  rw [(K (F := F)).scopedBufs_V facts d c s, SparseCore.Cfg.scopedSems0_V (Val := Elt F) d c s, ownSems0_five d c s hsem, ownBufs_two d c s ha hb hab, ← hi0, ← ho0]
  iintro ⟨#Hlv, -, HH, ⟨Hi, Hr, Hbufs⟩, ⟨Hs, Hsems⟩, HO⟩
  ihave HH := h $$ HH
  ihave Hw := hrun $$ [HH Hi Hr Hs HO]
  · iframe Hlv HH HO
    unfold Own
    iframe Hi Hr Hs
  iapply (wp_wand frame) $$ Hw
  iintro %x ⟨HH, Hown, HO⟩
  unfold Own
  icases Hown with ⟨Hi, Hr, Hs⟩
  iframe Hi Hr Hbufs Hs Hsems HO
  iapply h'
  iexact HH

/-- What a tile is handed, as its kernel's run takes it, and as the run leaves it. -/
theorem of_hand {t : Thread nD τ} {a i o : Ref sig t.2.kind} (q : PosShare TreeShare) (ft : Buf (Elt F) (t.loc a)) (fi : Buf (Elt F) (t.loc i))
    (rows : Finset o.ty.shape.Idx) (f : Buf (Elt F) (t.loc o)) :
    (hand q ft fi rows f : sProp 𝕄) ⊢ iprop(((t.loc a ↦[(View.whole a).set]{q} ft) ∗ t.loc i ↦{q} fi) ∗ Some t (View.whole o) rows) := by
  unfold Windows.Some
  rw [show (View.whole o).setOn rows = rows from Finset.map_refl, show (View.whole a).set = Finset.univ from View.set_whole _]
  iintro ⟨Ht, Hx, Ho⟩
  iframe Ht Hx
  iexists f
  iexact Ho

theorem to_hand {t : Thread nD τ} {a i o : Ref sig t.2.kind} (q : PosShare TreeShare) (ft : Buf (Elt F) (t.loc a)) (fi : Buf (Elt F) (t.loc i))
    (rows : Finset o.ty.shape.Idx) (g : Buf (Elt F) (t.loc o)) :
    (iprop(((t.loc a ↦[(View.whole a).set]{q} ft) ∗ t.loc i ↦{q} fi) ∗ Holds t (View.whole o) rows g) : sProp 𝕄) ⊢ hand q ft fi rows g := by
  unfold Windows.Holds
  rw [show (View.whole o).setOn rows = rows from Finset.map_refl, show (View.whole a).set = Finset.univ from View.set_whole _]
  iintro ⟨⟨Ht, Hx⟩, %f, Ho, %hf⟩
  iframe Ht Hx
  iapply (Entails.of_eq (pointsTo_congr (I := rows) (q := fullShare) (f := f) (g := g) fun x hx => hf x hx))
  iexact Ho

theorem some_whole {t : Thread nD τ} (b : Ref sig t.2.kind) :
    (Some t (View.whole b) Finset.univ : sProp 𝕄) = iprop(∃ f, t.loc b ↦{fullShare} f) := by
  unfold Windows.Some
  rw [show (View.whole b).setOn Finset.univ = Finset.univ from Finset.map_refl]

set_option maxRecDepth 16384 in
theorem taskA (d : Dev nD) (L : grid1.Coords) (hpre : PreOK X) (O : CellTallies nD τ sig (HIx 2)) (W : Waits sig (HIx 2)) (hO : ∀ g, O g none = 0) :
    iprop(levAts (K (F := F)).L (K (F := F)).lev ∗ emp ∗ tileHand X 0 d false (cA L) (sA L)
        ∗ scopedBufs (V d (TileA.cV L) (TileA.jV L)) ∗ scopedSems0 (V d (TileA.cV L) (TileA.jV L)) ∗ owes (V d (TileA.cV L) (TileA.jV L)) O W)
      ⊢ wp frame (wpE (defs₀ (F := F)) 𝒱₀ (V d (TileA.cV L) (TileA.jV L)) none) Set.univ
          (cc1_sc_kernel L tabA (Memref.isWhole_whole _) idxA (Memref.isWhole_whole _) outA (Memref.isWhole_whole _)
            ibA (Memref.isWhole_whole _) cc1_scoped1 obA (Memref.isWhole_whole _) cc1_scoped3 cc1_scoped4)
          fun _ => iprop(tileHand X 0 d true (cA L) (sA L)
            ∗ scopedBufs (V d (TileA.cV L) (TileA.jV L)) ∗ scopedSems0 (V d (TileA.cV L) (TileA.jV L))
            ∗ ∃ W', ⌜∀ p ∈ W', p ∈ W ∨ p.2 = none⌝ ∗ owes (V d (TileA.cV L) (TileA.jV L)) O W') := by
  have hrows : tileRows 262144 8192 (cA L) (sA L) = rowsIn 262144 (128 * Words.A.v L) (128 * (Words.A.v L + 64)) := by
    refine congrArg₂ (rowsIn 262144) ?_ ?_
    · show 0 + 8192 * 16 * (L 0).val + 8192 * (L 1).val = 128 * (64 * ((L 1).val + 16 * (L 0).val))
      omega
    · show 0 + 8192 * 16 * (L 0).val + 8192 * ((L 1).val + 1) = 128 * (64 * ((L 1).val + 16 * (L 0).val) + 64)
      omega
  have hb := TileA.body (F := F) (Name := ℕ) (U := UU) (Lvl := ℕ) countersEmb 𝒱₀ none L tabA (Memref.isWhole_whole _) idxA (Memref.isWhole_whole _) outA (Memref.isWhole_whole _)
    ibA (Memref.isWhole_whole _) cc1_scoped1 obA (Memref.isWhole_whole _) cc1_scoped3 cc1_scoped4 d (default : HIx 2) (halves (tileShare (cA L) (sA L)))
    (X.idxA d) (tileShare (cA L) (sA L)) (X.tabA d) O W (dfltA X d) (fun x => (hpre d).1 x) creditsA
  rw [← hrows] at hb
  exact task BA d (TileA.cV L) (TileA.jV L) O W (a := cc1_scoped0) (b := cc1_scoped2) rfl rfl (by decide) (by decide) (some_whole _) (some_whole _)
    (of_hand (t := V d (TileA.cV L) (TileA.jV L)) (a := main_v18_scv) (i := main_v17_scv) (o := main_v19_scv) _ _ _ _ _)
    (to_hand (t := V d (TileA.cV L) (TileA.jV L)) (a := main_v18_scv) (i := main_v17_scv) (o := main_v19_scv) _ _ _ _ (GA X d))
    (tile_run d (TileA.cV L) (TileA.jV L) BA (tileShare (cA L) (sA L)) (X.idxA d) (X.tabA d) O W hO hb)

set_option maxRecDepth 16384 in
theorem taskB (d : Dev nD) (L : grid3.Coords) (hpre : PreOK X) (O : CellTallies nD τ sig (HIx 2)) (W : Waits sig (HIx 2)) (hO : ∀ g, O g none = 0) :
    iprop(levAts (K (F := F)).L (K (F := F)).lev ∗ emp ∗ tileHand X 1 d false (cB L) (sB L)
        ∗ scopedBufs (V d (TileB.cV L) (TileB.jV L)) ∗ scopedSems0 (V d (TileB.cV L) (TileB.jV L)) ∗ owes (V d (TileB.cV L) (TileB.jV L)) O W)
      ⊢ wp frame (wpE (defs₀ (F := F)) 𝒱₀ (V d (TileB.cV L) (TileB.jV L)) none) Set.univ
          (cc3_sc_kernel L tabB (Memref.isWhole_whole _) idxB (Memref.isWhole_whole _) outB (Memref.isWhole_whole _)
            ibB (Memref.isWhole_whole _) cc3_scoped1 obB (Memref.isWhole_whole _) cc3_scoped3 cc3_scoped4)
          fun _ => iprop(tileHand X 1 d true (cB L) (sB L)
            ∗ scopedBufs (V d (TileB.cV L) (TileB.jV L)) ∗ scopedSems0 (V d (TileB.cV L) (TileB.jV L))
            ∗ ∃ W', ⌜∀ p ∈ W', p ∈ W ∨ p.2 = none⌝ ∗ owes (V d (TileB.cV L) (TileB.jV L)) O W') := by
  have hrows : tileRows 163840 5120 (cB L) (sB L) = rowsIn 163840 (128 * Words.B.v L) (128 * (Words.B.v L + 40)) := by
    refine congrArg₂ (rowsIn 163840) ?_ ?_
    · show 0 + 5120 * 16 * (L 0).val + 5120 * (L 1).val = 128 * (40 * ((L 1).val + 16 * (L 0).val))
      omega
    · show 0 + 5120 * 16 * (L 0).val + 5120 * ((L 1).val + 1) = 128 * (40 * ((L 1).val + 16 * (L 0).val) + 40)
      omega
  have hb := TileB.body (F := F) (Name := ℕ) (U := UU) (Lvl := ℕ) countersEmb 𝒱₀ none L tabB (Memref.isWhole_whole _) idxB (Memref.isWhole_whole _) outB (Memref.isWhole_whole _)
    ibB (Memref.isWhole_whole _) cc3_scoped1 obB (Memref.isWhole_whole _) cc3_scoped3 cc3_scoped4 d (default : HIx 2) (halves (tileShare (cB L) (sB L)))
    (X.idxB d) (tileShare (cB L) (sB L)) (X.tabB d) O W (dfltB X d) (fun x => (hpre d).2 x) creditsB
  rw [← hrows] at hb
  exact task BB d (TileB.cV L) (TileB.jV L) O W (a := cc3_scoped0) (b := cc3_scoped2) rfl rfl (by decide) (by decide) (some_whole _) (some_whole _)
    (of_hand (t := V d (TileB.cV L) (TileB.jV L)) (a := main_v37_scv) (i := main_v36_scv) (o := main_v38_scv) _ _ _ _ _)
    (to_hand (t := V d (TileB.cV L) (TileB.jV L)) (a := main_v37_scv) (i := main_v36_scv) (o := main_v38_scv) _ _ _ _ (GB X d))
    (tile_run d (TileB.cV L) (TileB.jV L) BB (tileShare (cB L) (sB L)) (X.idxB d) (X.tabB d) O W hO hb)

/-! ## The obligations -/

/-- A tile's grid point. -/
def coordsA (c : Fin (grid1.bound 0)) (s : Fin (grid1.bound 1)) : grid1.Coords :=
  fun | 0 => c | 1 => s | ⟨_ + 2, h⟩ => absurd h (Nat.not_lt.2 (Nat.le_add_left _ _))
def coordsB (c : Fin (grid3.bound 0)) (s : Fin (grid3.bound 1)) : grid3.Coords :=
  fun | 0 => c | 1 => s | ⟨_ + 2, h⟩ => absurd h (Nat.not_lt.2 (Nat.le_add_left _ _))

theorem defs₀_A (c : Fin τ.nSC) (s : Fin τ.nSub) :
    defs₀ (F := F) (.scVector c s) 1 ()
      = SparseCore.onTile hcore1 hsub1 (fun c s => cc1_sc_kernel (coordsA c s) tabA (Memref.isWhole_whole _) idxA (Memref.isWhole_whole _)
          outA (Memref.isWhole_whole _) ibA (Memref.isWhole_whole _) cc1_scoped1 obA (Memref.isWhole_whole _) cc1_scoped3 cc1_scoped4) ⟨⟩ c s := rfl
theorem defs₀_B (c : Fin τ.nSC) (s : Fin τ.nSub) :
    defs₀ (F := F) (.scVector c s) 3 ()
      = SparseCore.onTile hcore3 hsub3 (fun c s => cc3_sc_kernel (coordsB c s) tabB (Memref.isWhole_whole _) idxB (Memref.isWhole_whole _)
          outB (Memref.isWhole_whole _) ibB (Memref.isWhole_whole _) cc3_scoped1 obB (Memref.isWhole_whole _) cc3_scoped3 cc3_scoped4) ⟨⟩ c s := rfl

set_option maxRecDepth 16384 in
theorem tileObl (hpre : PreOK X) (q : Fin 2) : (K (F := F)).TileObl (D (F := F)) 𝒱 (P X) v₀ q := by
  intro d c i O W hO _ _
  simp only [show (P X).ox = fun _ _ => 0 from rfl, add_zero]
  match q with
  | 0 =>
    have hci : ((K (F := F)).core 0 c).val < grid1.bound 0 ∧ ((K (F := F)).sub 0 i).val < grid1.bound 1 := ⟨c.isLt, i.isLt⟩
    change _ ⊢ wp _ _ _ (Pipeline.liftProg (defs₀ (F := F) (.scVector ((K (F := F)).core 0 c) ((K (F := F)).sub 0 i)) 1 ())) _
    refine BI.Entails.trans ?_ (Pipeline.wp_liftProg (D (F := F)) (Pipeline.defs_kernel pcfgs defs₀) 𝒱₀ _ Set.univ none _ _)
    rw [defs₀_A]; simp only [SparseCore.onTile, hci, and_self, ↓reduceDIte]
    exact (taskA X d (coordsA ⟨_, hci.1⟩ ⟨_, hci.2⟩) hpre O W hO).trans (wp_mono frame _ _ fun _ => obl_post)
  | 1 =>
    have hci : ((K (F := F)).core 1 c).val < grid3.bound 0 ∧ ((K (F := F)).sub 1 i).val < grid3.bound 1 := ⟨c.isLt, i.isLt⟩
    change _ ⊢ wp _ _ _ (Pipeline.liftProg (defs₀ (F := F) (.scVector ((K (F := F)).core 1 c) ((K (F := F)).sub 1 i)) 3 ())) _
    refine BI.Entails.trans ?_ (Pipeline.wp_liftProg (D (F := F)) (Pipeline.defs_kernel pcfgs defs₀) 𝒱₀ _ Set.univ none _ _)
    rw [defs₀_B]; simp only [SparseCore.onTile, hci, and_self, ↓reduceDIte]
    exact (taskB X d (coordsB ⟨_, hci.1⟩ ⟨_, hci.2⟩) hpre O W hO).trans (wp_mono frame _ _ fun _ => obl_post)

/-! ## The launch element -/

/-- What the launch deals a core for the TensorCore calls' transfers. -/
abbrev ghosts (d : Dev nD) : sProp 𝕄 := bigSep Finset.univ fun p : Fin 3 => ghost (F := F) p d

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

theorem bigSep_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 2 => (P X).x q thr) := by
  unfold u₀
  iintro Hu
  ihave H := (ownU_pair (initOf (K (F := F)).hsCells (K (F := F)).hsToks) _) $$ Hu
  icases H with ⟨HH, HR⟩
  ihave H := (own_pair_emb embR (initOf (Pipeline.cells (Pipeline.pin (pcfgs (F := F)) adm) cells_inj) (Pipeline.launchToks (Pipeline.pin (pcfgs (F := F)) adm) cells_inj))
    (1 : Counters)) $$ HR
  icases H with ⟨HP, -⟩
  imod (Pipeline.fund_ghost (Pipeline.pin (pcfgs (F := F)) adm) EP cells_inj) $$ HP with ⟨Hg, Ht⟩
  imodintro
  isplitl [HH]; · iexact HH
  isplitl [Hg Ht]
  · simp only [ghosts, ghost, bigSep_sep']
    isplitl [Hg] <;> iassumption
  rw [show (bigSep Finset.univ fun thr : Thread nD τ => bigSep Finset.univ fun q : Fin 2 => (P (F := F) X).x q thr) = bigSep Finset.univ fun _ => iprop(emp) from
    bigSep_congr fun _ _ => bigSep_emp _, bigSep_emp]
  iempintro

end Launch

end
-- ==== Proof.Ops.lean ====
/-
  What the host runs between the calls, as lists of operations: what each list writes, that it touches the TensorCore's arrays
  alone, and that @main is these lists with the calls between them.
-/
module

public import proofs.«01_k».proof.Proof.Launch

@[expose] public section

noncomputable section

namespace Launch

open Cert.KernelIdeal Cert.KernelIdeal.Gen
open Idealize.ShloMosaic
open Idealize.SL Idealize.SL.RA Idealize.SL.BI Idealize.SL.Sem

variable {F : FTy → Type} [FloatOps F]

/-- A reference of the TensorCore, as a buffer of its device. -/
abbrev dv (b : Ref sig .tc) : DevRef τ sig := Proc.devRef .tc b

/-- The TensorCore's arrays. -/
def arrs : Finset (DevRef τ sig) := (Finset.univ.filter fun b : Ref sig .tc => ¬ b.isScoped).map ⟨Proc.devRef .tc, Proc.devRef_injective _⟩

theorem mem_arrs {b : Ref sig .tc} (h : b.isScoped = false) : dv b ∈ arrs :=
  Finset.mem_map.mpr ⟨b, Finset.mem_filter.mpr ⟨Finset.mem_univ _, by simp [h]⟩, rfl⟩

/-- Operations whose operands and results are references of the TensorCore's arrays touch those arrays alone. -/
theorem sub_of_map {ops : List (HloOp τ sig (Elt F))} {l : List (List (Ref sig .tc))} (h : ops.map HloOp.bufs = l.map fun r => (r.map dv).toFinset)
    (hl : ∀ r ∈ l, ∀ b ∈ r, b.isScoped = false) : ∀ op ∈ ops, op.bufs ⊆ arrs := by
  intro op hop b hb
  obtain ⟨r, hr, e⟩ := List.mem_map.mp (h ▸ List.mem_map_of_mem hop : op.bufs ∈ l.map fun r => (r.map dv).toFinset)
  rw [← e] at hb
  obtain ⟨x, hx, rfl⟩ := List.mem_map.mp (List.mem_toFinset.mp hb)
  exact mem_arrs (hl r hr x hx)

/-- The matrices, the pair positions, and the tables by lane, filled up to whole blocks. -/
abbrev ops₁ : List (HloOp τ sig (Elt F)) := [StableHlo.nullary main_cst (fun i => FloatOps.ofBits .f32 (lit0 (S128x128.rowMajor i))),
  StableHlo.nullary main_cst_0 (fun i => FloatOps.ofBits .f32 (lit1 (S128x128.rowMajor i))),
  StableHlo.nullary main_c (fun i => lit2 (S325.rowMajor i)),
  StableHlo.unary main_arg1 main_v0 ((transpose S26x32x100001 [0, 2, 1] · transposes_S26x100001x32_S26x32x100001_0_2_1) : (⟨S26x100001x32, .f32⟩ : BufTy).Contents (Elt F) → (⟨S26x32x100001, .f32⟩ : BufTy).Contents (Elt F)),
  StableHlo.nullary main_c_1 (constantI S_ 32 0#32),
  StableHlo.TRef.unary (.of main_c_1 : StableHlo.TRef sig ⟨S_, .i32⟩) main_call0.v0 (sitofp .f32),
  StableHlo.TRef.binary (.of main_v0 : StableHlo.TRef sig ⟨S26x32x100001, .f32⟩) main_call0.v0 main_call0.v1 (fun x v => pad S28x32x102400 ![0, 0, 0] ![2, 0, 2399] ![0, 0, 0] x v pads_S26x32x100001_S28x32x102400_020_000_023990 h_S_)]
/-- The merged table by field rows, the index words of the first sixteen fields, and the table filled up to 128 lanes. -/
abbrev ops₂ : List (HloOp τ sig (Elt F)) := [StableHlo.reshape main_v2 main_v3 (rfl : (.f32 : EltTy) = .f32) shapeCasts_S409600x128_S1638400x32,
  StableHlo.unary main_arg0 main_v4 ((extractStridedSlice S16384x16 ![0, 0] · slices_S16384x26_S16384x16_0_0) : (⟨S16384x26, .i32⟩ : BufTy).Contents (Elt F) → (⟨S16384x16, .i32⟩ : BufTy).Contents (Elt F)),
  StableHlo.nullary main_v5 (iotaInDim S16 32 0),
  StableHlo.unary main_v5 main_v6 (broadcastInDim S1x16 ![1] bcast_S16_S1x16_1 : (⟨S16, .i32⟩ : BufTy).Contents (Elt F) → (⟨S1x16, .i32⟩ : BufTy).Contents (Elt F)),
  StableHlo.nullary main_c_2 (constantI S_ 32 4#32),
  StableHlo.TRef.unary (.of main_c_2 : StableHlo.TRef sig ⟨S_, .i32⟩) main_call1.v0 id,
  StableHlo.TRef.unary main_call1.v0 main_call1.v1 (broadcastInDim S1x16 ![] bcast_S_S1x16),
  StableHlo.TRef.binary (.of main_v6 : StableHlo.TRef sig ⟨S1x16, .i32⟩) main_call1.v1 main_call1.v2 Host.divsi,
  StableHlo.TRef.unary (.of main_v6 : StableHlo.TRef sig ⟨S1x16, .i32⟩) main_call1.v3 signi,
  StableHlo.TRef.unary main_call1.v0 main_call1.v4 signi,
  StableHlo.TRef.unary main_call1.v4 main_call1.v5 (broadcastInDim S1x16 ![] bcast_S_S1x16),
  StableHlo.TRef.binary main_call1.v3 main_call1.v5 main_call1.v6 (cmpi .ne),
  StableHlo.TRef.unary main_call1.v0 main_call1.v7 (broadcastInDim S1x16 ![] bcast_S_S1x16),
  StableHlo.TRef.binary (.of main_v6 : StableHlo.TRef sig ⟨S1x16, .i32⟩) main_call1.v7 main_call1.v8 Host.remsi,
  StableHlo.TRef.nullary main_call1.c (constantI S_ 32 0#32),
  StableHlo.TRef.unary main_call1.c main_call1.v9 (broadcastInDim S1x16 ![] bcast_S_S1x16),
  StableHlo.TRef.binary main_call1.v8 main_call1.v9 main_call1.v10 (cmpi .ne),
  StableHlo.TRef.binary main_call1.v6 main_call1.v10 main_call1.v11 andi,
  StableHlo.TRef.nullary main_call1.c_0 (constantI S_ 32 1#32),
  StableHlo.TRef.unary main_call1.c_0 main_call1.v12 (broadcastInDim S1x16 ![] bcast_S_S1x16),
  StableHlo.TRef.binary main_call1.v2 main_call1.v12 main_call1.v13 subi,
  StableHlo.TRef.ternary main_call1.v11 main_call1.v13 main_call1.v2 main_call1_call0.v0 select,
  StableHlo.nullary main_c_3 (constantI S_ 32 102400#32),
  StableHlo.unary main_c_3 main_v8 (broadcastInDim S1x16 ![] bcast_S_S1x16 : (⟨S_, .i32⟩ : BufTy).Contents (Elt F) → (⟨S1x16, .i32⟩ : BufTy).Contents (Elt F)),
  StableHlo.binary main_v7 main_v8 main_v9 (muli : (⟨S1x16, .i32⟩ : BufTy).Contents (Elt F) → (⟨S1x16, .i32⟩ : BufTy).Contents (Elt F) → (⟨S1x16, .i32⟩ : BufTy).Contents (Elt F)),
  StableHlo.unary main_v9 main_v10 (broadcastInDim S16384x16 ![0, 1] bcast_S1x16_S16384x16_0_1 : (⟨S1x16, .i32⟩ : BufTy).Contents (Elt F) → (⟨S16384x16, .i32⟩ : BufTy).Contents (Elt F)),
  StableHlo.binary main_v10 main_v4 main_v11 (addi : (⟨S16384x16, .i32⟩ : BufTy).Contents (Elt F) → (⟨S16384x16, .i32⟩ : BufTy).Contents (Elt F) → (⟨S16384x16, .i32⟩ : BufTy).Contents (Elt F)),
  StableHlo.nullary main_c_4 (constantI S_ 32 4#32),
  StableHlo.unary main_c_4 main_v12 (broadcastInDim S16384x16 ![] bcast_S_S16384x16 : (⟨S_, .i32⟩ : BufTy).Contents (Elt F) → (⟨S16384x16, .i32⟩ : BufTy).Contents (Elt F)),
  StableHlo.binary main_v11 main_v12 main_v13 (muli : (⟨S16384x16, .i32⟩ : BufTy).Contents (Elt F) → (⟨S16384x16, .i32⟩ : BufTy).Contents (Elt F) → (⟨S16384x16, .i32⟩ : BufTy).Contents (Elt F)),
  StableHlo.nullary main_c_5 (constantI S_ 32 4#32),
  StableHlo.TRef.unary (.of main_c_5 : StableHlo.TRef sig ⟨S_, .i32⟩) main_call2.v0 id,
  StableHlo.TRef.nullary main_call2.c (constantI S_ 32 0#32),
  StableHlo.TRef.binary main_call2.v0 main_call2.c main_call2.v1 (cmpi .eq),
  StableHlo.TRef.nullary main_call2.c_0 (constantI S_ 32 1#32),
  StableHlo.TRef.ternary main_call2.v1 main_call2.c_0 main_call2.v0 main_call2_call0.v0 select,
  StableHlo.TRef.unary main_call2.call0.v0 main_call2.v3 (broadcastInDim S1x16 ![] bcast_S_S1x16),
  StableHlo.TRef.binary (.of main_v6 : StableHlo.TRef sig ⟨S1x16, .i32⟩) main_call2.v3 main_call2.v4 Host.remsi,
  StableHlo.TRef.nullary main_call2.c_1 (constantI S_ 32 0#32),
  StableHlo.TRef.unary main_call2.c_1 main_call2.v5 (broadcastInDim S1x16 ![] bcast_S_S1x16),
  StableHlo.TRef.binary main_call2.v4 main_call2.v5 main_call2.v6 (cmpi .ne),
  StableHlo.TRef.nullary main_call2.c_2 (constantI S_ 32 0#32),
  StableHlo.TRef.unary main_call2.c_2 main_call2.v7 (broadcastInDim S1x16 ![] bcast_S_S1x16),
  StableHlo.TRef.binary main_call2.v4 main_call2.v7 main_call2.v8 (cmpi .slt),
  StableHlo.TRef.nullary main_call2.c_3 (constantI S_ 32 0#32),
  StableHlo.TRef.binary main_call2.call0.v0 main_call2.c_3 main_call2.v9 (cmpi .slt),
  StableHlo.TRef.unary main_call2.v9 main_call2.v10 (broadcastInDim S1x16 ![] bcast_S_S1x16),
  StableHlo.TRef.binary main_call2.v8 main_call2.v10 main_call2.v11 (cmpi .ne),
  StableHlo.TRef.binary main_call2.v11 main_call2.v6 main_call2.v12 andi,
  StableHlo.TRef.unary main_call2.call0.v0 main_call2.v13 (broadcastInDim S1x16 ![] bcast_S_S1x16),
  StableHlo.TRef.binary main_call2.v4 main_call2.v13 main_call2.v14 addi,
  StableHlo.TRef.ternary main_call2.v12 main_call2.v14 main_call2.v4 main_call2.v15 select,
  StableHlo.unary main_v14 main_v15 (broadcastInDim S16384x16 ![0, 1] bcast_S1x16_S16384x16_0_1 : (⟨S1x16, .i32⟩ : BufTy).Contents (Elt F) → (⟨S16384x16, .i32⟩ : BufTy).Contents (Elt F)),
  StableHlo.binary main_v13 main_v15 main_v16 (addi : (⟨S16384x16, .i32⟩ : BufTy).Contents (Elt F) → (⟨S16384x16, .i32⟩ : BufTy).Contents (Elt F) → (⟨S16384x16, .i32⟩ : BufTy).Contents (Elt F)),
  StableHlo.reshape main_v16 main_v17 (rfl : (.i32 : EltTy) = .i32) shapeCasts_S16384x16_S1x262144,
  StableHlo.nullary main_c_6 (constantI S_ 32 0#32),
  StableHlo.TRef.unary (.of main_c_6 : StableHlo.TRef sig ⟨S_, .i32⟩) main_call3.v0 (sitofp .f32),
  StableHlo.TRef.binary (.of main_v3 : StableHlo.TRef sig ⟨S1638400x32, .f32⟩) main_call3.v0 main_call3.v1 (fun x v => pad S1638400x128 ![0, 0] ![0, 96] ![0, 0] x v pads_S1638400x32_S1638400x128_000_0960 h_S_)]
/-- The first rows, cut to 32 lanes. -/
abbrev ops₃ : List (HloOp τ sig (Elt F)) := [StableHlo.unary main_v19 main_v20 ((extractStridedSlice S262144x32 ![0, 0] · slices_S262144x128_S262144x32_0_0) : (⟨S262144x128, .f32⟩ : BufTy).Contents (Elt F) → (⟨S262144x32, .f32⟩ : BufTy).Contents (Elt F))]
/-- The second merged table by field rows, the index words of the last ten fields, and the table filled up to 128 lanes. -/
abbrev ops₄ : List (HloOp τ sig (Elt F)) := [StableHlo.reshape main_v21 main_v22 (rfl : (.f32 : EltTy) = .f32) shapeCasts_S307200x128_S1228800x32,
  StableHlo.unary main_arg0 main_v23 ((extractStridedSlice S16384x10 ![0, 16] · slices_S16384x26_S16384x10_0_16) : (⟨S16384x26, .i32⟩ : BufTy).Contents (Elt F) → (⟨S16384x10, .i32⟩ : BufTy).Contents (Elt F)),
  StableHlo.nullary main_v24 (iotaInDim S10 32 0),
  StableHlo.unary main_v24 main_v25 (broadcastInDim S1x10 ![1] bcast_S10_S1x10_1 : (⟨S10, .i32⟩ : BufTy).Contents (Elt F) → (⟨S1x10, .i32⟩ : BufTy).Contents (Elt F)),
  StableHlo.nullary main_c_7 (constantI S_ 32 4#32),
  StableHlo.TRef.unary (.of main_c_7 : StableHlo.TRef sig ⟨S_, .i32⟩) main_call4.v0 id,
  StableHlo.TRef.unary main_call4.v0 main_call4.v1 (broadcastInDim S1x10 ![] bcast_S_S1x10),
  StableHlo.TRef.binary (.of main_v25 : StableHlo.TRef sig ⟨S1x10, .i32⟩) main_call4.v1 main_call4.v2 Host.divsi,
  StableHlo.TRef.unary (.of main_v25 : StableHlo.TRef sig ⟨S1x10, .i32⟩) main_call4.v3 signi,
  StableHlo.TRef.unary main_call4.v0 main_call4.v4 signi,
  StableHlo.TRef.unary main_call4.v4 main_call4.v5 (broadcastInDim S1x10 ![] bcast_S_S1x10),
  StableHlo.TRef.binary main_call4.v3 main_call4.v5 main_call4.v6 (cmpi .ne),
  StableHlo.TRef.unary main_call4.v0 main_call4.v7 (broadcastInDim S1x10 ![] bcast_S_S1x10),
  StableHlo.TRef.binary (.of main_v25 : StableHlo.TRef sig ⟨S1x10, .i32⟩) main_call4.v7 main_call4.v8 Host.remsi,
  StableHlo.TRef.nullary main_call4.c (constantI S_ 32 0#32),
  StableHlo.TRef.unary main_call4.c main_call4.v9 (broadcastInDim S1x10 ![] bcast_S_S1x10),
  StableHlo.TRef.binary main_call4.v8 main_call4.v9 main_call4.v10 (cmpi .ne),
  StableHlo.TRef.binary main_call4.v6 main_call4.v10 main_call4.v11 andi,
  StableHlo.TRef.nullary main_call4.c_0 (constantI S_ 32 1#32),
  StableHlo.TRef.unary main_call4.c_0 main_call4.v12 (broadcastInDim S1x10 ![] bcast_S_S1x10),
  StableHlo.TRef.binary main_call4.v2 main_call4.v12 main_call4.v13 subi,
  StableHlo.TRef.ternary main_call4.v11 main_call4.v13 main_call4.v2 main_call4_call0.v0 select,
  StableHlo.nullary main_c_8 (constantI S_ 32 102400#32),
  StableHlo.unary main_c_8 main_v27 (broadcastInDim S1x10 ![] bcast_S_S1x10 : (⟨S_, .i32⟩ : BufTy).Contents (Elt F) → (⟨S1x10, .i32⟩ : BufTy).Contents (Elt F)),
  StableHlo.binary main_v26 main_v27 main_v28 (muli : (⟨S1x10, .i32⟩ : BufTy).Contents (Elt F) → (⟨S1x10, .i32⟩ : BufTy).Contents (Elt F) → (⟨S1x10, .i32⟩ : BufTy).Contents (Elt F)),
  StableHlo.unary main_v28 main_v29 (broadcastInDim S16384x10 ![0, 1] bcast_S1x10_S16384x10_0_1 : (⟨S1x10, .i32⟩ : BufTy).Contents (Elt F) → (⟨S16384x10, .i32⟩ : BufTy).Contents (Elt F)),
  StableHlo.binary main_v29 main_v23 main_v30 (addi : (⟨S16384x10, .i32⟩ : BufTy).Contents (Elt F) → (⟨S16384x10, .i32⟩ : BufTy).Contents (Elt F) → (⟨S16384x10, .i32⟩ : BufTy).Contents (Elt F)),
  StableHlo.nullary main_c_9 (constantI S_ 32 4#32),
  StableHlo.unary main_c_9 main_v31 (broadcastInDim S16384x10 ![] bcast_S_S16384x10 : (⟨S_, .i32⟩ : BufTy).Contents (Elt F) → (⟨S16384x10, .i32⟩ : BufTy).Contents (Elt F)),
  StableHlo.binary main_v30 main_v31 main_v32 (muli : (⟨S16384x10, .i32⟩ : BufTy).Contents (Elt F) → (⟨S16384x10, .i32⟩ : BufTy).Contents (Elt F) → (⟨S16384x10, .i32⟩ : BufTy).Contents (Elt F)),
  StableHlo.nullary main_c_10 (constantI S_ 32 4#32),
  StableHlo.TRef.unary (.of main_c_10 : StableHlo.TRef sig ⟨S_, .i32⟩) main_call5.v0 id,
  StableHlo.TRef.nullary main_call5.c (constantI S_ 32 0#32),
  StableHlo.TRef.binary main_call5.v0 main_call5.c main_call5.v1 (cmpi .eq),
  StableHlo.TRef.nullary main_call5.c_0 (constantI S_ 32 1#32),
  StableHlo.TRef.ternary main_call5.v1 main_call5.c_0 main_call5.v0 main_call5_call0.v0 select,
  StableHlo.TRef.unary main_call5.call0.v0 main_call5.v3 (broadcastInDim S1x10 ![] bcast_S_S1x10),
  StableHlo.TRef.binary (.of main_v25 : StableHlo.TRef sig ⟨S1x10, .i32⟩) main_call5.v3 main_call5.v4 Host.remsi,
  StableHlo.TRef.nullary main_call5.c_1 (constantI S_ 32 0#32),
  StableHlo.TRef.unary main_call5.c_1 main_call5.v5 (broadcastInDim S1x10 ![] bcast_S_S1x10),
  StableHlo.TRef.binary main_call5.v4 main_call5.v5 main_call5.v6 (cmpi .ne),
  StableHlo.TRef.nullary main_call5.c_2 (constantI S_ 32 0#32),
  StableHlo.TRef.unary main_call5.c_2 main_call5.v7 (broadcastInDim S1x10 ![] bcast_S_S1x10),
  StableHlo.TRef.binary main_call5.v4 main_call5.v7 main_call5.v8 (cmpi .slt),
  StableHlo.TRef.nullary main_call5.c_3 (constantI S_ 32 0#32),
  StableHlo.TRef.binary main_call5.call0.v0 main_call5.c_3 main_call5.v9 (cmpi .slt),
  StableHlo.TRef.unary main_call5.v9 main_call5.v10 (broadcastInDim S1x10 ![] bcast_S_S1x10),
  StableHlo.TRef.binary main_call5.v8 main_call5.v10 main_call5.v11 (cmpi .ne),
  StableHlo.TRef.binary main_call5.v11 main_call5.v6 main_call5.v12 andi,
  StableHlo.TRef.unary main_call5.call0.v0 main_call5.v13 (broadcastInDim S1x10 ![] bcast_S_S1x10),
  StableHlo.TRef.binary main_call5.v4 main_call5.v13 main_call5.v14 addi,
  StableHlo.TRef.ternary main_call5.v12 main_call5.v14 main_call5.v4 main_call5.v15 select,
  StableHlo.unary main_v33 main_v34 (broadcastInDim S16384x10 ![0, 1] bcast_S1x10_S16384x10_0_1 : (⟨S1x10, .i32⟩ : BufTy).Contents (Elt F) → (⟨S16384x10, .i32⟩ : BufTy).Contents (Elt F)),
  StableHlo.binary main_v32 main_v34 main_v35 (addi : (⟨S16384x10, .i32⟩ : BufTy).Contents (Elt F) → (⟨S16384x10, .i32⟩ : BufTy).Contents (Elt F) → (⟨S16384x10, .i32⟩ : BufTy).Contents (Elt F)),
  StableHlo.reshape main_v35 main_v36 (rfl : (.i32 : EltTy) = .i32) shapeCasts_S16384x10_S1x163840,
  StableHlo.nullary main_c_11 (constantI S_ 32 0#32),
  StableHlo.TRef.unary (.of main_c_11 : StableHlo.TRef sig ⟨S_, .i32⟩) main_call6.v0 (sitofp .f32),
  StableHlo.TRef.binary (.of main_v22 : StableHlo.TRef sig ⟨S1228800x32, .f32⟩) main_call6.v0 main_call6.v1 (fun x v => pad S1228800x128 ![0, 0] ![0, 96] ![0, 0] x v pads_S1228800x32_S1228800x128_000_0960 h_S_)]
/-- The second rows cut, both grouped by sample, the first layer's weights put at the rows of their pairs, and the vectors as
rows. -/
abbrev ops₅ : List (HloOp τ sig (Elt F)) := [StableHlo.unary main_v38 main_v39 ((extractStridedSlice S163840x32 ![0, 0] · slices_S163840x128_S163840x32_0_0) : (⟨S163840x128, .f32⟩ : BufTy).Contents (Elt F) → (⟨S163840x32, .f32⟩ : BufTy).Contents (Elt F)),
  StableHlo.reshape main_v20 main_v40 (rfl : (.f32 : EltTy) = .f32) shapeCasts_S262144x32_S16384x16x32,
  StableHlo.reshape main_v39 main_v41 (rfl : (.f32 : EltTy) = .f32) shapeCasts_S163840x32_S16384x10x32,
  StableHlo.nullary main_cst_12 (constant S_ .f32 0x00000000#32),
  StableHlo.unary main_cst_12 main_v42 (broadcastInDim S676x192 ![] bcast_S_S676x192 : (⟨S_, .f32⟩ : BufTy).Contents (Elt F) → (⟨S676x192, .f32⟩ : BufTy).Contents (Elt F)),
  StableHlo.nullary main_c_13 (constantI S_ 32 0#32),
  StableHlo.unary main_c_13 main_v43 (broadcastInDim S325 ![] bcast_S_S325 : (⟨S_, .i32⟩ : BufTy).Contents (Elt F) → (⟨S325, .i32⟩ : BufTy).Contents (Elt F)),
  StableHlo.binary main_c main_v43 main_v44 (cmpi .slt : (⟨S325, .i32⟩ : BufTy).Contents (Elt F) → (⟨S325, .i32⟩ : BufTy).Contents (Elt F) → (⟨S325, .i1⟩ : BufTy).Contents (Elt F)),
  StableHlo.nullary main_c_14 (constantI S_ 32 676#32),
  StableHlo.unary main_c_14 main_v45 (broadcastInDim S325 ![] bcast_S_S325 : (⟨S_, .i32⟩ : BufTy).Contents (Elt F) → (⟨S325, .i32⟩ : BufTy).Contents (Elt F)),
  StableHlo.binary main_c main_v45 main_v46 (addi : (⟨S325, .i32⟩ : BufTy).Contents (Elt F) → (⟨S325, .i32⟩ : BufTy).Contents (Elt F) → (⟨S325, .i32⟩ : BufTy).Contents (Elt F)),
  StableHlo.ternary main_v44 main_v46 main_c main_v47 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
  StableHlo.unary main_v47 main_v48 (broadcastInDim S325x1 ![0] bcast_S325_S325x1_0 : (⟨S325, .i32⟩ : BufTy).Contents (Elt F) → (⟨S325x1, .i32⟩ : BufTy).Contents (Elt F)),
  StableHlo.ternary main_v42 main_v48 main_arg2 main_v49 ((fun x i u => Host.scatter scatter_S676x192_S325x1_S325x192_1_0_0_1 (fun _ b => b) x i u) : (⟨S676x192, .f32⟩ : BufTy).Contents (Elt F) → (⟨S325x1, .i32⟩ : BufTy).Contents (Elt F) → (⟨S325x192, .f32⟩ : BufTy).Contents (Elt F) → (⟨S676x192, .f32⟩ : BufTy).Contents (Elt F)),
  StableHlo.reshape main_arg3 main_v50 (rfl : (.f32 : EltTy) = .f32) shapeCasts_S192_S1x192,
  StableHlo.reshape main_arg5 main_v51 (rfl : (.f32 : EltTy) = .f32) shapeCasts_S192_S1x192,
  StableHlo.reshape main_arg7 main_v52 (rfl : (.f32 : EltTy) = .f32) shapeCasts_S192_S1x192,
  StableHlo.reshape main_arg9 main_v53 (rfl : (.f32 : EltTy) = .f32) shapeCasts_S1_S1x1]

/-! What each list writes, -/

abbrev writes₁ : List (Ref sig .tc) := [main_cst, main_cst_0, main_c, main_v0, main_c_1, main_call0_v0, main_v1]
abbrev writes₂ : List (Ref sig .tc) := [main_v3, main_v4, main_v5, main_v6, main_c_2, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v7, main_c_3, main_v8, main_v9, main_v10, main_v11, main_c_4, main_v12, main_v13, main_c_5, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v14, main_v15, main_v16, main_v17, main_c_6, main_call3_v0, main_v18]
abbrev writes₃ : List (Ref sig .tc) := [main_v20]
abbrev writes₄ : List (Ref sig .tc) := [main_v22, main_v23, main_v24, main_v25, main_c_7, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v26, main_c_8, main_v27, main_v28, main_v29, main_v30, main_c_9, main_v31, main_v32, main_c_10, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v33, main_v34, main_v35, main_v36, main_c_11, main_call6_v0, main_v37]
abbrev writes₅ : List (Ref sig .tc) := [main_v39, main_v40, main_v41, main_cst_12, main_v42, main_c_13, main_v43, main_v44, main_c_14, main_v45, main_v46, main_v47, main_v48, main_v49, main_v50, main_v51, main_v52, main_v53]

/-! that it touches the arrays alone, -/

theorem sub₁ : ∀ op ∈ (ops₁ : List (HloOp τ sig (Elt F))), op.bufs ⊆ arrs := sub_of_map (l := [[main_cst], [main_cst_0], [main_c], [main_arg1, main_v0], [main_c_1], [main_c_1, main_call0_v0], [main_v0, main_call0_v0, main_v1]]) rfl (by decide)
theorem sub₂ : ∀ op ∈ (ops₂ : List (HloOp τ sig (Elt F))), op.bufs ⊆ arrs := sub_of_map (l := [[main_v2, main_v3], [main_arg0, main_v4], [main_v5], [main_v5, main_v6], [main_c_2], [main_c_2, main_call1_v0], [main_call1_v0, main_call1_v1], [main_v6, main_call1_v1, main_call1_v2], [main_v6, main_call1_v3], [main_call1_v0, main_call1_v4], [main_call1_v4, main_call1_v5], [main_call1_v3, main_call1_v5, main_call1_v6], [main_call1_v0, main_call1_v7], [main_v6, main_call1_v7, main_call1_v8], [main_call1_c], [main_call1_c, main_call1_v9], [main_call1_v8, main_call1_v9, main_call1_v10], [main_call1_v6, main_call1_v10, main_call1_v11], [main_call1_c_0], [main_call1_c_0, main_call1_v12], [main_call1_v2, main_call1_v12, main_call1_v13], [main_call1_v11, main_call1_v13, main_call1_v2, main_v7], [main_c_3], [main_c_3, main_v8], [main_v7, main_v8, main_v9], [main_v9, main_v10], [main_v10, main_v4, main_v11], [main_c_4], [main_c_4, main_v12], [main_v11, main_v12, main_v13], [main_c_5], [main_c_5, main_call2_v0], [main_call2_c], [main_call2_v0, main_call2_c, main_call2_v1], [main_call2_c_0], [main_call2_v1, main_call2_c_0, main_call2_v0, main_call2_v2], [main_call2_v2, main_call2_v3], [main_v6, main_call2_v3, main_call2_v4], [main_call2_c_1], [main_call2_c_1, main_call2_v5], [main_call2_v4, main_call2_v5, main_call2_v6], [main_call2_c_2], [main_call2_c_2, main_call2_v7], [main_call2_v4, main_call2_v7, main_call2_v8], [main_call2_c_3], [main_call2_v2, main_call2_c_3, main_call2_v9], [main_call2_v9, main_call2_v10], [main_call2_v8, main_call2_v10, main_call2_v11], [main_call2_v11, main_call2_v6, main_call2_v12], [main_call2_v2, main_call2_v13], [main_call2_v4, main_call2_v13, main_call2_v14], [main_call2_v12, main_call2_v14, main_call2_v4, main_v14], [main_v14, main_v15], [main_v13, main_v15, main_v16], [main_v16, main_v17], [main_c_6], [main_c_6, main_call3_v0], [main_v3, main_call3_v0, main_v18]]) rfl (by decide)
theorem sub₃ : ∀ op ∈ (ops₃ : List (HloOp τ sig (Elt F))), op.bufs ⊆ arrs := sub_of_map (l := [[main_v19, main_v20]]) rfl (by decide)
theorem sub₄ : ∀ op ∈ (ops₄ : List (HloOp τ sig (Elt F))), op.bufs ⊆ arrs := sub_of_map (l := [[main_v21, main_v22], [main_arg0, main_v23], [main_v24], [main_v24, main_v25], [main_c_7], [main_c_7, main_call4_v0], [main_call4_v0, main_call4_v1], [main_v25, main_call4_v1, main_call4_v2], [main_v25, main_call4_v3], [main_call4_v0, main_call4_v4], [main_call4_v4, main_call4_v5], [main_call4_v3, main_call4_v5, main_call4_v6], [main_call4_v0, main_call4_v7], [main_v25, main_call4_v7, main_call4_v8], [main_call4_c], [main_call4_c, main_call4_v9], [main_call4_v8, main_call4_v9, main_call4_v10], [main_call4_v6, main_call4_v10, main_call4_v11], [main_call4_c_0], [main_call4_c_0, main_call4_v12], [main_call4_v2, main_call4_v12, main_call4_v13], [main_call4_v11, main_call4_v13, main_call4_v2, main_v26], [main_c_8], [main_c_8, main_v27], [main_v26, main_v27, main_v28], [main_v28, main_v29], [main_v29, main_v23, main_v30], [main_c_9], [main_c_9, main_v31], [main_v30, main_v31, main_v32], [main_c_10], [main_c_10, main_call5_v0], [main_call5_c], [main_call5_v0, main_call5_c, main_call5_v1], [main_call5_c_0], [main_call5_v1, main_call5_c_0, main_call5_v0, main_call5_v2], [main_call5_v2, main_call5_v3], [main_v25, main_call5_v3, main_call5_v4], [main_call5_c_1], [main_call5_c_1, main_call5_v5], [main_call5_v4, main_call5_v5, main_call5_v6], [main_call5_c_2], [main_call5_c_2, main_call5_v7], [main_call5_v4, main_call5_v7, main_call5_v8], [main_call5_c_3], [main_call5_v2, main_call5_c_3, main_call5_v9], [main_call5_v9, main_call5_v10], [main_call5_v8, main_call5_v10, main_call5_v11], [main_call5_v11, main_call5_v6, main_call5_v12], [main_call5_v2, main_call5_v13], [main_call5_v4, main_call5_v13, main_call5_v14], [main_call5_v12, main_call5_v14, main_call5_v4, main_v33], [main_v33, main_v34], [main_v32, main_v34, main_v35], [main_v35, main_v36], [main_c_11], [main_c_11, main_call6_v0], [main_v22, main_call6_v0, main_v37]]) rfl (by decide)
theorem sub₅ : ∀ op ∈ (ops₅ : List (HloOp τ sig (Elt F))), op.bufs ⊆ arrs := sub_of_map (l := [[main_v38, main_v39], [main_v20, main_v40], [main_v39, main_v41], [main_cst_12], [main_cst_12, main_v42], [main_c_13], [main_c_13, main_v43], [main_c, main_v43, main_v44], [main_c_14], [main_c_14, main_v45], [main_c, main_v45, main_v46], [main_v44, main_v46, main_c, main_v47], [main_v47, main_v48], [main_v42, main_v48, main_arg2, main_v49], [main_arg3, main_v50], [main_arg5, main_v51], [main_arg7, main_v52], [main_arg9, main_v53]]) rfl (by decide)

/-! and frees none. -/

theorem fresh₁ : ∀ op ∈ (ops₁ : List (HloOp τ sig (Elt F))), op.fresh = ∅ := List.forall_iff_forall_mem.mp (StableHlo.forall_fresh_of_map rfl)
theorem fresh₂ : ∀ op ∈ (ops₂ : List (HloOp τ sig (Elt F))), op.fresh = ∅ := List.forall_iff_forall_mem.mp (StableHlo.forall_fresh_of_map rfl)
theorem fresh₃ : ∀ op ∈ (ops₃ : List (HloOp τ sig (Elt F))), op.fresh = ∅ := List.forall_iff_forall_mem.mp (StableHlo.forall_fresh_of_map rfl)
theorem fresh₄ : ∀ op ∈ (ops₄ : List (HloOp τ sig (Elt F))), op.fresh = ∅ := List.forall_iff_forall_mem.mp (StableHlo.forall_fresh_of_map rfl)
theorem fresh₅ : ∀ op ∈ (ops₅ : List (HloOp τ sig (Elt F))), op.fresh = ∅ := List.forall_iff_forall_mem.mp (StableHlo.forall_fresh_of_map rfl)

/-- A TensorCore call. -/
abbrev tcCall (p : Fin 3) : Prog (TpuEff nD τ sig (Elt F) (SparseCore.Sig (Pipeline.Sig Λ₀ (Fin 3) fun p => (pcfgs (F := F) p).Adm) 2) .tc) PUnit :=
  Prog.lift (.customCall (SparseCore.inner (Pipeline.entry p)) ())

set_option maxHeartbeats 4000000 in
set_option maxRecDepth 16384 in
theorem main_eq (d : Dev nD) : main (F := F) d = (StableHlo.seq ops₁ >>= fun _ => tcCall 0 >>= fun _ => StableHlo.seq ops₂ >>= fun _ => (K (F := F)).run d 0 >>= fun _ =>
    StableHlo.seq ops₃ >>= fun _ => tcCall 1 >>= fun _ => StableHlo.seq ops₄ >>= fun _ => (K (F := F)).run d 1 >>= fun _ => StableHlo.seq ops₅ >>= fun _ => tcCall 2) := rfl

end Launch

end
-- ==== Proof.Run.lean ====
/-
  The program's run: the tables are merged, the SparseCores bring the rows the index words name, and the network's call
  computes the result from them.
-/
module

public import proofs.«01_k».proof.Proof.Ops

@[expose] public section

noncomputable section

namespace Launch

open Cert.KernelIdeal Cert.KernelIdeal.Gen Windows Words
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The TensorCore's arrays -/

/-- The arrays at the launch. -/
def V0 (d : Dev nD) : Valuation τ sig (Elt F) := fun b => m (d, b)

theorem unscoped_held (d : Dev nD) : (unscopedBufs d (fun b => m ((SparseCore.T d).loc b)) : sProp 𝕄) = held (T d) arrs (V0 m d) := by
  unfold unscopedBufs StableHlo.held arrs
  rw [Idealize.SL.BI.bigSep_map]
  rfl

section Held

variable (d : Dev nD) {t i o : Ref sig .tc} (ht : t.isScoped = false) (hi : i.isScoped = false) (ho : o.isScoped = false)
variable (hti : t ≠ i) (hto : t ≠ o) (hio : i ≠ o) (W : Valuation τ sig (Elt F))
include ht hi ho hti hto hio

/-- Three arrays out of all, -/
theorem held_three : (held (T d) arrs W : sProp 𝕄) = iprop(hand (lt := at' d t) (li := at' d i) (lo := at' d o) fullShare (W (dv t)) (W (dv i)) Finset.univ (W (dv o))
    ∗ held (T d) (arrs \ {dv t, dv i, dv o}) W) := by
  have n1 := StableHlo.devRef_ne_of_ne (τ := τ) hti
  have n2 := StableHlo.devRef_ne_of_ne (τ := τ) hto
  have n3 := StableHlo.devRef_ne_of_ne (τ := τ) hio
  rw [StableHlo.held_sub_split (T d) (T := {dv t, dv i, dv o}) (S := arrs) (by
    intro b hb
    simp only [Finset.mem_insert, Finset.mem_singleton] at hb
    rcases hb with rfl | rfl | rfl
    · exact mem_arrs ht
    · exact mem_arrs hi
    · exact mem_arrs ho)]
  congr 1
  unfold StableHlo.held
  rw [SparseCore.bigSep_insert' (by simp only [Finset.mem_insert, Finset.mem_singleton, not_or]; exact ⟨n1, n2⟩), SparseCore.bigSep_insert' (by simp only [Finset.mem_singleton]; exact n3),
    bigSep_singleton]

/-- and back, the third at new contents. -/
theorem held_update (g : Buf (Elt F) (at' d o)) :
    (held (T d) arrs (Function.update W (dv o) g) : sProp 𝕄)
      = iprop(hand (lt := at' d t) (li := at' d i) (lo := at' d o) fullShare (W (dv t)) (W (dv i)) Finset.univ g ∗ held (T d) (arrs \ {dv t, dv i, dv o}) W) := by
  have n2 := StableHlo.devRef_ne_of_ne (τ := τ) hto
  have n3 := StableHlo.devRef_ne_of_ne (τ := τ) hio
  rw [held_three d ht hi ho hti hto hio, Function.update_self, Function.update_of_ne n2, Function.update_of_ne n3]
  congr 1
  unfold StableHlo.held
  refine bigSep_congr fun b hb => ?_
  rw [Function.update_of_ne (fun e => (Finset.mem_sdiff.mp hb).2 (by rw [e]; simp))]

end Held

/-- What arrays are held at is what they are. -/
theorem held_agree (d : Dev nD) (W : Valuation τ sig (Elt F)) (s' : Phys nD τ sig (Elt F)) :
    iprop(held (T d) arrs W ∗ SI s') ⊢ (⌜∀ b : Ref sig .tc, b.isScoped = false → s'.mem.mem (at' d b) = W (dv b)⌝ : sProp 𝕄) := by
  have one (b : Ref sig .tc) (hb : b.isScoped = false) : iprop(held (T d) arrs W ∗ SI s') ⊢ (⌜s'.mem.mem (at' d b) = W (dv b)⌝ : sProp 𝕄) := by
    have h : (held (T d) arrs W : sProp 𝕄) ⊢ at' d b ↦{fullShare} W (dv b) := by
      unfold StableHlo.held
      exact Idealize.SL.BI.bigSep_elim (mem_arrs hb)
    iintro ⟨H, HSI⟩
    ihave H := h $$ H
    ihave H := (SI_pointsTo_agree (st := s') (ℓ := at' d b) (I := Finset.univ) (q := fullShare) (f := W (dv b))) $$ [HSI H]
    · isplitl [HSI] <;> iassumption
    icases H with %h
    ipureintro
    exact funext fun i => h i (Finset.mem_univ i)
  by_cases h : ∀ b : Ref sig .tc, b.isScoped = false → s'.mem.mem (at' d b) = W (dv b)
  · exact Idealize.SL.BI.pure_intro h
  · simp only [not_forall] at h
    obtain ⟨b, hb, h⟩ := h
    exact (one b hb).trans (Idealize.SL.BI.pure_mono fun e => absurd e h)

/-! ## The arrays between the calls -/

/-- The arrays before the first merge, after it, before the first gather, after it, before the second merge, after it, before the
second gather, after it, before the network's call, and at the end. -/
@[irreducible] def V1 (d : Dev nD) : Valuation τ sig (Elt F) := StableHlo.after ops₁ (V0 m d)
@[irreducible] def V2 (d : Dev nD) : Valuation τ sig (Elt F) := afterCall (V1 m) 0 d
@[irreducible] def V3 (d : Dev nD) : Valuation τ sig (Elt F) := StableHlo.after ops₂ (V2 m d)
/-- The first call's rows: those its index words name. -/
def rowsA (d : Dev nD) : Buf (Elt F) (at' d main_v19) :=
  gathered (F := F) (N := 1638400) (M := 262144) (V3 m d (dv main_v18) (ValueIdx.ix2 (0 : Fin 1638400) (0 : Fin 128))) (V3 m d (dv main_v18)) (V3 m d (dv main_v17))
def V4 (d : Dev nD) : Valuation τ sig (Elt F) := Function.update (V3 m d) (dv main_v19) (rowsA m d)
@[irreducible] def V5 (d : Dev nD) : Valuation τ sig (Elt F) := StableHlo.after ops₃ (V4 m d)
@[irreducible] def V6 (d : Dev nD) : Valuation τ sig (Elt F) := afterCall (V5 m) 1 d
@[irreducible] def V7 (d : Dev nD) : Valuation τ sig (Elt F) := StableHlo.after ops₄ (V6 m d)
/-- The second call's rows. -/
def rowsB (d : Dev nD) : Buf (Elt F) (at' d main_v38) :=
  gathered (F := F) (N := 1228800) (M := 163840) (V7 m d (dv main_v37) (ValueIdx.ix2 (0 : Fin 1228800) (0 : Fin 128))) (V7 m d (dv main_v37)) (V7 m d (dv main_v36))
def V8 (d : Dev nD) : Valuation τ sig (Elt F) := Function.update (V7 m d) (dv main_v38) (rowsB m d)
@[irreducible] def V9 (d : Dev nD) : Valuation τ sig (Elt F) := StableHlo.after ops₅ (V8 m d)
@[irreducible] def V10 (d : Dev nD) : Valuation τ sig (Elt F) := afterCall (V9 m) 2 d

theorem V1_eq (d : Dev nD) : V1 m d = StableHlo.after ops₁ (V0 m d) := by unfold V1; rfl
theorem V2_eq (d : Dev nD) : V2 m d = afterCall (V1 m) 0 d := by unfold V2; rfl
theorem V3_eq (d : Dev nD) : V3 m d = StableHlo.after ops₂ (V2 m d) := by unfold V3; rfl
theorem V5_eq (d : Dev nD) : V5 m d = StableHlo.after ops₃ (V4 m d) := by unfold V5; rfl
theorem V6_eq (d : Dev nD) : V6 m d = afterCall (V5 m) 1 d := by unfold V6; rfl
theorem V7_eq (d : Dev nD) : V7 m d = StableHlo.after ops₄ (V6 m d) := by unfold V7; rfl
theorem V9_eq (d : Dev nD) : V9 m d = StableHlo.after ops₅ (V8 m d) := by unfold V9; rfl
theorem V10_eq (d : Dev nD) : V10 m d = afterCall (V9 m) 2 d := by unfold V10; rfl

/-- What the gathers are given. -/
def given : Given F where
  tabA d := V3 m d (dv main_v18)
  idxA d := V3 m d (dv main_v17)
  outA d := V3 m d (dv main_v19)
  tabB d := V7 m d (dv main_v37)
  idxB d := V7 m d (dv main_v36)
  outB d := V7 m d (dv main_v38)

/-- What no list and no call writes stays as it was. -/
theorem V1_of (d : Dev nD) {b : Ref sig .tc} (h : b ∉ writes₁) : V1 m d (dv b) = m (at' d b) := by
  unfold V1
  exact StableHlo.after_of_writes_sub ops₁ _ (StableHlo.forall_writes_sub_of_map rfl) h
theorem V2_of (d : Dev nD) {b : Ref sig .tc} (h : b ≠ main_v2) : V2 m d (dv b) = V1 m d (dv b) := by
  unfold V2
  exact Pipeline.afterRegion_keeps (dat (V1 m) 0 d) (V1 m d) (launches 0).win.arr_inj (fun _ => rfl) b fun w hw => by
    match w with
    | ⟨2, _⟩ => exact absurd hw.symm h
    | ⟨0, _⟩ | ⟨1, _⟩ => rfl
theorem V3_of (d : Dev nD) {b : Ref sig .tc} (h : b ∉ writes₂) : V3 m d (dv b) = V2 m d (dv b) := by
  unfold V3
  exact StableHlo.after_of_writes_sub ops₂ _ (StableHlo.forall_writes_sub_of_map rfl) h
theorem V4_of (d : Dev nD) {b : Ref sig .tc} (h : b ≠ main_v19) : V4 m d (dv b) = V3 m d (dv b) :=
  Function.update_of_ne (StableHlo.devRef_ne_of_ne h) _ _
theorem V5_of (d : Dev nD) {b : Ref sig .tc} (h : b ∉ writes₃) : V5 m d (dv b) = V4 m d (dv b) := by
  unfold V5
  exact StableHlo.after_of_writes_sub ops₃ _ (StableHlo.forall_writes_sub_of_map rfl) h
theorem V6_of (d : Dev nD) {b : Ref sig .tc} (h : b ≠ main_v21) : V6 m d (dv b) = V5 m d (dv b) := by
  unfold V6
  exact Pipeline.afterRegion_keeps (dat (V5 m) 1 d) (V5 m d) (launches 1).win.arr_inj (fun _ => rfl) b fun w hw => by
    match w with
    | ⟨2, _⟩ => exact absurd hw.symm h
    | ⟨0, _⟩ | ⟨1, _⟩ => rfl
theorem V7_of (d : Dev nD) {b : Ref sig .tc} (h : b ∉ writes₄) : V7 m d (dv b) = V6 m d (dv b) := by
  unfold V7
  exact StableHlo.after_of_writes_sub ops₄ _ (StableHlo.forall_writes_sub_of_map rfl) h
theorem V8_of (d : Dev nD) {b : Ref sig .tc} (h : b ≠ main_v38) : V8 m d (dv b) = V7 m d (dv b) :=
  Function.update_of_ne (StableHlo.devRef_ne_of_ne h) _ _
theorem V9_of (d : Dev nD) {b : Ref sig .tc} (h : b ∉ writes₅) : V9 m d (dv b) = V8 m d (dv b) := by
  unfold V9
  exact StableHlo.after_of_writes_sub ops₅ _ (StableHlo.forall_writes_sub_of_map rfl) h
theorem V10_of (d : Dev nD) {b : Ref sig .tc} (h : b ≠ main_v54) : V10 m d (dv b) = V9 m d (dv b) := by
  unfold V10
  exact Pipeline.afterRegion_keeps (dat (V9 m) 2 d) (V9 m d) (launches 2).win.arr_inj (fun _ => rfl) b fun w hw => by
    match w with
    | ⟨10, _⟩ => exact absurd hw.symm h
    | ⟨0, _⟩ | ⟨1, _⟩ | ⟨2, _⟩ | ⟨3, _⟩ | ⟨4, _⟩ | ⟨5, _⟩ | ⟨6, _⟩ | ⟨7, _⟩ | ⟨8, _⟩ | ⟨9, _⟩ => rfl

/-- What is written before the first merge, or never, is at each later stage as it was there. -/
theorem V5_early (d : Dev nD) {b : Ref sig .tc} (h2 : b ≠ main_v2) (h3 : b ∉ writes₂) (h4 : b ≠ main_v19) (h5 : b ∉ writes₃) : V5 m d (dv b) = V1 m d (dv b) := by
  rw [V5_of m d h5, V4_of m d h4, V3_of m d h3, V2_of m d h2]
theorem V8_early (d : Dev nD) {b : Ref sig .tc} (h2 : b ≠ main_v2) (h3 : b ∉ writes₂) (h4 : b ≠ main_v19) (h5 : b ∉ writes₃) (h6 : b ≠ main_v21) (h7 : b ∉ writes₄)
    (h8 : b ≠ main_v38) : V8 m d (dv b) = V1 m d (dv b) := by
  rw [V8_of m d h8, V7_of m d h7, V6_of m d h6, V5_early m d h2 h3 h4 h5]

/-- An argument. -/
abbrev isArg (b : Ref sig .tc) : Prop := b ∈ [main_arg0, main_arg1, main_arg2, main_arg3, main_arg4, main_arg5, main_arg6, main_arg7, main_arg8, main_arg9]

/-- No operation and no call writes an argument. -/
theorem arg_kept (d : Dev nD) {b : Ref sig .tc} (h : isArg b) : V1 m d (dv b) = m (at' d b) ∧ V2 m d (dv b) = m (at' d b) ∧ V6 m d (dv b) = m (at' d b)
    ∧ V8 m d (dv b) = m (at' d b) ∧ V9 m d (dv b) = m (at' d b) ∧ V10 m d (dv b) = m (at' d b) := by
  have all : ∀ b ∈ [main_arg0, main_arg1, main_arg2, main_arg3, main_arg4, main_arg5, main_arg6, main_arg7, main_arg8, main_arg9],
      b ∉ writes₁ ∧ b ≠ main_v2 ∧ b ∉ writes₂ ∧ b ≠ main_v19 ∧ b ∉ writes₃ ∧ b ≠ main_v21 ∧ b ∉ writes₄ ∧ b ≠ main_v38 ∧ b ∉ writes₅ ∧ b ≠ main_v54 := by decide
  obtain ⟨h1, h2, h3, h4, h5, h6, h7, h8, h9, h10⟩ := all b h
  have e1 := V1_of m d h1
  have e2 := (V2_of m d h2).trans e1
  have e6 := (V6_of m d h6).trans ((V5_early m d h2 h3 h4 h5).trans e1)
  have e8 := (V8_early m d h2 h3 h4 h5 h6 h7 h8).trans e1
  exact ⟨e1, e2, e6, e8, (V9_of m d h9).trans e8, (V10_of m d h10).trans ((V9_of m d h9).trans e8)⟩

/-- The result. -/
def RO (d : Dev nD) : Buf (Elt F) (at' d main_v54) := (dat (V9 m) 2 d).arrAt (10 : Fin 11) cfg4.N

theorem V10_out (d : Dev nD) : V10 m d (dv main_v54) = RO m d := by
  unfold V10
  exact Pipeline.afterRegion_arr (dat (V9 m) 2 d) (V9 m d) (launches 2).win.arr_inj (10 : Fin 11)

/-! ## @main -/

/-- A call, among all the arrays: it writes its rows, the others stay. -/
theorem call_run (κ : GSem nD τ sig → ℕ) (d : Dev nD) (q : Fin 2) {t i o : Ref sig .tc} (ht : t.isScoped = false) (hi : i.isScoped = false) (ho : o.isScoped = false)
    (hti : t ≠ i) (hto : t ≠ o) (hio : i ≠ o) (W : Valuation τ sig (Elt F)) (g : Buf (Elt F) (at' d o))
    (hst : hand (lt := at' d t) (li := at' d i) (lo := at' d o) fullShare (W (dv t)) (W (dv i)) Finset.univ (W (dv o))
      ⊢ bigSep Finset.univ fun c : Fin ((K (F := F)).nCore q) => (P (given m)).st q d c)
    (hdn : (bigSep Finset.univ fun c : Fin ((K (F := F)).nCore q) => (P (given m)).dn q d c)
      ⊢ hand (lt := at' d t) (li := at' d i) (lo := at' d o) fullShare (W (dv t)) (W (dv i)) Finset.univ g) {Φ : PUnit → sProp 𝕄} :
    iprop((K (F := F)).ctx EH (P (given m)) κ ∗ (K (F := F)).tcSt EH d q.val ∗ held (T d) arrs W
        ∗ ((K (F := F)).tcSt EH d (q.val + 1) ∗ held (T d) arrs (Function.update W (dv o) g) -∗ Φ ⟨⟩))
      ⊢ wp frame (wpE ((K (F := F)).defs (D (F := F))) 𝒱 (SparseCore.T d) none) Set.univ ((K (F := F)).run d q) Φ := by
  rw [held_three d ht hi ho hti hto hio W, held_update d ht hi ho hti hto hio W g]
  iintro ⟨#Hctx, Hst, ⟨Hh, Hrest⟩, Hk⟩
  iapply ((K (F := F)).wp_run (D (F := F)) 𝒱 (EH := EH) (P := P (given m)) κ d q)
  isplitr; · iexact Hctx
  isplitl [Hst]; · iexact Hst
  isplitl [Hh]
  · iapply hst
    iexact Hh
  iintro ⟨Hst, Hdn⟩
  iapply Hk
  iframe Hst Hrest
  iapply hdn
  iexact Hdn

/-- A TensorCore call's arrays are among them. -/
theorem call_sub (p : Fin 3) : Pipeline.arrRefs (cfgs p).spec ⊆ arrs := by
  intro b hb
  obtain ⟨r, hr, rfl⟩ := Finset.mem_map.mp hb
  obtain ⟨w, -, rfl⟩ := Finset.mem_image.mp hr
  refine mem_arrs ?_
  match p with
  | 0 => exact (by decide : ∀ w : Fin 3, (Pipeline.arrRef spec0 w).isScoped = false) w
  | 1 => exact (by decide : ∀ w : Fin 3, (Pipeline.arrRef spec2 w).isScoped = false) w
  | 2 => exact (by decide : ∀ w : Fin 11, (Pipeline.arrRef spec4 w).isScoped = false) w

theorem ghosts_eq (d : Dev nD) : (ghosts (F := F) d : sProp 𝕄) = iprop(ghost (F := F) 0 d ∗ ghost (F := F) 1 d ∗ ghost (F := F) 2 d) := by
  unfold ghosts
  exact bigSep_W0 _

theorem GA_given (d : Dev nD) : GA (given m) d = rowsA m d := rfl
theorem GB_given (d : Dev nD) : GB (given m) d = rowsB m d := rfl

theorem dealt (q : Fin 2) (d : Dev nD) (after : Bool) : (match q with
      | 0 => handA (given m) d (if after then rowsA m d else V3 m d (dv main_v19)) fullShare Finset.univ
      | 1 => handB (given m) d (if after then rowsB m d else V7 m d (dv main_v38)) fullShare Finset.univ : sProp 𝕄)
    = bigSep Finset.univ fun c : Fin 2 => coreHand (given m) q d after c := by
  rw [← whole_cores (given m) q d after, GA_given, GB_given]
  rfl

theorem hmain [∀ e, Nonempty (Elt F e)] (κ : GSem nD τ sig → ℕ) (d : Dev nD) :
    iprop((K (F := F)).ctx EH (P (given m)) κ ∗ (K (F := F)).tcSt EH d 0 ∗ (K (F := F)).tcRes m ρ d ∗ ghosts (F := F) d)
      ⊢ wp frame (wpE ((K (F := F)).defs (D (F := F))) 𝒱 (SparseCore.T d) none) Set.univ (main d)
          fun _ => iprop((K (F := F)).tcSt EH d 2 ∗ held (T d) arrs (V10 m d) ∗ (K (F := F)).tcEnd d) := by
  unfold SparseCore.Cfg.tcRes SparseCore.Cfg.tcEnd
  rw [unscoped_held, main_eq, ghosts_eq, V10_eq]
  iintro ⟨#Hctx, Hst, ⟨Hb, Hheld, Hts, -⟩, Hg0, Hg1, Hg2⟩
  iapply (StableHlo.wp_seq 𝒱 none Set.univ d arrs _ ops₁ sub₁ fresh₁ (V0 m d)) $$ [Hb Hheld]
  · isplitl [Hb]; · iexact Hb
    iexact Hheld
  rw [← V1_eq m d]
  iintro ⟨Hb, Hheld⟩
  rw [wp_bind]
  iapply (tc_run (V1 m) 0 (P := P (given m)) κ arrs (call_sub 0) d)
  isplitr; · iexact Hctx
  isplitl [Hst]; · iexact Hst
  isplitl [Hb]; · iexact Hb
  isplitl [Hheld]; · iexact Hheld
  isplitl [Hg0]; · iexact Hg0
  rw [← V2_eq m d]
  iintro ⟨Hst, Hb, Hheld⟩
  iapply (StableHlo.wp_seq 𝒱 none Set.univ d arrs _ ops₂ sub₂ fresh₂ (V2 m d)) $$ [Hb Hheld]
  · isplitl [Hb]; · iexact Hb
    iexact Hheld
  rw [← V3_eq m d]
  iintro ⟨Hb, Hheld⟩
  rw [wp_bind]
  iapply (call_run m κ d 0 (t := main_v18) (i := main_v17) (o := main_v19) rfl rfl rfl (by decide) (by decide) (by decide) (V3 m d) (rowsA m d)
    (Entails.of_eq (dealt m 0 d false)) (Entails.of_eq (dealt m 0 d true).symm))
  isplitr; · iexact Hctx
  isplitl [Hst]; · iexact Hst
  isplitl [Hheld]; · iexact Hheld
  iintro ⟨Hst, Hheld⟩
  iapply (StableHlo.wp_seq 𝒱 none Set.univ d arrs _ ops₃ sub₃ fresh₃ (V4 m d)) $$ [Hb Hheld]
  · isplitl [Hb]; · iexact Hb
    iexact Hheld
  rw [← V5_eq m d]
  iintro ⟨Hb, Hheld⟩
  rw [wp_bind]
  iapply (tc_run (V5 m) 1 (P := P (given m)) κ arrs (call_sub 1) d)
  isplitr; · iexact Hctx
  isplitl [Hst]; · iexact Hst
  isplitl [Hb]; · iexact Hb
  isplitl [Hheld]; · iexact Hheld
  isplitl [Hg1]; · iexact Hg1
  rw [← V6_eq m d]
  iintro ⟨Hst, Hb, Hheld⟩
  iapply (StableHlo.wp_seq 𝒱 none Set.univ d arrs _ ops₄ sub₄ fresh₄ (V6 m d)) $$ [Hb Hheld]
  · isplitl [Hb]; · iexact Hb
    iexact Hheld
  rw [← V7_eq m d]
  iintro ⟨Hb, Hheld⟩
  rw [wp_bind]
  iapply (call_run m κ d 1 (t := main_v37) (i := main_v36) (o := main_v38) rfl rfl rfl (by decide) (by decide) (by decide) (V7 m d) (rowsB m d)
    (Entails.of_eq (dealt m 1 d false)) (Entails.of_eq (dealt m 1 d true).symm))
  isplitr; · iexact Hctx
  isplitl [Hst]; · iexact Hst
  isplitl [Hheld]; · iexact Hheld
  iintro ⟨Hst, Hheld⟩
  iapply (StableHlo.wp_seq 𝒱 none Set.univ d arrs _ ops₅ sub₅ fresh₅ (V8 m d)) $$ [Hb Hheld]
  · isplitl [Hb]; · iexact Hb
    iexact Hheld
  rw [← V9_eq m d]
  iintro ⟨Hb, Hheld⟩
  iapply (tc_run (V9 m) 2 (P := P (given m)) κ arrs (call_sub 2) d)
  isplitr; · iexact Hctx
  isplitl [Hst]; · iexact Hst
  isplitl [Hb]; · iexact Hb
  isplitl [Hheld]; · iexact Hheld
  isplitl [Hg2]; · iexact Hg2
  iintro ⟨Hst, Hb, Hheld⟩
  isplitl [Hst]; · iexact Hst
  isplitl [Hheld]; · iexact Hheld
  isplitl [Hb] <;> iassumption

/-! ## The run -/

def fq (d : Dev nD) (s' : Phys nD τ sig (Elt F)) : Prop := ∀ b : Ref sig .tc, b.isScoped = false → s'.mem.mem (at' d b) = V10 m d (dv b)

/-- How the run ends: the result at `RO`, the arguments as they were, every semaphore at zero. -/
def QC : PUnit × MemSt nD τ sig (Elt F) → Prop := fun r =>
  (∀ c : Dev nD, r.2.mem (at' c main_v54) = RO m c ∧ ∀ b, isArg b → r.2.mem (at' c b) = m (at' c b)) ∧ r.2.sem = fun _ => 0

theorem isArg_unscoped {b : Ref sig .tc} (h : isArg b) : b.isScoped = false :=
  (by decide : ∀ b ∈ [main_arg0, main_arg1, main_arg2, main_arg3, main_arg4, main_arg5, main_arg6, main_arg7, main_arg8, main_arg9], b.isScoped = false) b h

theorem run_main [∀ e, Nonempty (Elt F e)] (hpre : PreOK (given m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (given m)) (A := ∅) facts v₀
    (fun q hq => match q with | 0 => nomatch hq | 1 => nomatch hq)
    (fun q _ => tileObl (given m) hpre q)
    (fun q _ => SparseCore.Cfg.VecSplit.of_plain (vecSplit (given m) q))
    m ρ main (fun d => ghosts (F := F) d) (fun d => held (T d) arrs (V10 m d)) (u₀ (F := F)) (sep_elim_left.trans (hu₀ (given m))) (hmain m ρ) (fq m)
    (fun d s' => held_agree d (V10 m d) s') (QC m) (fun _ h hz => ⟨fun c => ⟨(h c _ rfl).trans (V10_out m c), fun b hb =>
      (h c b (isArg_unscoped hb)).trans (arg_kept m c hb).2.2.2.2.2⟩, hz⟩)

end Launch

end
-- ==== Proof.Operands.lean ====
/-
  What the host operations give the calls: the tables by lane for the merges, the merged tables and the index words for the
  gathers, and the network's operands.
-/
module

public import proofs.«01_k».proof.Proof.Run

@[expose] public section

noncomputable section

namespace Launch

open Cert.KernelIdeal Cert.KernelIdeal.Gen Windows
open Idealize.ShloMosaic
open Idealize.ShloMosaic.StableHlo (held)

variable {F : FTy → Type} [FloatOps F]
variable (m : (ℓ : Loc nD τ sig) → Buf (Elt F) ℓ)

/-! ## The merges' operands -/

/-- The tables by lane, filled up. -/
def byLane (t : S26x100001x32.Idx → Elt F .f32) : S28x32x102400.Idx → Elt F .f32 :=
  pad S28x32x102400 ![0, 0, 0] ![2, 0, 2399] ![0, 0, 0] (transpose S26x32x100001 [0, 2, 1] t transposes_S26x100001x32_S26x32x100001_0_2_1)
    (sitofp .f32 (constantI S_ 32 0#32)) pads_S26x32x100001_S28x32x102400_020_000_023990 h_S_

theorem V1_tab (d : Dev nD) : V1 m d (dv main_v1) = byLane (m (at' d main_arg1)) := by
  unfold V1; after_results; rfl
theorem V1_eyeA (d : Dev nD) : V1 m d (dv main_cst) = (fun i => FloatOps.ofBits .f32 (lit0 (S128x128.rowMajor i)) : S128x128.Idx → Elt F .f32) := by
  unfold V1; after_results; rfl
theorem V1_eyeB (d : Dev nD) : V1 m d (dv main_cst_0) = (fun i => FloatOps.ofBits .f32 (lit1 (S128x128.rowMajor i)) : S128x128.Idx → Elt F .f32) := by
  unfold V1; after_results; rfl
theorem V1_c (d : Dev nD) : V1 m d (dv main_c) = (fun i => lit2 (S325.rowMajor i) : S325.Idx → BitVec 32) := by
  unfold V1; after_results; rfl

theorem V5_tab (d : Dev nD) : V5 m d (dv main_v1) = byLane (m (at' d main_arg1)) :=
  (V5_early m d (by decide) (by decide) (by decide) (by decide)).trans (V1_tab m d)
theorem V5_eye (d : Dev nD) : V5 m d (dv main_cst_0) = (fun i => FloatOps.ofBits .f32 (lit1 (S128x128.rowMajor i)) : S128x128.Idx → Elt F .f32) :=
  (V5_early m d (by decide) (by decide) (by decide) (by decide)).trans (V1_eyeB m d)

/-! ## The gathers' operands -/

/-- The merged tables. -/
def mergedA (d : Dev nD) : S409600x128.Idx → Elt F .f32 := (dat (V1 m) 0 d).arrAt (2 : Fin 3) cfg0.N
def mergedB (d : Dev nD) : S307200x128.Idx → Elt F .f32 := (dat (V5 m) 1 d).arrAt (2 : Fin 3) cfg2.N

theorem V2_out (d : Dev nD) : V2 m d (dv main_v2) = mergedA m d := by
  unfold V2
  exact Pipeline.afterRegion_arr (dat (V1 m) 0 d) (V1 m d) (launches 0).win.arr_inj (2 : Fin 3)
theorem V6_out (d : Dev nD) : V6 m d (dv main_v21) = mergedB m d := by
  unfold V6
  exact Pipeline.afterRegion_arr (dat (V5 m) 1 d) (V5 m d) (launches 1).win.arr_inj (2 : Fin 3)

section Words

variable {n : ℕ} (h0 : (⟨0, ![]⟩ : Shape).BroadcastsInDim ⟨2, ![1, n]⟩ (![] : Fin 0 → Fin 2))

/-- A word for every field. -/
abbrev all (v : BitVec 32) : IVec ⟨2, ![1, n]⟩ 32 := broadcastInDim ⟨2, ![1, n]⟩ ![] h0 (constantI ⟨0, ![]⟩ 32 v)

/-- A quarter of a word, towards minus infinity. -/
def quarter (x : IVec ⟨2, ![1, n]⟩ 32) : IVec ⟨2, ![1, n]⟩ 32 :=
  select (andi (cmpi .ne (signi x) (broadcastInDim ⟨2, ![1, n]⟩ ![] h0 (signi (constantI ⟨0, ![]⟩ 32 4#32)))) (cmpi .ne (Host.remsi x (all h0 4#32)) (all h0 0#32)))
    (subi (Host.divsi x (all h0 4#32)) (all h0 1#32)) (Host.divsi x (all h0 4#32))

/-- The divisor four, as the operations state it. -/
def divisor : IVec ⟨0, ![]⟩ 32 := select (cmpi .eq (constantI ⟨0, ![]⟩ 32 4#32) (constantI ⟨0, ![]⟩ 32 0#32)) (constantI ⟨0, ![]⟩ 32 1#32) (constantI ⟨0, ![]⟩ 32 4#32)

/-- What a word leaves after quarters. -/
def rest (x : IVec ⟨2, ![1, n]⟩ 32) : IVec ⟨2, ![1, n]⟩ 32 :=
  select (andi (cmpi .ne (cmpi .slt (Host.remsi x (broadcastInDim ⟨2, ![1, n]⟩ ![] h0 divisor)) (all h0 0#32))
      (broadcastInDim ⟨2, ![1, n]⟩ ![] h0 (cmpi .slt divisor (constantI ⟨0, ![]⟩ 32 0#32))))
      (cmpi .ne (Host.remsi x (broadcastInDim ⟨2, ![1, n]⟩ ![] h0 divisor)) (all h0 0#32)))
    (addi (Host.remsi x (broadcastInDim ⟨2, ![1, n]⟩ ![] h0 divisor)) (broadcastInDim ⟨2, ![1, n]⟩ ![] h0 divisor)) (Host.remsi x (broadcastInDim ⟨2, ![1, n]⟩ ![] h0 divisor))

variable {M off : ℕ} (h1 : (⟨1, ![n]⟩ : Shape).BroadcastsInDim ⟨2, ![1, n]⟩ (![1] : Fin 1 → Fin 2))
  (hb : (⟨2, ![1, n]⟩ : Shape).BroadcastsInDim ⟨2, ![16384, n]⟩ (![0, 1] : Fin 2 → Fin 2)) (h4 : (⟨0, ![]⟩ : Shape).BroadcastsInDim ⟨2, ![16384, n]⟩ (![] : Fin 0 → Fin 2))
  (hs : (⟨2, ![16384, 26]⟩ : Shape).Slices ![0, off] ⟨2, ![16384, n]⟩) (hc : (⟨2, ![16384, n]⟩ : Shape).ShapeCasts ⟨2, ![1, M]⟩)

/-- The fields' numbers. -/
abbrev fields : IVec ⟨2, ![1, n]⟩ 32 := broadcastInDim ⟨2, ![1, n]⟩ ![1] h1 (iotaInDim ⟨1, ![n]⟩ 32 0)

/-- The index words of `n` fields from the given one on. -/
def localRows (x : IVec ⟨2, ![16384, 26]⟩ 32) : IVec ⟨2, ![1, M]⟩ 32 :=
  shapeCast ⟨2, ![1, M]⟩ (addi (muli (addi (broadcastInDim ⟨2, ![16384, n]⟩ ![0, 1] hb (muli (quarter h0 (fields h1)) (all h0 102400#32)))
    (extractStridedSlice ⟨2, ![16384, n]⟩ ![0, off] x hs)) (broadcastInDim ⟨2, ![16384, n]⟩ ![] h4 (constantI ⟨0, ![]⟩ 32 4#32)))
    (broadcastInDim ⟨2, ![16384, n]⟩ ![0, 1] hb (rest h0 (fields h1)))) hc

open Idealize.ShloMosaic.ValueIdx in
/-- The word of sample `b` and field `f`. -/
theorem localRows_apply (x : IVec ⟨2, ![16384, 26]⟩ 32) (hn : n + off ≤ 26) (hM : M = 16384 * n) (b : Fin 16384) (f : Fin n)
    (hq : quarter h0 (fields h1) (ValueIdx.ix2 (0 : Fin 1) f) = BitVec.ofNat 32 (f.val / 4)) (hr : rest h0 (fields h1) (ValueIdx.ix2 (0 : Fin 1) f) = BitVec.ofNat 32 (f.val % 4))
    (hx : (x (ValueIdx.ix2 b ⟨f.val + off, by omega⟩)).toNat < 100001) (j : Fin M) (hj : j.val = b.val * n + f.val) :
    (localRows h0 h1 hb h4 hs hc x (ValueIdx.ix2 (0 : Fin 1) j)).toNat = (f.val / 4 * 102400 + (x (ValueIdx.ix2 b ⟨f.val + off, by omega⟩)).toNat) * 4 + f.val % 4 := by
  have hf := f.isLt
  have e1 (y : IVec ⟨2, ![1, n]⟩ 32) : broadcastInDim (s := ⟨2, ![1, n]⟩) ⟨2, ![16384, n]⟩ ![0, 1] hb y (ValueIdx.ix2 b f) = y (ValueIdx.ix2 (0 : Fin 1) f) :=
    broadcastInDim_apply _ _ _ _ _ fun a => by
      match a with
      | ⟨0, _⟩ => rfl
      | ⟨1, _⟩ =>
        show f.val = if n = 1 then 0 else f.val
        split <;> omega
  have e2 : extractStridedSlice ⟨2, ![16384, n]⟩ ![0, off] x hs (ValueIdx.ix2 b f) = x (ValueIdx.ix2 b ⟨f.val + off, by omega⟩) :=
    extractStridedSlice_apply _ _ _ _ _ fun a => by
      match a with
      | ⟨0, _⟩ => exact (Nat.zero_add _).symm
      | ⟨1, _⟩ => exact Nat.add_comm _ _
  unfold localRows
  rw [shapeCast_apply _ hc (ValueIdx.ix2 (0 : Fin 1) j) (ValueIdx.ix2 b f) (by
    rw [Shape.rowMajor_val_two, Shape.rowMajor_val_two]
    show b.val * n + f.val = 0 * M + j.val
    omega)]
  show (IntOp.addi (IntOp.muli (IntOp.addi _ _) 4#32) _ : BitVec 32).toNat = _
  rw [e1, e1, e2, hr]
  show (IntOp.addi (IntOp.muli (IntOp.addi (IntOp.muli (quarter h0 (fields h1) (ValueIdx.ix2 (0 : Fin 1) f)) 102400#32) _) 4#32) _ : BitVec 32).toNat = _
  rw [hq]
  simp only [IntOp.addi, IntOp.muli, BitVec.toNat_add, BitVec.toNat_mul, BitVec.toNat_ofNat]
  omega

end Words

/-- The index words of the two gathers. -/
abbrev wordsA (x : S16384x26.Idx → BitVec 32) : S1x262144.Idx → BitVec 32 :=
  localRows (n := 16) (M := 262144) (off := 0) bcast_S_S1x16 bcast_S16_S1x16_1 bcast_S1x16_S16384x16_0_1 bcast_S_S16384x16 slices_S16384x26_S16384x16_0_0 shapeCasts_S16384x16_S1x262144 x
abbrev wordsB (x : S16384x26.Idx → BitVec 32) : S1x163840.Idx → BitVec 32 :=
  localRows (n := 10) (M := 163840) (off := 16) bcast_S_S1x10 bcast_S10_S1x10_1 bcast_S1x10_S16384x10_0_1 bcast_S_S16384x10 slices_S16384x26_S16384x10_0_16 shapeCasts_S16384x10_S1x163840 x

theorem fieldsA : ∀ f : Fin 16, quarter (n := 16) bcast_S_S1x16 (fields bcast_S16_S1x16_1) (ValueIdx.ix2 (0 : Fin 1) f) = BitVec.ofNat 32 (f.val / 4)
    ∧ rest (n := 16) bcast_S_S1x16 (fields bcast_S16_S1x16_1) (ValueIdx.ix2 (0 : Fin 1) f) = BitVec.ofNat 32 (f.val % 4) := by decide +kernel
theorem fieldsB : ∀ f : Fin 10, quarter (n := 10) bcast_S_S1x10 (fields bcast_S10_S1x10_1) (ValueIdx.ix2 (0 : Fin 1) f) = BitVec.ofNat 32 (f.val / 4)
    ∧ rest (n := 10) bcast_S_S1x10 (fields bcast_S10_S1x10_1) (ValueIdx.ix2 (0 : Fin 1) f) = BitVec.ofNat 32 (f.val % 4) := by decide +kernel

theorem wordsA_apply (x : S16384x26.Idx → BitVec 32) (b : Fin 16384) (f : Fin 16) (hx : (x (ValueIdx.ix2 b ⟨f.val, by omega⟩)).toNat < 100001) (j : Fin 262144)
    (hj : j.val = b.val * 16 + f.val) :
    (wordsA x (ValueIdx.ix2 (0 : Fin 1) j)).toNat = (f.val / 4 * 102400 + (x (ValueIdx.ix2 b ⟨f.val, by omega⟩)).toNat) * 4 + f.val % 4 :=
  localRows_apply (off := 0) _ _ _ _ _ _ x (by decide) (by decide) b f (fieldsA f).1 (fieldsA f).2 hx j hj
theorem wordsB_apply (x : S16384x26.Idx → BitVec 32) (b : Fin 16384) (f : Fin 10) (hx : (x (ValueIdx.ix2 b ⟨f.val + 16, by omega⟩)).toNat < 100001) (j : Fin 163840)
    (hj : j.val = b.val * 10 + f.val) :
    (wordsB x (ValueIdx.ix2 (0 : Fin 1) j)).toNat = (f.val / 4 * 102400 + (x (ValueIdx.ix2 b ⟨f.val + 16, by omega⟩)).toNat) * 4 + f.val % 4 :=
  localRows_apply _ _ _ _ _ _ x (by decide) (by decide) b f (fieldsB f).1 (fieldsB f).2 hx j hj

/-- A merged table by field rows, filled up to 128 lanes. -/
def wideA (t : S409600x128.Idx → Elt F .f32) : S1638400x128.Idx → Elt F .f32 :=
  pad S1638400x128 ![0, 0] ![0, 96] ![0, 0] (shapeCast S1638400x32 t shapeCasts_S409600x128_S1638400x32) (sitofp .f32 (constantI S_ 32 0#32)) pads_S1638400x32_S1638400x128_000_0960 h_S_
def wideB (t : S307200x128.Idx → Elt F .f32) : S1228800x128.Idx → Elt F .f32 :=
  pad S1228800x128 ![0, 0] ![0, 96] ![0, 0] (shapeCast S1228800x32 t shapeCasts_S307200x128_S1228800x32) (sitofp .f32 (constantI S_ 32 0#32)) pads_S1228800x32_S1228800x128_000_0960 h_S_

set_option maxHeartbeats 4000000 in
theorem V3_words (d : Dev nD) : V3 m d (dv main_v17) = wordsA (m (at' d main_arg0)) := by
  have h : V3 m d (dv main_v17) = wordsA (V2 m d (dv main_arg0)) := by
    unfold V3; after_results_simp; rfl
  rw [h, (arg_kept m d (by decide)).2.1]
set_option maxHeartbeats 4000000 in
theorem V3_tab (d : Dev nD) : V3 m d (dv main_v18) = wideA (mergedA m d) := by
  have h : V3 m d (dv main_v18) = wideA (V2 m d (dv main_v2)) := by
    unfold V3; after_results_simp; rfl
  rw [h, V2_out]
set_option maxHeartbeats 4000000 in
theorem V7_words (d : Dev nD) : V7 m d (dv main_v36) = wordsB (m (at' d main_arg0)) := by
  have h : V7 m d (dv main_v36) = wordsB (V6 m d (dv main_arg0)) := by
    unfold V7; after_results_simp; rfl
  rw [h, (arg_kept m d (by decide)).2.2.1]
set_option maxHeartbeats 4000000 in
theorem V7_tab (d : Dev nD) : V7 m d (dv main_v37) = wideB (mergedB m d) := by
  have h : V7 m d (dv main_v37) = wideB (V6 m d (dv main_v21)) := by
    unfold V7; after_results_simp; rfl
  rw [h, V6_out]

/-- Index words below the tables' length name rows of the merged tables. -/
theorem pre_of_lt (h : ∀ (d : Dev nD) (x : S16384x26.Idx), ((m (at' d main_arg0) : S16384x26.Idx → BitVec 32) x).toNat < 100001) : PreOK (given m) := by
  intro d
  constructor
  · intro x
    obtain ⟨j, rfl⟩ : ∃ j : Fin 262144, x = ValueIdx.ix2 (0 : Fin 1) j := ⟨x 1, funext fun a => by
      match a with
      | ⟨0, _⟩ => exact Subsingleton.elim (α := Fin 1) _ _
      | ⟨1, _⟩ => rfl⟩
    have hj := j.isLt
    obtain ⟨b, f, hb⟩ : ∃ (b : Fin 16384) (f : Fin 16), j.val = b.val * 16 + f.val :=
      ⟨⟨j.val / 16, by omega⟩, ⟨j.val % 16, by omega⟩, (Nat.div_add_mod' j.val 16).symm⟩
    have hx := h d (ValueIdx.ix2 b ⟨f.val, by omega⟩)
    have e := wordsA_apply (m (at' d main_arg0)) b f hx j hb
    have hf := f.isLt
    have h' : (wordsA (m (at' d main_arg0)) (ValueIdx.ix2 (0 : Fin 1) j)).toNat < 1638400 := by
      rw [e]
      omega
    rw [← V3_words] at h'
    exact h'
  · intro x
    obtain ⟨j, rfl⟩ : ∃ j : Fin 163840, x = ValueIdx.ix2 (0 : Fin 1) j := ⟨x 1, funext fun a => by
      match a with
      | ⟨0, _⟩ => exact Subsingleton.elim (α := Fin 1) _ _
      | ⟨1, _⟩ => rfl⟩
    have hj := j.isLt
    obtain ⟨b, f, hb⟩ : ∃ (b : Fin 16384) (f : Fin 10), j.val = b.val * 10 + f.val :=
      ⟨⟨j.val / 10, by omega⟩, ⟨j.val % 10, by omega⟩, (Nat.div_add_mod' j.val 10).symm⟩
    have hx := h d (ValueIdx.ix2 b ⟨f.val + 16, by omega⟩)
    have e := wordsB_apply (m (at' d main_arg0)) b f hx j hb
    have hf := f.isLt
    have h' : (wordsB (m (at' d main_arg0)) (ValueIdx.ix2 (0 : Fin 1) j)).toNat < 1228800 := by
      rw [e]
      omega
    rw [← V7_words] at h'
    exact h'

/-! ## The network's operands -/

/-- The network's rows: the first 32 lanes of the gathered rows. -/
def RA (d : Dev nD) : Buf (Elt F) (at' d main_v20) :=
  (extractStridedSlice S262144x32 ![0, 0] (rowsA m d : S262144x128.Idx → Elt F .f32) slices_S262144x128_S262144x32_0_0 : S262144x32.Idx → Elt F .f32)
def RB (d : Dev nD) : Buf (Elt F) (at' d main_v39) :=
  (extractStridedSlice S163840x32 ![0, 0] (rowsB m d : S163840x128.Idx → Elt F .f32) slices_S163840x128_S163840x32_0_0 : S163840x32.Idx → Elt F .f32)

theorem V8_r (d : Dev nD) : V8 m d (dv main_v20) = RA m d := by
  rw [V8_of m d (by decide), V7_of m d (by decide), V6_of m d (by decide)]
  have h : V5 m d (dv main_v20) = (extractStridedSlice S262144x32 ![0, 0] (V4 m d (dv main_v19) : S262144x128.Idx → Elt F .f32) slices_S262144x128_S262144x32_0_0 :
      S262144x32.Idx → Elt F .f32) := by
    unfold V5; after_results
  rw [h, show V4 m d (dv main_v19) = rowsA m d from Function.update_self _ _ _]
  rfl
theorem V8_c (d : Dev nD) : V8 m d (dv main_c) = (fun i => lit2 (S325.rowMajor i) : S325.Idx → BitVec 32) :=
  (V8_early m d (by decide) (by decide) (by decide) (by decide) (by decide) (by decide) (by decide)).trans (V1_c m d)
theorem V8_arg (d : Dev nD) {b : Ref sig .tc} (h : isArg b) : V8 m d (dv b) = m (at' d b) := (arg_kept m d h).2.2.2.1
theorem V9_arg (d : Dev nD) {b : Ref sig .tc} (h : isArg b) : V9 m d (dv b) = m (at' d b) := (arg_kept m d h).2.2.2.2.1

/-- The network's operands: the rows, by sample, -/
theorem V9_ea (d : Dev nD) : V9 m d (dv main_v40) = shapeCast S16384x16x32 (RA m d : S262144x32.Idx → Elt F .f32) shapeCasts_S262144x32_S16384x16x32 := by
  have h : V9 m d (dv main_v40) = shapeCast S16384x16x32 (V8 m d (dv main_v20) : S262144x32.Idx → Elt F .f32) shapeCasts_S262144x32_S16384x16x32 := by
    unfold V9; after_results; rfl
  rw [h, V8_r]
theorem V9_eb (d : Dev nD) : V9 m d (dv main_v41) = shapeCast S16384x10x32 (RB m d : S163840x32.Idx → Elt F .f32) shapeCasts_S163840x32_S16384x10x32 := by
  have h : V9 m d (dv main_v41) = shapeCast S16384x10x32 (extractStridedSlice S163840x32 ![0, 0] (V8 m d (dv main_v38) : S163840x128.Idx → Elt F .f32)
      slices_S163840x128_S163840x32_0_0 : S163840x32.Idx → Elt F .f32) shapeCasts_S163840x32_S16384x10x32 := by
    unfold V9; after_results; rfl
  rw [h, show V8 m d (dv main_v38) = rowsB m d from Function.update_self _ _ _]
  rfl
/-- the row of each pair, -/
def pairRow : S325x1.Idx → BitVec 32 :=
  broadcastInDim S325x1 ![0] bcast_S325_S325x1_0 (select (cmpi .slt (fun i => lit2 (S325.rowMajor i)) (broadcastInDim S325 ![] bcast_S_S325 (constantI S_ 32 0#32)))
    (addi (fun i => lit2 (S325.rowMajor i)) (broadcastInDim S325 ![] bcast_S_S325 (constantI S_ 32 676#32))) (fun i => lit2 (S325.rowMajor i)))
/-- the first layer's weights at those rows of an array of zeros, -/
def spread (w : S325x192.Idx → Elt F .f32) : S676x192.Idx → Elt F .f32 :=
  Host.scatter scatter_S676x192_S325x1_S325x192_1_0_0_1 (fun _ b => b) (broadcastInDim S676x192 ![] bcast_S_S676x192 (constant S_ .f32 0x00000000#32)) pairRow w
theorem V9_w (d : Dev nD) : V9 m d (dv main_v49) = spread (m (at' d main_arg2)) := by
  have h : V9 m d (dv main_v49) = Host.scatter scatter_S676x192_S325x1_S325x192_1_0_0_1 (fun _ b => b)
      (broadcastInDim S676x192 ![] bcast_S_S676x192 (constant S_ .f32 0x00000000#32 : S_.Idx → Elt F .f32))
      (broadcastInDim S325x1 ![0] bcast_S325_S325x1_0 (select (cmpi .slt (V8 m d (dv main_c) : S325.Idx → BitVec 32) (broadcastInDim S325 ![] bcast_S_S325 (constantI S_ 32 0#32)))
        (addi (V8 m d (dv main_c) : S325.Idx → BitVec 32) (broadcastInDim S325 ![] bcast_S_S325 (constantI S_ 32 676#32))) (V8 m d (dv main_c) : S325.Idx → BitVec 32)))
      (V8 m d (dv main_arg2) : S325x192.Idx → Elt F .f32) := by
    unfold V9; after_results
  rw [h, V8_c, V8_arg m d (by decide)]
  rfl
/-- and the vectors as rows. -/
theorem V9_b1 (d : Dev nD) : V9 m d (dv main_v50) = shapeCast S1x192 (m (at' d main_arg3) : S192.Idx → Elt F .f32) shapeCasts_S192_S1x192 := by
  have h : V9 m d (dv main_v50) = shapeCast S1x192 (V8 m d (dv main_arg3) : S192.Idx → Elt F .f32) shapeCasts_S192_S1x192 := by unfold V9; after_results; rfl
  rw [h, V8_arg m d (by decide)]
theorem V9_b2 (d : Dev nD) : V9 m d (dv main_v51) = shapeCast S1x192 (m (at' d main_arg5) : S192.Idx → Elt F .f32) shapeCasts_S192_S1x192 := by
  have h : V9 m d (dv main_v51) = shapeCast S1x192 (V8 m d (dv main_arg5) : S192.Idx → Elt F .f32) shapeCasts_S192_S1x192 := by unfold V9; after_results; rfl
  rw [h, V8_arg m d (by decide)]
theorem V9_b3 (d : Dev nD) : V9 m d (dv main_v52) = shapeCast S1x192 (m (at' d main_arg7) : S192.Idx → Elt F .f32) shapeCasts_S192_S1x192 := by
  have h : V9 m d (dv main_v52) = shapeCast S1x192 (V8 m d (dv main_arg7) : S192.Idx → Elt F .f32) shapeCasts_S192_S1x192 := by unfold V9; after_results; rfl
  rw [h, V8_arg m d (by decide)]
theorem V9_bo (d : Dev nD) : V9 m d (dv main_v53) = shapeCast S1x1 (m (at' d main_arg9) : S1.Idx → Elt F .f32) shapeCasts_S1_S1x1 := by
  have h : V9 m d (dv main_v53) = shapeCast S1x1 (V8 m d (dv main_arg9) : S1.Idx → Elt F .f32) shapeCasts_S1_S1x1 := by unfold V9; after_results; rfl
  rw [h, V8_arg m d (by decide)]

end Launch

end
-- ==== Proof.Eye.lean ====
/-
  The two constant matrices the merges multiply by are the identity: ones on the diagonal, zeros elsewhere.
-/
module

public import proofs.«01_k».proof.KernelIdeal

@[expose] public section

noncomputable section

namespace Launch

open Cert.KernelIdeal

theorem eyeA : ∀ a b : Fin 128, lit0 ⟨a.val * 128 + b.val, by omega⟩ = if a = b then 0x3F800000#32 else 0#32 := by decide +kernel
theorem eyeB : ∀ a b : Fin 128, lit1 ⟨a.val * 128 + b.val, by omega⟩ = if a = b then 0x3F800000#32 else 0#32 := by decide +kernel

end Launch

end
-- ==== Proof.Table.lean ====
/-
  The merged tables over the extended reals: four fields side by side in each row, by the product with the identity; and the
  rows the gathers bring from them, which are the tables' rows at the samples' indices.
-/
module

public import proofs.«01_k».proof.Proof.Operands
public import proofs.«01_k».proof.Proof.Eye
public import Idealize.ShloMosaic.Lib.MatmulPlain
public import Idealize.ShloMosaic.Lib.KernelVsHost
public import Idealize.ShloMosaic.Lib.IdealHost

@[expose] public section

noncomputable section

namespace Launch

open Cert.KernelIdeal Cert.KernelIdeal.Gen
open Idealize.ShloMosaic hiding ix1 ix2 ix3
open Idealize.ShloMosaic.ValueIdx
open Idealize.ShloMosaic.Pipeline (Dat)
open scoped BigOperators

/-- An index of a two-axis array is its two coordinates. -/
theorem eq_ix2 {a b : ℕ} (y : (⟨2, ![a, b]⟩ : Shape).Idx) : ∃ (r : Fin a) (l : Fin b), y = ix2 r l := ⟨y 0, y 1, by
  funext a
  match a with
  | ⟨0, _⟩ => rfl
  | ⟨1, _⟩ => rfl⟩

/-! ## The merge's product -/

/-- The identity, read. -/
theorem eye_apply (l : Fin 16384 → BitVec 32) (hl : ∀ a b : Fin 128, l ⟨a.val * 128 + b.val, by omega⟩ = if a = b then 0x3F800000#32 else 0#32) (a b : Fin 128) :
    (FloatOps.ofBits (F := Ideal) .f32 (l (S128x128.rowMajor (ix2 a b))) : EReal) = if a = b then 1 else 0 := by
  have hlt : a.val * 128 + b.val < 16384 := by omega
  have hr : (S128x128.rowMajor (ix2 a b) : Fin 16384) = (⟨a.val * 128 + b.val, hlt⟩ : Fin 16384) := Fin.ext (Shape.rowMajor_val_two _)
  rw [hr, hl]
  show Ideal.ofBits .f32 _ = _
  split
  · exact Ideal.ofBits_one_f32
  · exact Ideal.ofBits_zero_f32

/-- Lane `c` of row `r` of a merged block: field `c / 32` of the four, its lane `c % 32`. -/
theorem merge_apply (x : S4x32x6400.Idx → EReal) (e : S128x128.Idx → EReal) (he : ∀ a b : Fin 128, e (ix2 a b) = if a = b then 1 else 0) (r : Fin 6400) (c : Fin 128) :
    k0_pay1 (F := Ideal) x e (ix2 r c) = x (ix3 (⟨c.val / 32, by omega⟩ : Fin 4) (⟨c.val % 32, by omega⟩ : Fin 32) r) := by
  unfold k0_pay1
  rw [shapeCast_self]
  refine (Ideal.matmul_constant_zero_apply _ _ _ _ _).trans ?_
  let dM := dot_S128x6400_S128x128_S6400x128_0_0_1_1_n_n
  rw [← Equiv.sum_comp (contrEquiv1 dM 128 rfl rfl).symm, Finset.sum_eq_single c]
  · have hd := contrEquiv1_symm_val dM 128 rfl rfl c
    have el : dM.lhsIdx (ix2 r c) ((contrEquiv1 dM 128 rfl rfl).symm c) = ix2 c r := by
      funext a; apply Fin.ext
      match a with
      | ⟨0, _⟩ => exact hd
      | ⟨1, _⟩ => rfl
    have er : dM.rhsIdx (ix2 r c) ((contrEquiv1 dM 128 rfl rfl).symm c) = ix2 c c := by
      funext a; apply Fin.ext
      match a with
      | ⟨0, _⟩ => exact hd
      | ⟨1, _⟩ => rfl
    rw [el, er, he, if_pos rfl, mul_one]
    refine shapeCast_apply _ _ _ _ ?_
    rw [Shape.rowMajor_val_two, Shape.rowMajor_val_three]
    show (c.val / 32 * 32 + c.val % 32) * 6400 + r.val = c.val * 6400 + r.val
    omega
  · intro k _ hk
    have hd := contrEquiv1_symm_val dM 128 rfl rfl k
    have er : dM.rhsIdx (ix2 r c) ((contrEquiv1 dM 128 rfl rfl).symm k) = ix2 k c := by
      funext a; apply Fin.ext
      match a with
      | ⟨0, _⟩ => exact hd
      | ⟨1, _⟩ => rfl
    rw [er, he, if_neg hk, mul_zero]
  · exact fun h => absurd (Finset.mem_univ c) h

/-! ## The merged tables -/

/-- Four fields side by side: row `g * 102400 + v` has entry `v` of fields `4 * (g₀ + g)` on, by lane. -/
def sideBySide {N : ℕ} (g₀ : ℕ) (hg : g₀ * 102400 + N ≤ 716800) (t : S28x32x102400.Idx → EReal) : (⟨2, ![N, 128]⟩ : Shape).Idx → EReal := fun y =>
  t (ix3 (⟨4 * (g₀ + (y 0).val / 102400) + (y 1).val / 32, by have h0 : (y 0).val < N := (y 0).isLt; have h1 : (y 1).val < 128 := (y 1).isLt; omega⟩ : Fin 28)
    (⟨(y 1).val % 32, Nat.mod_lt _ (by decide)⟩ : Fin 32) (⟨(y 0).val % 102400, Nat.mod_lt _ (by decide)⟩ : Fin 102400))

variable (m : (ℓ : Loc nD τ sig) → Buf (Elt Ideal) ℓ) (d : Dev nD)

theorem at0_0 : ∀ t : Fin grid0.N, win0_0.index t = ![t.val / 16, 0, t.val % 16] := by decide +kernel
theorem at0_1 : ∀ t : Fin grid0.N, win0_1.index t = ![0, 0] := by decide +kernel
theorem at0_2 : ∀ t : Fin grid0.N, win0_2.index t = ![t.val, 0] := by decide +kernel
theorem at2_0 : ∀ t : Fin grid2.N, win2_0.index t = ![4 + t.val / 16, 0, t.val % 16] := by decide +kernel
theorem at2_1 : ∀ t : Fin grid2.N, win2_1.index t = ![0, 0] := by decide +kernel
theorem at2_2 : ∀ t : Fin grid2.N, win2_2.index t = ![t.val, 0] := by decide +kernel

/-- Where the first merge's blocks lie. -/
theorem emb0_2 (t : Fin grid0.N) (r : Fin 6400) (c : Fin 128) :
    ((win0_2.blk t).view.emb (ix2 r c) : S409600x128.Idx) = ix2 (⟨t.val * 6400 + r.val, by have := lt_of_lt_of_eq t.isLt (show grid0.N = 64 by decide); omega⟩ : Fin 409600) c := by
  refine funext fun a => Fin.ext ?_
  match a with
  | ⟨0, _⟩ => blk_simp [at0_2 t]
  | ⟨1, _⟩ => blk_simp [at0_2 t]

theorem mergedA_eq : mergedA m d = sideBySide (N := 409600) 0 (by decide) (byLane (F := Ideal) (m (at' d main_arg1))) :=
  Dat.arrAt_eq_of_covers (dat (V1 m) 0 d) (2 : Fin 3) _ (by decide +kernel) fun t _ y => by
    obtain ⟨r, c, rfl⟩ : ∃ (r : Fin 6400) (c : Fin 128), y = ix2 r c := eq_ix2 y
    have e1 : (blk (V1 m) 0 d (1 : Fin 3) t : S128x128.Idx → EReal) = (fun i => FloatOps.ofBits (F := Ideal) .f32 (lit0 (S128x128.rowMajor i))) := by
      funext x
      show (V1 m d (dv main_cst) : S128x128.Idx → EReal) ((win0_1.blk t).view.emb x) = _
      rw [V1_eyeA]
      refine congrArg (fun x => FloatOps.ofBits (F := Ideal) .f32 (lit0 (S128x128.rowMajor x))) (funext fun a => Fin.ext ?_)
      match a with
      | ⟨0, _⟩ | ⟨1, _⟩ => blk_simp [at0_1 t]
    show mergeBlkA (V1 m) d t (ix2 r c) = sideBySide (N := 409600) 0 _ _ ((win0_2.blk t).view.emb (ix2 r c))
    unfold mergeBlkA
    rw [e1, merge_apply _ _ (eye_apply lit0 eyeA), emb0_2]
    show (V1 m d (dv main_v1) : S28x32x102400.Idx → EReal) ((win0_0.blk t).view.emb _) = _
    rw [V1_tab]
    have hr := r.isLt
    refine congrArg (byLane (F := Ideal) (m (at' d main_arg1))) (funext fun a => Fin.ext ?_)
    match a with
    | ⟨0, _⟩ =>
      blk_simp [at0_0 t]
      show t.val / 16 * 4 + c.val / 32 = 4 * ((t.val * 6400 + r.val) / 102400) + c.val / 32
      omega
    | ⟨1, _⟩ => blk_simp [at0_0 t]
    | ⟨2, _⟩ =>
      blk_simp [at0_0 t]
      show t.val % 16 * 6400 + r.val = (t.val * 6400 + r.val) % 102400
      omega

/-- Where the second merge's blocks lie. -/
theorem emb2_2 (t : Fin grid2.N) (r : Fin 6400) (c : Fin 128) :
    ((win2_2.blk t).view.emb (ix2 r c) : S307200x128.Idx) = ix2 (⟨t.val * 6400 + r.val, by have := lt_of_lt_of_eq t.isLt (show grid2.N = 48 by decide); omega⟩ : Fin 307200) c := by
  refine funext fun a => Fin.ext ?_
  match a with
  | ⟨0, _⟩ => blk_simp [at2_2 t]
  | ⟨1, _⟩ => blk_simp [at2_2 t]

theorem mergedB_eq : mergedB m d = sideBySide (N := 307200) 4 (by decide) (byLane (F := Ideal) (m (at' d main_arg1))) :=
  Dat.arrAt_eq_of_covers (dat (V5 m) 1 d) (2 : Fin 3) _ (by decide +kernel) fun t _ y => by
    obtain ⟨r, c, rfl⟩ : ∃ (r : Fin 6400) (c : Fin 128), y = ix2 r c := eq_ix2 y
    have e1 : (blk (V5 m) 1 d (1 : Fin 3) t : S128x128.Idx → EReal) = (fun i => FloatOps.ofBits (F := Ideal) .f32 (lit1 (S128x128.rowMajor i))) := by
      funext x
      show (V5 m d (dv main_cst_0) : S128x128.Idx → EReal) ((win2_1.blk t).view.emb x) = _
      rw [V5_eye]
      refine congrArg (fun x => FloatOps.ofBits (F := Ideal) .f32 (lit1 (S128x128.rowMajor x))) (funext fun a => Fin.ext ?_)
      match a with
      | ⟨0, _⟩ | ⟨1, _⟩ => blk_simp [at2_1 t]
    show mergeBlkB (V5 m) d t (ix2 r c) = sideBySide (N := 307200) 4 _ _ ((win2_2.blk t).view.emb (ix2 r c))
    unfold mergeBlkB
    rw [e1, merge_apply _ _ (eye_apply lit1 eyeB), emb2_2]
    show (V5 m d (dv main_v1) : S28x32x102400.Idx → EReal) ((win2_0.blk t).view.emb _) = _
    rw [V5_tab]
    have hr := r.isLt
    refine congrArg (byLane (F := Ideal) (m (at' d main_arg1))) (funext fun a => Fin.ext ?_)
    match a with
    | ⟨0, _⟩ =>
      blk_simp [at2_0 t]
      show (4 + t.val / 16) * 4 + c.val / 32 = 4 * (4 + (t.val * 6400 + r.val) / 102400) + c.val / 32
      omega
    | ⟨1, _⟩ => blk_simp [at2_0 t]
    | ⟨2, _⟩ =>
      blk_simp [at2_0 t]
      show t.val % 16 * 6400 + r.val = (t.val * 6400 + r.val) % 102400
      omega

/-! ## The rows the gathers bring -/

/-- The tables by lane, inside the tables. -/
theorem byLane_apply (t : S26x100001x32.Idx → EReal) (f : Fin 26) (l : Fin 32) (v : Fin 100001) (f' : Fin 28) (v' : Fin 102400) (hf : f'.val = f.val) (hv : v'.val = v.val) :
    byLane (F := Ideal) t (ix3 f' l v') = t (ix3 f v l) := by
  unfold byLane
  refine (pad_apply_of_inside _ _ _ _ _ _ _ _ (ix3 f l v) fun a => ?_).trans ?_
  · match a with
    | ⟨0, _⟩ => show f'.val = 0 + f.val * 1; omega
    | ⟨1, _⟩ => show l.val = 0 + l.val * 1; omega
    | ⟨2, _⟩ => show v'.val = 0 + v.val * 1; omega
  · exact transpose_apply _ _ _ _ _ fun a => by
      match a with
      | ⟨0, _⟩ | ⟨1, _⟩ | ⟨2, _⟩ => rfl

/-- An entry a gather brings, where its word names a row. -/
theorem gathered_apply {N M : ℕ} (dflt : EReal) (t : (⟨2, ![N, 128]⟩ : Shape).Idx → EReal) (w : (⟨2, ![1, M]⟩ : Shape).Idx → BitVec 32) (j : Fin M) (l : Fin 128)
    (h : (w (ix2 (0 : Fin 1) j)).toNat < N) : Windows.gathered (F := Ideal) (N := N) (M := M) dflt t w (ix2 j l) = t (ix2 (⟨_, h⟩ : Fin N) l) := dif_pos h

/-- Row `j` a gather brings, cut to 32 lanes, where its word names entry `v` of field `f` of the gather's fields: the table's. -/
theorem row_apply {N N' M : ℕ} (g₀ : ℕ) (hg : g₀ * 102400 + N ≤ 716800) (hc : (⟨2, ![N, 128]⟩ : Shape).ShapeCasts ⟨2, ![N', 32]⟩) (z : (⟨0, ![]⟩ : Shape).Idx → EReal)
    (hp : (⟨2, ![N', 32]⟩ : Shape).Pads ![0, 0] ![0, 96] ![0, 0] ⟨2, ![N', 128]⟩) (h_ : 0 < (⟨0, ![]⟩ : Shape).numel) (hs : (⟨2, ![M, 128]⟩ : Shape).Slices ![0, 0] ⟨2, ![M, 32]⟩)
    (t : S26x100001x32.Idx → EReal) (w : (⟨2, ![1, M]⟩ : Shape).Idx → BitVec 32) (dflt : EReal) (j : Fin M) (l : Fin 32) (f : ℕ) (v : Fin 100001) (hf : 4 * g₀ + f < 26)
    (hN : N' = 4 * N) (hw : (w (ix2 (0 : Fin 1) j)).toNat = (f / 4 * 102400 + v.val) * 4 + f % 4) (hw' : (w (ix2 (0 : Fin 1) j)).toNat < N') :
    extractStridedSlice ⟨2, ![M, 32]⟩ ![0, 0] (Windows.gathered (F := Ideal) (N := N') (M := M) dflt
        (pad ⟨2, ![N', 128]⟩ ![0, 0] ![0, 96] ![0, 0] (shapeCast ⟨2, ![N', 32]⟩ (sideBySide (N := N) g₀ hg (byLane (F := Ideal) t)) hc) z hp h_) w) hs (ix2 j l)
      = t (ix3 (⟨4 * g₀ + f, hf⟩ : Fin 26) v l) := by
  have hl := l.isLt
  have hv := v.isLt
  refine (extractStridedSlice_apply _ _ _ _ (ix2 j (⟨l.val, by omega⟩ : Fin 128)) fun a => ?_).trans ?_
  · match a with
    | ⟨0, _⟩ => exact (Nat.zero_add _).symm
    | ⟨1, _⟩ => exact (Nat.zero_add _).symm
  refine (gathered_apply dflt _ w j _ hw').trans ?_
  refine (pad_apply_of_inside _ _ _ _ _ _ _ _ (ix2 (⟨_, hw'⟩ : Fin N') l) fun a => ?_).trans ?_
  · match a with
    | ⟨0, _⟩ => show _ = 0 + _ * 1; rw [Nat.zero_add, Nat.mul_one]; rfl
    | ⟨1, _⟩ => show _ = 0 + _ * 1; rw [Nat.zero_add, Nat.mul_one]; rfl
  have hR : f / 4 * 102400 + v.val < N := by omega
  refine (shapeCast_apply _ _ _ (ix2 (⟨f / 4 * 102400 + v.val, hR⟩ : Fin N) (⟨f % 4 * 32 + l.val, by omega⟩ : Fin 128)) ?_).trans ?_
  · rw [Shape.rowMajor_val_two, Shape.rowMajor_val_two]
    show (f / 4 * 102400 + v.val) * 128 + (f % 4 * 32 + l.val) = (w (ix2 (0 : Fin 1) j)).toNat * 32 + l.val
    omega
  have el : (⟨(f % 4 * 32 + l.val) % 32, Nat.mod_lt _ (by decide)⟩ : Fin 32) = l := Fin.ext (by show (f % 4 * 32 + l.val) % 32 = l.val; omega)
  show byLane (F := Ideal) t (ix3 (⟨4 * (g₀ + (f / 4 * 102400 + v.val) / 102400) + (f % 4 * 32 + l.val) / 32, _⟩ : Fin 28)
    (⟨(f % 4 * 32 + l.val) % 32, Nat.mod_lt _ (by decide)⟩ : Fin 32) (⟨(f / 4 * 102400 + v.val) % 102400, _⟩ : Fin 102400)) = _
  rw [el]
  exact byLane_apply t _ _ _ _ _ (by show 4 * (g₀ + (f / 4 * 102400 + v.val) / 102400) + (f % 4 * 32 + l.val) / 32 = 4 * g₀ + f; omega)
    (by show (f / 4 * 102400 + v.val) % 102400 = v.val; omega)

/-- The tables' row at the index of sample `b` in field `f`. -/
def looked (t : S26x100001x32.Idx → EReal) (x : S16384x26.Idx → BitVec 32) (hx : ∀ i, (x i).toNat < 100001) (b : Fin 16384) (f : Fin 26) (l : Fin 32) : EReal :=
  t (ix3 f (⟨(x (ix2 b f)).toNat, hx _⟩ : Fin 100001) l)

variable (hx : ∀ i, ((m (at' d main_arg0) : S16384x26.Idx → BitVec 32) i).toNat < 100001)

theorem RA_apply (b : Fin 16384) (f : Fin 16) (l : Fin 32) (j : Fin 262144) (hj : j.val = b.val * 16 + f.val) :
    (RA m d : S262144x32.Idx → EReal) (ix2 j l) = looked (m (at' d main_arg1)) (m (at' d main_arg0)) hx b ⟨f.val, by omega⟩ l := by
  have hf := f.isLt
  have hw := wordsA_apply (m (at' d main_arg0)) b f (hx _) j hj
  have hv := hx (ix2 b ⟨f.val, by omega⟩)
  unfold RA rowsA
  rw [V3_words, V3_tab, mergedA_eq]
  refine (row_apply (N := 409600) (N' := 1638400) (M := 262144) 0 _ _ _ _ _ _ _ _ _ j l f.val ⟨_, hv⟩ (by omega) (by decide) hw ?_).trans ?_
  · rw [hw]; omega
  · exact congrArg (fun f' => (m (at' d main_arg1) : S26x100001x32.Idx → EReal) (ix3 f' _ l)) (Fin.ext (Nat.zero_add _))

theorem RB_apply (b : Fin 16384) (f : Fin 10) (l : Fin 32) (j : Fin 163840) (hj : j.val = b.val * 10 + f.val) :
    (RB m d : S163840x32.Idx → EReal) (ix2 j l) = looked (m (at' d main_arg1)) (m (at' d main_arg0)) hx b ⟨f.val + 16, by omega⟩ l := by
  have hf := f.isLt
  have hw := wordsB_apply (m (at' d main_arg0)) b f (hx _) j hj
  have hv := hx (ix2 b ⟨f.val + 16, by omega⟩)
  unfold RB rowsB
  rw [V7_words, V7_tab, mergedB_eq]
  refine (row_apply (N := 307200) (N' := 1228800) (M := 163840) 4 _ _ _ _ _ _ _ _ _ j l f.val ⟨_, hv⟩ (by omega) (by decide) hw ?_).trans ?_
  · rw [hw]; omega
  · exact congrArg (fun f' => (m (at' d main_arg1) : S26x100001x32.Idx → EReal) (ix3 f' _ l)) (Fin.ext (Nat.add_comm _ _))

end Launch

end
-- ==== Proof.Layers.lean ====
/-
  The network on one sample, over the extended reals: what the program's call computes of a sample's rows, and what the
  reference does.
-/
module

public import proofs.«01_k».proof.Proof.Table
public import proofs.«01_k».proof.Proof.Gen.ReferenceIdeal.Run
public import Idealize.ShloMosaic.Lib.MatmulPlain
public import Idealize.ShloMosaic.Lib.StackMember
public import Idealize.ShloMosaic.Lib.KernelVsHost
public import Idealize.ShloMosaic.Lib.Routing.OpsSet
public import Idealize.ShloMosaic.Lib.Routing.OpsPair

@[expose] public section

noncomputable section

namespace Launch

open Idealize.ShloMosaic hiding ix1 ix2 ix3
open Idealize.ShloMosaic.ValueIdx
open scoped BigOperators

/-! ## A layer -/

/-- A layer before the rectifier, of one sample. -/
def lin {K N : ℕ} (h : Fin K → EReal) (w : (⟨2, ![K, N]⟩ : Shape).Idx → EReal) (b : Fin N → EReal) (u : Fin N) : EReal :=
  (∑ k, h k * w (ix2 k u)) + b u

/-- The rectifier. -/
def relu (x : EReal) : EReal := max x (Ideal.ofBits .f32 0x00000000#32)

/-- The second and third layer and the last, from the first layer before the rectifier. -/
def deep (x : Fin 192 → EReal) (w2 : (⟨2, ![192, 192]⟩ : Shape).Idx → EReal) (b2 : Fin 192 → EReal) (w3 : (⟨2, ![192, 192]⟩ : Shape).Idx → EReal) (b3 : Fin 192 → EReal)
    (wo : (⟨2, ![192, 1]⟩ : Shape).Idx → EReal) (bo : Fin 1 → EReal) : EReal :=
  lin (fun k => relu (lin (fun k => relu (lin (fun k => relu (x k)) w2 b2 k)) w3 b3 k)) wo bo 0

section Layer

variable {M K N : ℕ}

/-- A layer as the call's body states it, -/
theorem lin_body (h : (⟨2, ![M, K]⟩ : Shape).Idx → EReal) (w : (⟨2, ![K, N]⟩ : Shape).Idx → EReal) (b : (⟨2, ![1, N]⟩ : Shape).Idx → EReal)
    (hb : (⟨2, ![1, N]⟩ : Shape).Broadcasts ⟨2, ![M, N]⟩) (r : Fin M) (u : Fin N) :
    addf (F := Ideal) (matmul (F := Ideal) (φ₁ := .f32) (φ₂ := .f32) (DotDims.plain M K N) none h w (constant ⟨2, ![M, N]⟩ .f32 0x00000000#32))
      (broadcastTo ⟨2, ![M, N]⟩ b hb) (ix2 r u) = lin (fun k => h (ix2 r k)) w (fun u => b (ix2 (0 : Fin 1) u)) u := by
  have e : broadcastTo ⟨2, ![M, N]⟩ b hb (ix2 r u) = b (ix2 (0 : Fin 1) u) := broadcastTo_apply _ _ _ _ fun a => by
    match a with
    | ⟨0, _⟩ => rfl
    | ⟨1, _⟩ =>
      show u.val = if N = 1 then 0 else u.val
      have := u.isLt
      split <;> omega
  show (FloatOps.matmul (F := Ideal) (φ₁ := .f32) (φ₂ := .f32) (DotDims.plain M K N) none h w _ (ix2 r u) : EReal) + broadcastTo ⟨2, ![M, N]⟩ b hb (ix2 r u) = _
  rw [Ideal.matmul_plain_apply, e]
  show (Ideal.ofBits .f32 0x00000000#32 + _) + _ = _
  rw [Ideal.ofBits_zero_f32, zero_add]
  rfl

/-- and as the reference does. -/
theorem lin_ref (h : (⟨2, ![M, K]⟩ : Shape).Idx → EReal) (w : (⟨2, ![K, N]⟩ : Shape).Idx → EReal) (b : (⟨1, ![N]⟩ : Shape).Idx → EReal)
    (h1 : (⟨1, ![N]⟩ : Shape).BroadcastsInDim ⟨2, ![1, N]⟩ (![1] : Fin 1 → Fin 2)) (h2 : (⟨2, ![1, N]⟩ : Shape).BroadcastsInDim ⟨2, ![M, N]⟩ (![0, 1] : Fin 2 → Fin 2))
    (r : Fin M) (u : Fin N) :
    addf (F := Ideal) (Host.dotGeneral (F := Ideal) (φ₁ := .f32) (φ₂ := .f32) (DotDims.plain M K N) none h w)
      (broadcastInDim ⟨2, ![M, N]⟩ ![0, 1] h2 (broadcastInDim ⟨2, ![1, N]⟩ ![1] h1 b)) (ix2 r u) = lin (fun k => h (ix2 r k)) w (fun u => b (ix1 u)) u := by
  have hu := u.isLt
  have e2 (y : (⟨2, ![1, N]⟩ : Shape).Idx → EReal) : broadcastInDim (s := ⟨2, ![1, N]⟩) ⟨2, ![M, N]⟩ ![0, 1] h2 y (ix2 r u) = y (ix2 (0 : Fin 1) u) := broadcastInDim_apply _ _ _ _ _ fun a => by
    match a with
    | ⟨0, _⟩ => rfl
    | ⟨1, _⟩ =>
      show u.val = if N = 1 then 0 else u.val
      split <;> omega
  have e1 : broadcastInDim ⟨2, ![1, N]⟩ ![1] h1 b (ix2 (0 : Fin 1) u) = b (ix1 u) := broadcastInDim_apply _ _ _ _ _ fun a => by
    match a with
    | ⟨0, _⟩ =>
      show u.val = if N = 1 then 0 else u.val
      split <;> omega
  show (Host.dotGeneral (F := Ideal) (φ₁ := .f32) (φ₂ := .f32) (DotDims.plain M K N) none h w (ix2 r u) : EReal) + broadcastInDim (s := ⟨2, ![1, N]⟩) ⟨2, ![M, N]⟩ ![0, 1] h2 _ (ix2 r u) = _
  rw [StackMember.dotGeneral_plain_apply, e2, e1]
  rfl

end Layer

/-! ## The interactions -/

section Pairs

variable {M : ℕ}

/-- The rows of a sample: 16 from the first table, 10 from the second. -/
def rows (ea : (⟨3, ![M, 16, 32]⟩ : Shape).Idx → EReal) (eb : (⟨3, ![M, 10, 32]⟩ : Shape).Idx → EReal) (r : Fin M) (f : Fin 26) (d : Fin 32) : EReal :=
  if h : f.val < 16 then ea (ix3 r ⟨f.val, h⟩ d) else eb (ix3 r ⟨f.val - 16, by omega⟩ d)

theorem rows_apply (ea : (⟨3, ![M, 16, 32]⟩ : Shape).Idx → EReal) (eb : (⟨3, ![M, 10, 32]⟩ : Shape).Idx → EReal)
    (h : Shape.Concatenates [(⟨3, ![M, 16, 32]⟩ : Shape), ⟨3, ![M, 10, 32]⟩] ⟨3, ![M, 26, 32]⟩ 1) (r : Fin M) (f : Fin 26) (d : Fin 32) :
    concatenate ⟨3, ![M, 26, 32]⟩ 1 [⟨⟨3, ![M, 16, 32]⟩, ea⟩, ⟨⟨3, ![M, 10, 32]⟩, eb⟩] h (ix3 r f d) = rows ea eb r f d := by
  unfold rows
  split
  · exact concatenate_pair_apply_left (s₁ := ⟨3, ![M, 16, 32]⟩) (s₂ := ⟨3, ![M, 10, 32]⟩) (t := ⟨3, ![M, 26, 32]⟩) 1 ea eb h (ix3 r f d) rfl (ix3 r ⟨f.val, _⟩ d) fun b => by
      match b with
      | ⟨0, _⟩ | ⟨1, _⟩ | ⟨2, _⟩ => rfl
  · refine concatenate_pair_apply_right (s₁ := ⟨3, ![M, 16, 32]⟩) (s₂ := ⟨3, ![M, 10, 32]⟩) (t := ⟨3, ![M, 26, 32]⟩) 1 ea eb h (ix3 r f d) rfl rfl
      (ix3 r ⟨f.val - 16, _⟩ d) (fun b hb => ?_) ?_
    · match b with
      | ⟨0, _⟩ | ⟨2, _⟩ => rfl
      | ⟨1, _⟩ => exact absurd rfl hb
    · show f.val - 16 + 16 = f.val
      omega

/-- The product of two rows of a sample. -/
def inter (e : Fin 26 → Fin 32 → EReal) (f g : Fin 26) : EReal := ∑ d, e f d * e g d

/-- All products of two rows, sample by sample. -/
abbrev pairDims (wf : DotDims.WF ⟨3, ![M, 26, 32]⟩ ⟨3, ![M, 26, 32]⟩ ⟨3, ![M, 26, 26]⟩ [2] [2] [1] [1] [0] [0]) :
    DotDims ⟨3, ![M, 26, 32]⟩ ⟨3, ![M, 26, 32]⟩ ⟨3, ![M, 26, 26]⟩ where
  lhsContracting := [2]
  rhsContracting := [2]
  lhsNonContracting := [1]
  rhsNonContracting := [1]
  lhsBatch := [0]
  rhsBatch := [0]
  wf := wf

variable (wf : DotDims.WF ⟨3, ![M, 26, 32]⟩ ⟨3, ![M, 26, 32]⟩ ⟨3, ![M, 26, 26]⟩ [2] [2] [1] [1] [0] [0])

theorem inter_sum (x : (⟨3, ![M, 26, 32]⟩ : Shape).Idx → EReal) (r : Fin M) (f g : Fin 26) :
    ∑ k : (pairDims wf).contr.Idx, x ((pairDims wf).lhsIdx (ix3 r f g) k) * x ((pairDims wf).rhsIdx (ix3 r f g) k) = inter (fun f d => x (ix3 r f d)) f g := by
  rw [← Equiv.sum_comp (contrEquiv1 (pairDims wf) 32 rfl rfl).symm]
  refine Finset.sum_congr rfl fun d _ => ?_
  have hd := contrEquiv1_symm_val (pairDims wf) 32 rfl rfl d
  have el : (pairDims wf).lhsIdx (ix3 r f g) ((contrEquiv1 (pairDims wf) 32 rfl rfl).symm d) = ix3 r f d := by
    funext a; apply Fin.ext
    match a with
    | ⟨0, _⟩ => rfl
    | ⟨1, _⟩ => rfl
    | ⟨2, _⟩ => exact hd
  have er : (pairDims wf).rhsIdx (ix3 r f g) ((contrEquiv1 (pairDims wf) 32 rfl rfl).symm d) = ix3 r g d := by
    funext a; apply Fin.ext
    match a with
    | ⟨0, _⟩ => rfl
    | ⟨1, _⟩ => rfl
    | ⟨2, _⟩ => exact hd
  rw [el, er]

theorem inter_body (x : (⟨3, ![M, 26, 32]⟩ : Shape).Idx → EReal) (r : Fin M) (f g : Fin 26) :
    matmul (F := Ideal) (φ₁ := .f32) (φ₂ := .f32) (pairDims wf) none x x (constant ⟨3, ![M, 26, 26]⟩ .f32 0x00000000#32) (ix3 r f g) = inter (fun f d => x (ix3 r f d)) f g :=
  (Ideal.matmul_constant_zero_apply _ _ _ _ _).trans (inter_sum wf x r f g)

theorem inter_ref (x : (⟨3, ![M, 26, 32]⟩ : Shape).Idx → EReal) (r : Fin M) (f g : Fin 26) :
    Host.dotGeneral (F := Ideal) (φ₁ := .f32) (φ₂ := .f32) (pairDims wf) none x x (ix3 r f g) = inter (fun f d => x (ix3 r f d)) f g :=
  (Ideal.dotGeneral_apply _ _ _ _ _ _).trans (inter_sum wf x r f g)

/-- Row `q` of the flat interactions is the product of rows `q / 26` and `q % 26`. -/
theorem flat_pairs (x : (⟨3, ![M, 26, 26]⟩ : Shape).Idx → EReal) (h : (⟨3, ![M, 26, 26]⟩ : Shape).ShapeCasts ⟨2, ![M, 676]⟩) (r : Fin M) (q : Fin 676) :
    shapeCast ⟨2, ![M, 676]⟩ x h (ix2 r q) = x (ix3 r ⟨q.val / 26, by omega⟩ ⟨q.val % 26, Nat.mod_lt _ (by decide)⟩) := by
  refine shapeCast_apply _ _ _ _ ?_
  rw [Shape.rowMajor_val_two, Shape.rowMajor_val_three]
  show (r.val * 26 + q.val / 26) * 26 + q.val % 26 = r.val * 676 + q.val
  omega

end Pairs

/-! ## The pairs -/

open Cert.KernelIdeal (lit2)

/-- The flat place of a pair is `26 * i + j`, and later pairs have later places. -/
theorem pair_lits : ∀ p : Fin 325, (lit2 p).toNat = 26 * (Cert.ReferenceIdeal.lit0 p).toNat + (Cert.ReferenceIdeal.lit1 p).toNat
    ∧ (Cert.ReferenceIdeal.lit0 p).toNat < 26 ∧ (Cert.ReferenceIdeal.lit1 p).toNat < 26 := by decide +kernel
theorem pair_mono : ∀ p : Fin 324, (lit2 p.castSucc).toNat < (lit2 p.succ).toNat := by decide +kernel

/-- The two members of a pair, and its flat place. -/
def fst (p : Fin 325) : Fin 26 := ⟨(Cert.ReferenceIdeal.lit0 p).toNat, (pair_lits p).2.1⟩
def snd (p : Fin 325) : Fin 26 := ⟨(Cert.ReferenceIdeal.lit1 p).toNat, (pair_lits p).2.2⟩
def place (p : Fin 325) : Fin 676 := ⟨(lit2 p).toNat, by have := pair_lits p; omega⟩

theorem place_inj : Function.Injective place :=
  StrictMono.injective (Fin.strictMono_iff_lt_succ.mpr fun p => Fin.lt_def.mpr (pair_mono p))
theorem place_div (p : Fin 325) : (⟨(place p).val / 26, by have := (place p).isLt; omega⟩ : Fin 26) = fst p := by
  have := pair_lits p
  refine Fin.ext ?_
  show (lit2 p).toNat / 26 = (Cert.ReferenceIdeal.lit0 p).toNat
  omega
theorem place_mod (p : Fin 325) : (⟨(place p).val % 26, Nat.mod_lt _ (by decide)⟩ : Fin 26) = snd p := by
  have := pair_lits p
  refine Fin.ext ?_
  show (lit2 p).toNat % 26 = (Cert.ReferenceIdeal.lit1 p).toNat
  omega

end Launch

end
-- ==== Proof.Agree.lean ====
/-
  The network of the program and the reference's, over the extended reals, agree: the program multiplies all 676 products of
  two rows by weights that are zero but at the 325 pairs, the reference takes the 325 pairs out first.
-/
module

public import proofs.«01_k».proof.Proof.Layers

@[expose] public section

noncomputable section

namespace Launch

open Idealize.ShloMosaic hiding ix1 ix2 ix3
open Idealize.ShloMosaic.ValueIdx
open scoped BigOperators

theorem lin_congr {K N : ℕ} {h h' : Fin K → EReal} {w : (⟨2, ![K, N]⟩ : Shape).Idx → EReal} {b b' : Fin N → EReal} {u : Fin N} (e : ∀ k, h k = h' k) (eb : b u = b' u) :
    lin h w b u = lin h' w b' u := by
  rw [funext e, lin, eb]
  rfl

/-! ## The program's network on a sample -/

section Program

open Cert.KernelIdeal Cert.KernelIdeal.Gen

theorem netOut_row (x0 : S512x16x32.Idx → EReal) (x1 : S512x10x32.Idx → EReal) (x2 : S676x192.Idx → EReal) (x3 : S1x192.Idx → EReal)
    (x4 : S192x192.Idx → EReal) (x5 : S1x192.Idx → EReal) (x6 : S192x192.Idx → EReal) (x7 : S1x192.Idx → EReal)
    (x8 : S192x1.Idx → EReal) (x9 : S1x1.Idx → EReal) (r : Fin 512) :
    netOut (F := Ideal) x0 x1 x2 x3 x4 x5 x6 x7 x8 x9 (ix2 r (0 : Fin 1))
      = deep (lin (fun q : Fin 676 => inter (rows x0 x1 r) ⟨q.val / 26, by omega⟩ ⟨q.val % 26, Nat.mod_lt _ (by decide)⟩) x2 fun u => x3 (ix2 (0 : Fin 1) u))
          x4 (fun u => x5 (ix2 (0 : Fin 1) u)) x6 (fun u => x7 (ix2 (0 : Fin 1) u)) x8 (fun u => x9 (ix2 (0 : Fin 1) u)) := by
  unfold netOut k4_pay1 k4_pay2 deep
  dsimp only
  simp only [shapeCast_self]
  refine (lin_body _ x8 x9 _ r 0).trans (lin_congr (fun k => congrArg relu ?_) rfl)
  refine (lin_body _ x6 x7 _ r k).trans (lin_congr (fun k => congrArg relu ?_) rfl)
  refine (lin_body _ x4 x5 _ r k).trans (lin_congr (fun k => congrArg relu ?_) rfl)
  refine (lin_body _ x2 x3 _ r k).trans (lin_congr (fun q => ?_) rfl)
  rw [flat_pairs]
  refine (inter_body _ _ r _ _).trans (congrArg (fun e => inter e _ _) (funext fun f => funext fun d => ?_))
  refine (rows_apply (shapeCast S512x16x32 x0 _) (shapeCast S512x10x32 x1 _) _ r f d).trans ?_
  rw [shapeCast_self, shapeCast_self]

/-! ## The weights of the pairs among zeros -/

theorem pairRow_apply (p : Fin 325) : pairRow (ix2 p (0 : Fin 1)) = lit2 p := by
  have hr : (S325.rowMajor (ix1 p) : Fin 325) = p := Fin.ext (Shape.rowMajor_val_one _)
  have e : pairRow (ix2 p (0 : Fin 1)) = Scalar.select (IntOp.cmpi .slt (lit2 (S325.rowMajor (ix1 p))) 0#32) (IntOp.addi (lit2 (S325.rowMajor (ix1 p))) 676#32) (lit2 (S325.rowMajor (ix1 p))) := by
    unfold pairRow
    exact broadcastInDim_apply _ _ _ _ (ix1 p) fun a => by
      match a with
      | ⟨0, _⟩ => rfl
  rw [e, hr]
  have h := (place p).isLt
  change (lit2 p).toNat < 676 at h
  have hz : (lit2 p).slt 0#32 = false := by
    simp only [BitVec.slt_eq_decide, BitVec.toInt_eq_toNat_cond, BitVec.toNat_ofNat, Nat.reducePow, Nat.reduceMod, decide_eq_false_iff_not]
    omega
  have hcmp : IntOp.cmpi .slt (lit2 p) 0#32 = 0#1 := by
    simp only [IntOp.cmpi, hz]; rfl
  rw [hcmp]
  rfl

abbrev dS : ScatterDims S676x192 S325x1 S325x192 := scatter_S676x192_S325x1_S325x192_1_0_0_1

/-- Where the row of a pair's weights goes. -/
theorem lands (p : Fin 325) (v : Fin 192) (q : Fin 676) (u : Fin 192) :
    ScatterDims.resultIdx? dS (ix2 p v) pairRow = some (ix2 q u) ↔ place p = q ∧ v = u := by
  have hs0 : ScatterDims.start dS (ix2 p v) pairRow 0 = (place p).val := by
    unfold ScatterDims.start
    rw [dif_pos (show (0 : Fin 2) ∈ dS.scatterDimsToOperandDims from List.mem_singleton.mpr rfl)]
    have hsi : ScatterDims.siIdx dS (ix2 p v) ⟨List.idxOf (0 : Fin 2) dS.scatterDimsToOperandDims, List.idxOf_lt_length_iff.2 (List.mem_singleton.mpr rfl)⟩ = ix2 p (0 : Fin 1) := by
      funext b; refine Fin.ext ?_
      match b with
      | ⟨0, _⟩ => rfl
      | ⟨1, _⟩ => rfl
    rw [hsi, pairRow_apply]
    have h := (place p).isLt
    change (lit2 p).toNat < 676 at h
    rw [BitVec.toInt_eq_toNat_cond, if_pos (by omega)]
    rfl
  have hs1 : ScatterDims.start dS (ix2 p v) pairRow 1 = 0 := by
    unfold ScatterDims.start
    rw [dif_neg (show (1 : Fin 2) ∉ dS.scatterDimsToOperandDims from fun h => absurd (List.mem_singleton.mp h) (by decide))]
  have hw0 : ScatterDims.window dS (ix2 p v) 0 = 0 := rfl
  have hw1 : ScatterDims.window dS (ix2 p v) 1 = v.val := rfl
  rw [Routing.resultIdx?_ix2, hs0, hs1, hw0, hw1, Fin.ext_iff, Fin.ext_iff]
  omega

theorem spread_hit (w : S325x192.Idx → EReal) (p : Fin 325) (u : Fin 192) : spread (F := Ideal) w (ix2 (place p) u) = w (ix2 p u) := by
  refine Routing.scatter_set_hit dS _ pairRow w _ _ (fun k hk => ?_) (ix2 p u) ((lands p u _ _).mpr ⟨rfl, rfl⟩)
  have ek : k = ix2 (k 0) (k 1) := by
    funext a
    match a with
    | ⟨0, _⟩ => rfl
    | ⟨1, _⟩ => rfl
  rw [ek] at hk ⊢
  obtain ⟨h0, h1⟩ := (lands _ _ _ _).mp hk
  rw [place_inj h0, h1]
  rfl

theorem spread_miss (w : S325x192.Idx → EReal) (q : Fin 676) (h : ∀ p, place p ≠ q) (u : Fin 192) : spread (F := Ideal) w (ix2 q u) = 0 := by
  refine (Routing.scatter_set_miss dS _ pairRow w _ fun k hk => ?_).trans Ideal.ofBits_zero_f32
  have ek : k = ix2 (k 0) (k 1) := by
    funext a
    match a with
    | ⟨0, _⟩ => rfl
    | ⟨1, _⟩ => rfl
  rw [ek] at hk
  exact h _ ((lands _ _ _ _).mp hk).1

/-- A layer with those weights sums over the pairs. -/
theorem lin_spread (X : Fin 676 → EReal) (w : S325x192.Idx → EReal) (b : Fin 192 → EReal) (u : Fin 192) :
    lin X (spread (F := Ideal) w) b u = lin (fun p => X (place p)) w b u := by
  unfold lin
  congr 1
  refine (Fintype.sum_of_injective place place_inj _ _ (fun q hq => ?_) fun p => ?_).symm
  · rw [spread_miss w q (fun p hp => hq ⟨p, hp⟩), mul_zero]
  · rw [spread_hit]

end Program

/-! ## The reference's network on a sample -/

section Reference

open Cert.ReferenceIdeal Cert.ReferenceIdeal.Facts₀

/-- The words of the pairs, as the reference states them. -/
def pairWords : S325x2.Idx → BitVec 32 :=
  concatenate S325x2 1 [⟨S325x1, broadcastInDim S325x1 ![0] bcast_S325_S325x1_0 (select (constantI S325 1 0#1) (addi (fun i => lit0 (S325.rowMajor i)) (broadcastInDim S325 ![] bcast_S_S325 (constantI S_ 32 26#32))) (fun i => lit0 (S325.rowMajor i)))⟩,
    ⟨S325x1, broadcastInDim S325x1 ![0] bcast_S325_S325x1_0 (select (constantI S325 1 0#1) (addi (fun i => lit1 (S325.rowMajor i)) (broadcastInDim S325 ![] bcast_S_S325 (constantI S_ 32 26#32))) (fun i => lit1 (S325.rowMajor i)))⟩]
    concatenates_S325x1_S325x1_S325x2_d1

theorem column (l : Fin 325 → BitVec 32) (p : Fin 325) (h1 : (⟨1, ![325]⟩ : Shape).BroadcastsInDim ⟨2, ![325, 1]⟩ (![0] : Fin 1 → Fin 2)) (y : S325.Idx → BitVec 32) :
    broadcastInDim (s := ⟨1, ![325]⟩) ⟨2, ![325, 1]⟩ ![0] h1 (select (constantI S325 1 0#1) y (fun i => l (S325.rowMajor i))) (ix2 p (0 : Fin 1)) = l p := by
  have hr : (S325.rowMajor (ix1 p) : Fin 325) = p := Fin.ext (Shape.rowMajor_val_one _)
  refine (broadcastInDim_apply _ _ _ _ (ix1 p) fun a => ?_).trans ?_
  · match a with
    | ⟨0, _⟩ => rfl
  · show l (S325.rowMajor (ix1 p)) = l p
    rw [hr]

theorem pairWords_fst (p : Fin 325) : pairWords (ix2 p (0 : Fin 2)) = lit0 p := by
  unfold pairWords
  refine (concatenate_pair_apply_left (s₁ := S325x1) (s₂ := S325x1) (t := S325x2) 1 _ _ _ (ix2 p (0 : Fin 2)) rfl (ix2 p (0 : Fin 1)) fun b => ?_).trans (column lit0 p _ _)
  match b with
  | ⟨0, _⟩ | ⟨1, _⟩ => rfl
theorem pairWords_snd (p : Fin 325) : pairWords (ix2 p (1 : Fin 2)) = lit1 p := by
  unfold pairWords
  refine (concatenate_pair_apply_right (s₁ := S325x1) (s₂ := S325x1) (t := S325x2) 1 _ _ _ (ix2 p (1 : Fin 2)) rfl rfl (ix2 p (0 : Fin 1)) (fun b hb => ?_) rfl).trans (column lit1 p _ _)
  match b with
  | ⟨0, _⟩ => rfl
  | ⟨1, _⟩ => exact absurd rfl hb

abbrev dG : GatherDims S16384x26x26 S325x2 S16384x325 := gather_S16384x26x26_S325x2_S16384x325_0_12_n_n_12_1_1638411

/-- The pairs taken out. -/
theorem take_pair (x : S16384x26x26.Idx → EReal) (r : Fin 16384) (p : Fin 325) : Host.gather dG x pairWords (ix2 r p) = x (ix3 r (fst p) (snd p)) := by
  unfold Host.gather
  congr 1
  funext a
  refine Fin.ext ?_
  show GatherDims.start dG (ix2 r p) pairWords a + GatherDims.batchCoord dG (ix2 r p) a + GatherDims.offCoord dG (ix2 r p) a = _
  have hb : GatherDims.batchCoord dG (ix2 r p) a = 0 := GatherDims.batchCoord_eq_zero _ _ _ (fun h => by simp [gather_S16384x26x26_S325x2_S16384x325_0_12_n_n_12_1_1638411] at h)
  rw [hb]
  have hl := pair_lits p
  match a with
  | ⟨0, _⟩ =>
    have hs : GatherDims.start dG (ix2 r p) pairWords (0 : Fin 3) = 0 := by
      unfold GatherDims.start
      rw [dif_neg (show (0 : Fin 3) ∉ dG.startIndexMap by simp [gather_S16384x26x26_S325x2_S16384x325_0_12_n_n_12_1_1638411])]
    have ho : GatherDims.offCoord dG (ix2 r p) (0 : Fin 3) = r.val := rfl
    show GatherDims.start dG (ix2 r p) pairWords (0 : Fin 3) + 0 + GatherDims.offCoord dG (ix2 r p) (0 : Fin 3) = r.val
    omega
  | ⟨1, _⟩ =>
    have hs : GatherDims.start dG (ix2 r p) pairWords (1 : Fin 3) = (lit0 p).toNat := by
      unfold GatherDims.start
      rw [dif_pos (show (1 : Fin 3) ∈ dG.startIndexMap from List.mem_cons_self)]
      have hsi : GatherDims.siIdx dG (ix2 r p) ⟨List.idxOf (1 : Fin 3) dG.startIndexMap, List.idxOf_lt_length_iff.2 List.mem_cons_self⟩ = ix2 p (0 : Fin 2) := by
        funext b; refine Fin.ext ?_
        match b with
        | ⟨0, _⟩ => rfl
        | ⟨1, _⟩ => rfl
      rw [hsi, pairWords_fst]
      show min (lit0 p).toInt.toNat (26 - 1) = _
      rw [BitVec.toInt_eq_toNat_cond, if_pos (by omega)]
      omega
    have ho : GatherDims.offCoord dG (ix2 r p) (1 : Fin 3) = 0 := rfl
    show GatherDims.start dG (ix2 r p) pairWords (1 : Fin 3) + 0 + GatherDims.offCoord dG (ix2 r p) (1 : Fin 3) = (lit0 p).toNat
    omega
  | ⟨2, _⟩ =>
    have hm : (2 : Fin 3) ∈ dG.startIndexMap := List.mem_cons_of_mem _ List.mem_cons_self
    have hs : GatherDims.start dG (ix2 r p) pairWords (2 : Fin 3) = (lit1 p).toNat := by
      unfold GatherDims.start
      rw [dif_pos hm]
      have hsi : GatherDims.siIdx dG (ix2 r p) ⟨List.idxOf (2 : Fin 3) dG.startIndexMap, List.idxOf_lt_length_iff.2 hm⟩ = ix2 p (1 : Fin 2) := by
        funext b; refine Fin.ext ?_
        match b with
        | ⟨0, _⟩ => rfl
        | ⟨1, _⟩ => rfl
      rw [hsi, pairWords_snd]
      show min (lit1 p).toInt.toNat (26 - 1) = _
      rw [BitVec.toInt_eq_toNat_cond, if_pos (by omega)]
      omega
    have ho : GatherDims.offCoord dG (ix2 r p) (2 : Fin 3) = 0 := rfl
    show GatherDims.start dG (ix2 r p) pairWords (2 : Fin 3) + 0 + GatherDims.offCoord dG (ix2 r p) (2 : Fin 3) = (lit1 p).toNat
    omega

/-- The reference's result from the gathered rows, as its run states it. -/
def refNet (x : S16384x26x32.Idx → EReal) (w1 : S325x192.Idx → EReal) (b1 : S192.Idx → EReal) (w2 : S192x192.Idx → EReal) (b2 : S192.Idx → EReal)
    (w3 : S192x192.Idx → EReal) (b3 : S192.Idx → EReal) (wo : S192x1.Idx → EReal) (bo : S1.Idx → EReal) : S16384x1.Idx → EReal :=
  let z : S16384x192.Idx → EReal := broadcastInDim S16384x192 ![] bcast_S_S16384x192 (constant (F := Ideal) S_ .f32 0x00000000#32)
  let h0 : S16384x325.Idx → EReal := Host.gather dG (Host.dotGeneral (F := Ideal) (φ₁ := .f32) (φ₂ := .f32) dot_S16384x26x32_S16384x26x32_S16384x26x26_2_2_1_1_0_0 none x x) pairWords
  let row (b : S192.Idx → EReal) : S16384x192.Idx → EReal := broadcastInDim S16384x192 ![0, 1] bcast_S1x192_S16384x192_0_1 (broadcastInDim S1x192 ![1] bcast_S192_S1x192_1 b)
  let h1 : S16384x192.Idx → EReal := maximumf (F := Ideal) (φ := .f32) (addf (F := Ideal) (φ := .f32) (Host.dotGeneral (F := Ideal) (φ₁ := .f32) (φ₂ := .f32) dot_S16384x325_S325x192_S16384x192_1_0_0_1_n_n none h0 w1) (row b1)) z
  let h2 : S16384x192.Idx → EReal := maximumf (F := Ideal) (φ := .f32) (addf (F := Ideal) (φ := .f32) (Host.dotGeneral (F := Ideal) (φ₁ := .f32) (φ₂ := .f32) dot_S16384x192_S192x192_S16384x192_1_0_0_1_n_n none h1 w2) (row b2)) z
  let h3 : S16384x192.Idx → EReal := maximumf (F := Ideal) (φ := .f32) (addf (F := Ideal) (φ := .f32) (Host.dotGeneral (F := Ideal) (φ₁ := .f32) (φ₂ := .f32) dot_S16384x192_S192x192_S16384x192_1_0_0_1_n_n none h2 w3) (row b3)) z
  addf (F := Ideal) (φ := .f32) (Host.dotGeneral (F := Ideal) (φ₁ := .f32) (φ₂ := .f32) dot_S16384x192_S192x1_S16384x1_1_0_0_1_n_n none h3 wo)
    (broadcastInDim S16384x1 ![0, 1] bcast_S1x1_S16384x1_0_1 (broadcastInDim S1x1 ![1] bcast_S1_S1x1_1 bo))

theorem refNet_row (x : S16384x26x32.Idx → EReal) (w1 : S325x192.Idx → EReal) (b1 : S192.Idx → EReal) (w2 : S192x192.Idx → EReal) (b2 : S192.Idx → EReal)
    (w3 : S192x192.Idx → EReal) (b3 : S192.Idx → EReal) (wo : S192x1.Idx → EReal) (bo : S1.Idx → EReal) (r : Fin 16384) :
    refNet x w1 b1 w2 b2 w3 b3 wo bo (ix2 r (0 : Fin 1))
      = deep (lin (fun p : Fin 325 => inter (fun f d => x (ix3 r f d)) (fst p) (snd p)) w1 fun u => b1 (ix1 u)) w2 (fun u => b2 (ix1 u)) w3 (fun u => b3 (ix1 u)) wo (fun u => bo (ix1 u)) := by
  unfold refNet deep
  dsimp only
  refine (lin_ref _ wo bo _ _ r 0).trans (lin_congr (fun k => congrArg relu ?_) rfl)
  refine (lin_ref _ w3 b3 _ _ r k).trans (lin_congr (fun k => congrArg relu ?_) rfl)
  refine (lin_ref _ w2 b2 _ _ r k).trans (lin_congr (fun k => congrArg relu ?_) rfl)
  refine (lin_ref _ w1 b1 _ _ r k).trans (lin_congr (fun p => ?_) rfl)
  rw [take_pair]
  exact inter_ref _ _ r _ _

end Reference

end Launch

end
-- ==== Proof.Value.lean ====
/-
  The values: the reference's rows are the tables' rows at the samples' indices, as the program's are; from them the network's
  result is the reference's, over the extended reals; and what the precondition says of the index words.
-/
module

public import proofs.«01_k».proof.Proof.Agree
public import proofs.«01_k».proof.Proof.Gen.Pre_in_range
public import Idealize.ShloMosaic.Lib.ReduceAll
public import Idealize.ShloMosaic.Lib.KernelVsHost

@[expose] public section

noncomputable section

namespace Launch

open Idealize.ShloMosaic hiding ix1 ix2 ix3
open Idealize.ShloMosaic.ValueIdx

variable {F : FTy → Type} [FloatOps F]

/-! ## The reference's gather -/

section Gather

variable {N M : ℕ}

/-- Rows of a table, by an index word each. -/
abbrev rowDims (wf : GatherDims.WF ⟨2, ![N, 32]⟩ ⟨2, ![M, 1]⟩ ⟨2, ![M, 32]⟩ [1] [0] [] [0] [] 1 ![1, 32]) :
    GatherDims ⟨2, ![N, 32]⟩ ⟨2, ![M, 1]⟩ ⟨2, ![M, 32]⟩ where
  offsetDims := [1]
  collapsedSliceDims := [0]
  operandBatchingDims := []
  startIndicesBatchingDims := []
  startIndexMap := [0]
  indexVectorDim := 1
  sliceSizes := ![1, 32]
  wf := wf

variable (wf : GatherDims.WF ⟨2, ![N, 32]⟩ ⟨2, ![M, 1]⟩ ⟨2, ![M, 32]⟩ [1] [0] [] [0] [] 1 ![1, 32])

/-- A row of the reference's gather: the table's row at the index word, read signed and kept in the table. -/
theorem gather_row {α : Type} (hN : 0 < N) (x : (⟨2, ![N, 32]⟩ : Shape).Idx → α) (ix : IVec ⟨2, ![M, 1]⟩ 32) (r : Fin M) (l : Fin 32) :
    Host.gather (rowDims wf) x ix (ix2 r l) = x (ix2 ⟨min (ix (ix2 r (0 : Fin 1))).toInt.toNat (N - 1), by omega⟩ l) := by
  unfold Host.gather
  congr 1
  funext a
  refine Fin.ext ?_
  show (rowDims wf).start (ix2 r l) ix a + (rowDims wf).batchCoord (ix2 r l) a + (rowDims wf).offCoord (ix2 r l) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix2 r l) ⟨List.idxOf (0 : Fin 2) (rowDims wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · rw [GatherDims.batchCoord_eq_zero _ _ _ (fun h => by simp at h)]
    unfold GatherDims.start
    rw [dif_neg (show (1 : Fin 2) ∉ (rowDims wf).startIndexMap by simp)]
    simp only [Nat.zero_add]
    rfl

variable (h0 : (⟨0, ![]⟩ : Shape).BroadcastsInDim ⟨1, ![M]⟩ (![] : Fin 0 → Fin 1))
  (h1 : (⟨1, ![M]⟩ : Shape).BroadcastsInDim ⟨2, ![M, 1]⟩ (![0] : Fin 1 → Fin 2)) (n : BitVec 32)

/-- The rows the reference takes, as its run states it: a negative word counts from the table's end. -/
def taken {α : Type} (x : (⟨2, ![N, 32]⟩ : Shape).Idx → α) (w : IVec ⟨1, ![M]⟩ 32) : (⟨2, ![M, 32]⟩ : Shape).Idx → α :=
  Host.gather (rowDims wf) x (broadcastInDim ⟨2, ![M, 1]⟩ ![0] h1
    (select (cmpi .slt w (broadcastInDim ⟨1, ![M]⟩ ![] h0 (constantI ⟨0, ![]⟩ 32 0#32))) (addi w (broadcastInDim ⟨1, ![M]⟩ ![] h0 (constantI ⟨0, ![]⟩ 32 n))) w))

/-- A row of them, where the word is in range: the table's row it names. -/
theorem taken_row {α : Type} (hN : N ≤ 2 ^ 31) (x : (⟨2, ![N, 32]⟩ : Shape).Idx → α) (w : IVec ⟨1, ![M]⟩ 32) (r : Fin M) (l : Fin 32)
    (h : (w (ix1 r)).toNat < N) : taken wf h0 h1 n x w (ix2 r l) = x (ix2 ⟨(w (ix1 r)).toNat, h⟩ l) := by
  have hz : (w (ix1 r)).slt 0#32 = false := by
    simp only [BitVec.slt_eq_decide, BitVec.toInt_eq_toNat_cond, BitVec.toNat_ofNat, Nat.reducePow, Nat.reduceMod, decide_eq_false_iff_not]
    omega
  have hcmp : IntOp.cmpi .slt (w (ix1 r)) 0#32 = 0#1 := by
    simp only [IntOp.cmpi, hz]; rfl
  unfold taken
  rw [gather_row wf (by omega)]
  have e : (broadcastInDim ⟨2, ![M, 1]⟩ ![0] h1
      (select (cmpi .slt w (broadcastInDim ⟨1, ![M]⟩ ![] h0 (constantI ⟨0, ![]⟩ 32 0#32))) (addi w (broadcastInDim ⟨1, ![M]⟩ ![] h0 (constantI ⟨0, ![]⟩ 32 n))) w))
        (ix2 r (0 : Fin 1)) = w (ix1 r) := by
    have hb (y : IVec ⟨1, ![M]⟩ 32) : broadcastInDim (s := ⟨1, ![M]⟩) ⟨2, ![M, 1]⟩ ![0] h1 y (ix2 r (0 : Fin 1)) = y (ix1 r) := broadcastInDim_apply _ _ _ _ _ fun a => by
      match a with
      | ⟨0, _⟩ =>
        show r.val = if M = 1 then 0 else r.val
        have := r.isLt
        split <;> omega
    rw [hb]
    show Scalar.select (IntOp.cmpi .slt (w (ix1 r)) 0#32) _ (w (ix1 r)) = _
    rw [hcmp]
    rfl
  simp only [e]
  congr 1
  refine congrArg (fun n => (ix2 n l : (⟨2, ![N, 32]⟩ : Shape).Idx)) (Fin.ext ?_)
  show min (w (ix1 r)).toInt.toNat (N - 1) = (w (ix1 r)).toNat
  rw [BitVec.toInt_eq_toNat_cond, if_pos (by omega)]
  omega

end Gather

section Rows

open Cert.ReferenceIdeal Cert.ReferenceIdeal.Facts₀

/-- The reference's index words: the index, past the tables of the fields before. -/
def flatWords (x : S16384x26.Idx → BitVec 32) : S425984.Idx → BitVec 32 :=
  shapeCast S425984 (addi x (broadcastInDim S16384x26 ![0, 1] bcast_S1x26_S16384x26_0_1
    (muli (broadcastInDim S1x26 ![1] bcast_S26_S1x26_1 (iotaInDim S26 32 0)) (broadcastInDim S1x26 ![] bcast_S_S1x26 (constantI S_ 32 100001#32))))) shapeCasts_S16384x26_S425984

theorem flatWords_apply (x : S16384x26.Idx → BitVec 32) (b : Fin 16384) (f : Fin 26) (hx : (x (ix2 b f)).toNat < 100001) (j : Fin 425984) (hj : j.val = b.val * 26 + f.val) :
    (flatWords x (ix1 j)).toNat = f.val * 100001 + (x (ix2 b f)).toNat := by
  have hf := f.isLt
  unfold flatWords
  rw [shapeCast_apply _ _ (ix1 j) (ix2 b f) (by
    rw [Shape.rowMajor_val_two, Shape.rowMajor_val_one]
    exact hj.symm)]
  have e1 (y : S1x26.Idx → BitVec 32) : broadcastInDim (s := S1x26) S16384x26 ![0, 1] bcast_S1x26_S16384x26_0_1 y (ix2 b f) = y (ix2 (0 : Fin 1) f) :=
    broadcastInDim_apply _ _ _ _ _ fun a => by
      match a with
      | ⟨0, _⟩ | ⟨1, _⟩ => rfl
  have e2 : broadcastInDim (s := S26) S1x26 ![1] bcast_S26_S1x26_1 (iotaInDim S26 32 0) (ix2 (0 : Fin 1) f) = BitVec.ofNat 32 f.val :=
    (broadcastInDim_apply _ _ _ _ (ix1 f) fun a => by
      match a with
      | ⟨0, _⟩ => rfl).trans rfl
  show (IntOp.addi (x (ix2 b f)) _ : BitVec 32).toNat = _
  rw [e1]
  show (IntOp.addi (x (ix2 b f)) (IntOp.muli (broadcastInDim (s := S26) S1x26 ![1] bcast_S26_S1x26_1 (iotaInDim S26 32 0) (ix2 (0 : Fin 1) f)) 100001#32) : BitVec 32).toNat = _
  rw [e2]
  simp only [IntOp.addi, IntOp.muli, BitVec.toNat_add, BitVec.toNat_mul, BitVec.toNat_ofNat]
  omega

/-- The reference's rows, by sample, as its run states them. -/
def refRows (t : S26x100001x32.Idx → EReal) (x : S16384x26.Idx → BitVec 32) : S16384x26x32.Idx → EReal :=
  shapeCast S16384x26x32 (taken gather_S2600026x32_S425984x1_S425984x32_1_0_n_n_0_1_132_wf bcast_S_S425984 bcast_S425984_S425984x1_0 2600026#32
    (shapeCast S2600026x32 t shapeCasts_S26x100001x32_S2600026x32) (flatWords x)) shapeCasts_S425984x32_S16384x26x32

/-- They are the tables' rows at the samples' indices. -/
theorem refRows_apply (t : S26x100001x32.Idx → EReal) (x : S16384x26.Idx → BitVec 32) (hx : ∀ i, (x i).toNat < 100001) (b : Fin 16384) (f : Fin 26) (l : Fin 32) :
    refRows t x (ix3 b f l) = looked t x hx b f l := by
  have hb := b.isLt
  have hf := f.isLt
  have hv := hx (ix2 b f)
  have hj : b.val * 26 + f.val < 425984 := by omega
  have hw := flatWords_apply x b f hv ⟨b.val * 26 + f.val, hj⟩ rfl
  have hN : (flatWords x (ix1 ⟨b.val * 26 + f.val, hj⟩)).toNat < 2600026 := by rw [hw]; omega
  unfold refRows
  refine (shapeCast_apply _ _ _ (ix2 (⟨b.val * 26 + f.val, hj⟩ : Fin 425984) l) ?_).trans ?_
  · rw [Shape.rowMajor_val_two, Shape.rowMajor_val_three]
    rfl
  refine (taken_row _ _ _ _ (by decide) _ _ _ l hN).trans ?_
  refine shapeCast_apply _ _ _ _ ?_
  rw [Shape.rowMajor_val_two, Shape.rowMajor_val_three]
  show (f.val * 100001 + (x (ix2 b f)).toNat) * 32 + l.val = (flatWords x (ix1 ⟨b.val * 26 + f.val, hj⟩)).toNat * 32 + l.val
  rw [hw]

end Rows

/-! ## The network's result -/

section Net

open Cert.KernelIdeal Cert.KernelIdeal.Gen
open Idealize.ShloMosaic.Pipeline (Dat)

variable (W : Dev nD → Valuation τ sig (Elt Ideal))

theorem at_0 : ∀ t : Fin grid4.N, win4_0.index t = ![t.val, 0, 0] := by decide +kernel
theorem at_1 : ∀ t : Fin grid4.N, win4_1.index t = ![t.val, 0, 0] := by decide +kernel
theorem at_10 : ∀ t : Fin grid4.N, win4_10.index t = ![t.val, 0] := by decide +kernel

/-- Point `t` has samples `512 * t` on. -/
def sample (t : Fin grid4.N) (r : Fin 512) : Fin 16384 := ⟨t.val * 512 + r.val, by
  have := t.isLt
  have : grid4.N = 32 := by decide
  omega⟩

theorem blk_0 (c : Dev nD) (t : Fin grid4.N) (r : Fin 512) (f : Fin 16) (d : Fin 32) :
    (blk W 2 c (0 : Fin 11) t : S512x16x32.Idx → EReal) (ix3 r f d) = (W c (dv main_v40) : S16384x16x32.Idx → EReal) (ix3 (sample t r) f d) := by
  show (W c (dv main_v40) : S16384x16x32.Idx → EReal) ((win4_0.blk t).view.emb (ix3 r f d)) = _
  refine congrArg _ (funext fun a => Fin.ext ?_)
  match a with
  | ⟨0, _⟩ => blk_simp [at_0 t]; rfl
  | ⟨1, _⟩ => blk_simp [at_0 t]
  | ⟨2, _⟩ => blk_simp [at_0 t]
theorem blk_1 (c : Dev nD) (t : Fin grid4.N) (r : Fin 512) (f : Fin 10) (d : Fin 32) :
    (blk W 2 c (1 : Fin 11) t : S512x10x32.Idx → EReal) (ix3 r f d) = (W c (dv main_v41) : S16384x10x32.Idx → EReal) (ix3 (sample t r) f d) := by
  show (W c (dv main_v41) : S16384x10x32.Idx → EReal) ((win4_1.blk t).view.emb (ix3 r f d)) = _
  refine congrArg _ (funext fun a => Fin.ext ?_)
  match a with
  | ⟨0, _⟩ => blk_simp [at_1 t]; rfl
  | ⟨1, _⟩ => blk_simp [at_1 t]
  | ⟨2, _⟩ => blk_simp [at_1 t]
theorem emb_10 (t : Fin grid4.N) (r : Fin 512) : ((win4_10.blk t).view.emb (ix2 r (0 : Fin 1)) : S16384x1.Idx) = ix2 (sample t r) (0 : Fin 1) := by
  refine funext fun a => Fin.ext ?_
  match a with
  | ⟨0, _⟩ => blk_simp [at_10 t]; rfl
  | ⟨1, _⟩ => blk_simp [at_10 t]

theorem read_whole {s : Shape} (f : s.Idx → EReal) (e : s.Idx → s.Idx) (h : ∀ x a, (e x a).val = (x a).val) : (fun x => f (e x)) = f :=
  funext fun x => congrArg f (funext fun a => Fin.ext (h x a))
/-- The weights are whole at every point. -/
theorem blk_whole (c : Dev nD) (t : Fin grid4.N) :
    (blk W 2 c (2 : Fin 11) t : S676x192.Idx → EReal) = (W c (dv main_v49) : S676x192.Idx → EReal) ∧ (blk W 2 c (3 : Fin 11) t : S1x192.Idx → EReal) = (W c (dv main_v50) : S1x192.Idx → EReal)
    ∧ (blk W 2 c (4 : Fin 11) t : S192x192.Idx → EReal) = (W c (dv main_arg4) : S192x192.Idx → EReal) ∧ (blk W 2 c (5 : Fin 11) t : S1x192.Idx → EReal) = (W c (dv main_v51) : S1x192.Idx → EReal)
    ∧ (blk W 2 c (6 : Fin 11) t : S192x192.Idx → EReal) = (W c (dv main_arg6) : S192x192.Idx → EReal) ∧ (blk W 2 c (7 : Fin 11) t : S1x192.Idx → EReal) = (W c (dv main_v52) : S1x192.Idx → EReal)
    ∧ (blk W 2 c (8 : Fin 11) t : S192x1.Idx → EReal) = (W c (dv main_arg8) : S192x1.Idx → EReal) ∧ (blk W 2 c (9 : Fin 11) t : S1x1.Idx → EReal) = (W c (dv main_v53) : S1x1.Idx → EReal) := by
  have at_whole : ∀ t : Fin grid4.N, win4_2.index t = ![0, 0] ∧ win4_3.index t = ![0, 0] ∧ win4_4.index t = ![0, 0] ∧ win4_5.index t = ![0, 0] ∧ win4_6.index t = ![0, 0]
      ∧ win4_7.index t = ![0, 0] ∧ win4_8.index t = ![0, 0] ∧ win4_9.index t = ![0, 0] := by decide +kernel
  obtain ⟨h2, h3, h4, h5, h6, h7, h8, h9⟩ := at_whole t
  refine ⟨read_whole _ (win4_2.blk t).view.emb fun x a => ?_, read_whole _ (win4_3.blk t).view.emb fun x a => ?_, read_whole _ (win4_4.blk t).view.emb fun x a => ?_,
    read_whole _ (win4_5.blk t).view.emb fun x a => ?_, read_whole _ (win4_6.blk t).view.emb fun x a => ?_, read_whole _ (win4_7.blk t).view.emb fun x a => ?_,
    read_whole _ (win4_8.blk t).view.emb fun x a => ?_, read_whole _ (win4_9.blk t).view.emb fun x a => ?_⟩
  all_goals
    match a with
    | ⟨0, _⟩ | ⟨1, _⟩ => blk_simp [h2, h3, h4, h5, h6, h7, h8, h9]

/-- A vector as a row, read. -/
theorem vec_row {n : ℕ} (b : (⟨1, ![n]⟩ : Shape).Idx → EReal) (h : (⟨1, ![n]⟩ : Shape).ShapeCasts ⟨2, ![1, n]⟩) (u : Fin n) :
    shapeCast ⟨2, ![1, n]⟩ b h (ix2 (0 : Fin 1) u) = b (ix1 u) := by
  refine shapeCast_apply _ _ _ _ ?_
  rw [Shape.rowMajor_val_one, Shape.rowMajor_val_two]
  show u.val = 0 * n + u.val
  omega

variable (m : (ℓ : Loc nD τ sig) → Buf (Elt Ideal) ℓ)

variable (hx : ∀ (d : Dev nD) i, ((m (at' d main_arg0) : S16384x26.Idx → BitVec 32) i).toNat < 100001)
include hx

/-- The rows of the samples of point `t` are the tables' rows at their indices. -/
theorem rows_eq (d : Dev nD) (t : Fin grid4.N) (r : Fin 512) :
    rows (blk (V9 m) 2 d (0 : Fin 11) t : S512x16x32.Idx → EReal) (blk (V9 m) 2 d (1 : Fin 11) t : S512x10x32.Idx → EReal) r
      = looked (m (at' d main_arg1)) (m (at' d main_arg0)) (hx d) (sample t r) := by
  funext f l
  have hs := (sample t r).isLt
  unfold rows
  split
  · rename_i hf
    have hj : (sample t r).val * 16 + f.val < 262144 := by omega
    rw [blk_0, V9_ea]
    refine (shapeCast_apply _ _ _ (ix2 (⟨(sample t r).val * 16 + f.val, hj⟩ : Fin 262144) l) ?_).trans (RA_apply m d (hx d) (sample t r) ⟨f.val, hf⟩ l _ rfl)
    rw [Shape.rowMajor_val_two, Shape.rowMajor_val_three]
    rfl
  · rename_i hf
    have hf' := f.isLt
    have hj : (sample t r).val * 10 + (f.val - 16) < 163840 := by omega
    rw [blk_1, V9_eb]
    refine (shapeCast_apply _ _ _ (ix2 (⟨(sample t r).val * 10 + (f.val - 16), hj⟩ : Fin 163840) l) ?_).trans ((RB_apply m d (hx d) (sample t r) ⟨f.val - 16, by omega⟩ l _ rfl).trans ?_)
    · rw [Shape.rowMajor_val_two, Shape.rowMajor_val_three]
      rfl
    · exact congrArg (fun f => looked (m (at' d main_arg1)) (m (at' d main_arg0)) (hx d) (sample t r) f l) (Fin.ext (by show f.val - 16 + 16 = f.val; omega))

/-- The reference's result. -/
def refOut (x : S16384x26.Idx → BitVec 32) (t : S26x100001x32.Idx → EReal) (w1 : S325x192.Idx → EReal) (b1 : S192.Idx → EReal) (w2 : S192x192.Idx → EReal) (b2 : S192.Idx → EReal)
    (w3 : S192x192.Idx → EReal) (b3 : S192.Idx → EReal) (wo : S192x1.Idx → EReal) (bo : S1.Idx → EReal) : S16384x1.Idx → EReal :=
  refNet (refRows t x) w1 b1 w2 b2 w3 b3 wo bo

/-- The reference's result of the program's arguments. -/
def outOf (d : Dev nD) : S16384x1.Idx → EReal :=
  refOut (m (at' d main_arg0)) (m (at' d main_arg1)) (m (at' d main_arg2)) (m (at' d main_arg3)) (m (at' d main_arg4)) (m (at' d main_arg5)) (m (at' d main_arg6)) (m (at' d main_arg7)) (m (at' d main_arg8)) (m (at' d main_arg9))

theorem outBlk_row (d : Dev nD) (t : Fin grid4.N) (r : Fin 512) : outBlk (V9 m) d t (ix2 r (0 : Fin 1)) = outOf m d (ix2 (sample t r) (0 : Fin 1)) := by
  obtain ⟨h2, h3, h4, h5, h6, h7, h8, h9⟩ := blk_whole (V9 m) d t
  unfold outBlk outOf refOut
  rw [netOut_row, refNet_row, h2, h3, h4, h5, h6, h7, h8, h9, V9_w, V9_b1, V9_b2, V9_b3, V9_bo,
    V9_arg m d (b := main_arg4) (by decide), V9_arg m d (b := main_arg6) (by decide),
    V9_arg m d (b := main_arg8) (by decide)]
  rw [rows_eq m hx d t r, show (fun u => shapeCast S1x192 (m (at' d main_arg3) : S192.Idx → EReal) shapeCasts_S192_S1x192 (ix2 (0 : Fin 1) u)) = fun u => (m (at' d main_arg3) : S192.Idx → EReal) (ix1 u) from funext fun u => vec_row _ _ u,
    show (fun u => shapeCast S1x192 (m (at' d main_arg5) : S192.Idx → EReal) shapeCasts_S192_S1x192 (ix2 (0 : Fin 1) u)) = fun u => (m (at' d main_arg5) : S192.Idx → EReal) (ix1 u) from funext fun u => vec_row _ _ u,
    show (fun u => shapeCast S1x192 (m (at' d main_arg7) : S192.Idx → EReal) shapeCasts_S192_S1x192 (ix2 (0 : Fin 1) u)) = fun u => (m (at' d main_arg7) : S192.Idx → EReal) (ix1 u) from funext fun u => vec_row _ _ u,
    show (fun u => shapeCast S1x1 (m (at' d main_arg9) : S1.Idx → EReal) shapeCasts_S1_S1x1 (ix2 (0 : Fin 1) u)) = fun u => (m (at' d main_arg9) : S1.Idx → EReal) (ix1 u) from funext fun u => vec_row _ _ u]
  refine congrArg (fun x => deep x _ _ _ _ _ _) (funext fun u => (lin_spread _ _ _ u).trans (lin_congr (fun p => ?_) rfl))
  show inter _ ⟨(place p).val / 26, _⟩ ⟨(place p).val % 26, _⟩ = _
  rw [place_div, place_mod]
  exact congrArg (fun e => inter e _ _) (funext fun f => funext fun l => (refRows_apply _ _ (hx d) _ f l).symm)

/-- The program's result is the reference's. -/
theorem RO_out (d : Dev nD) : RO m d = outOf m d :=
  Dat.arrAt_eq_of_covers (dat (V9 m) 2 d) (10 : Fin 11) (outOf m d) (by decide +kernel) fun t _ y => by
    obtain ⟨r, l, rfl⟩ : ∃ (r : Fin 512) (l : Fin 1), y = ix2 r l := eq_ix2 y
    obtain rfl : l = 0 := Subsingleton.elim _ _
    refine (outBlk_row m hx d t r).trans (congrArg (outOf m d) (emb_10 t r).symm)

omit hx in
/-- It is what the reference's run leaves. -/
theorem res_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m' c = refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) := rfl

end Net

/-! ## The precondition -/

theorem andi_bool (p q : Bool) : IntOp.andi (BitVec.ofBool p) (BitVec.ofBool q) = BitVec.ofBool (p && q) := by cases p <;> cases q <;> decide
theorem bool_eq_one (p : Bool) : (BitVec.ofBool p = 1#1) ↔ p = true := by cases p <;> decide

/-- A word between `0` and `n`, read signed, is a number below `n`. -/
theorem word_lt (n : ℕ) (hn : n < 2 ^ 31) (v : BitVec 32) (e : IntOp.andi (IntOp.cmpi .sge v 0#32) (IntOp.cmpi .slt v (BitVec.ofNat 32 n)) = 1#1) : v.toNat < n := by
  have hn' : n % 4294967296 = n := Nat.mod_eq_of_lt (by omega)
  simp only [IntOp.cmpi, andi_bool, bool_eq_one, Bool.and_eq_true, BitVec.sle_eq_decide, BitVec.slt_eq_decide,
    decide_eq_true_eq, BitVec.toInt_eq_toNat_cond, BitVec.toNat_ofNat, Nat.reducePow, Nat.reduceMod, hn'] at e
  omega

/-- Every index is below the tables' length: what the precondition, computed, says. -/
theorem words_of_pre (x : IVec Cert.Pre_in_range.S16384x26 32) (t : FVec F Cert.Pre_in_range.S26x100001x32 .f32) (w1 : FVec F Cert.Pre_in_range.S325x192 .f32)
    (b1 : FVec F Cert.Pre_in_range.S192 .f32) (w2 : FVec F Cert.Pre_in_range.S192x192 .f32) (b2 : FVec F Cert.Pre_in_range.S192 .f32) (w3 : FVec F Cert.Pre_in_range.S192x192 .f32)
    (b3 : FVec F Cert.Pre_in_range.S192 .f32) (wo : FVec F Cert.Pre_in_range.S192x1 .f32) (bo : FVec F Cert.Pre_in_range.S1 .f32)
    (h : @Cert.Pre_in_range.fn Cert.Pre_in_range.Gen.facts F _ x t w1 b1 w2 b2 w3 b3 wo bo = fun _ => 1#1) : ∀ j, (x j).toNat < 100001 := by
  have : Subsingleton Cert.Pre_in_range.S_.Idx := ⟨fun a b => funext fun i => i.elim0⟩
  exact fun j => word_lt 100001 (by decide) _ (Host.reduce_andi_all _ _ _ _ _ (congrFun h (fun i => i.elim0)) j)

end Launch

end
-- ==== Proof.lean ====
/-
  The claims, from three modules: `Run` (the program's run, over any float values), `Value` (its result is the
  reference's, where every index word names a row) and the generated run of the reference.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Value
public import Idealize.ShloMosaic.Adequacy
public import Idealize.ShloMosaic.Init

@[expose] public section

noncomputable section

namespace Cert.Proof

open Idealize.ShloMosaic Idealize.SL.Sem Cert.Kernel

/-- The index words of a launch memory that meets the precondition name rows of the tables. -/
theorem words_lt (m : (ℓ : Loc Cert.KernelIdeal.nD Cert.KernelIdeal.τ Cert.KernelIdeal.sig) → Buf (Elt Ideal) ℓ) (h : Cert.Pre_KernelIdeal m) (d : Dev Cert.KernelIdeal.nD) (i) :
    ((m (Launch.at' d Cert.KernelIdeal.main_arg0) : Cert.KernelIdeal.S16384x26.Idx → BitVec 32) i).toNat < 100001 := Launch.words_of_pre _ _ _ _ _ _ _ _ _ _ (h d) i

theorem words_lt_bits (m : (ℓ : Loc Cert.Kernel.nD Cert.Kernel.τ Cert.Kernel.sig) → Buf (Elt Bits) ℓ) (h : Cert.Pre_Kernel m) (d : Dev Cert.KernelIdeal.nD) (i) :
    ((m (Launch.at' d Cert.KernelIdeal.main_arg0) : Cert.KernelIdeal.S16384x26.Idx → BitVec 32) i).toNat < 100001 := Launch.words_of_pre (F := Bits) _ _ _ _ _ _ _ _ _ _ (h d) i

set_option maxRecDepth 16384 in
set_option maxHeartbeats 4000000 in
/-- The two programs' bodies are the same text, -/
theorem bodies_eq : Cert.Kernel.defs₀ (F := Bits) = Cert.KernelIdeal.defs₀ (F := Bits) := by
  funext p ℓ a
  match p, ℓ with
  | .scVector c s, 0 | .scVector c s, 1 | .scVector c s, 2 | .scVector c s, 3 | .scVector c s, 4 => rfl
  | .scScalar c, 0 | .scScalar c, 1 | .scScalar c, 2 | .scScalar c, 3 | .scScalar c, 4 => rfl
  | .tc, 0 | .tc, 1 | .tc, 2 | .tc, 3 | .tc, 4 => rfl

/-- so are their functions, -/
theorem defs_eq : Cert.Kernel.defs (F := Bits) = Cert.KernelIdeal.defs (F := Bits) := by
  unfold Cert.Kernel.defs Cert.KernelIdeal.defs
  rw [bodies_eq]
  rfl

set_option maxRecDepth 16384 in
set_option maxHeartbeats 20000000 in
/-- and so are their threads. -/
theorem threads_eq : Cert.Kernel.threads (F := Bits) = Cert.KernelIdeal.threads (F := Bits) := rfl

/-- What is kept of every argument is kept of each. -/
theorem kept {p : Ref Cert.KernelIdeal.sig .tc → Prop} (h : ∀ b, Launch.isArg b → p b) :
    p Cert.KernelIdeal.main_arg0 ∧ p Cert.KernelIdeal.main_arg1 ∧ p Cert.KernelIdeal.main_arg2 ∧ p Cert.KernelIdeal.main_arg3 ∧ p Cert.KernelIdeal.main_arg4
      ∧ p Cert.KernelIdeal.main_arg5 ∧ p Cert.KernelIdeal.main_arg6 ∧ p Cert.KernelIdeal.main_arg7 ∧ p Cert.KernelIdeal.main_arg8 ∧ p Cert.KernelIdeal.main_arg9 :=
  ⟨h _ (by decide), h _ (by decide), h _ (by decide), h _ (by decide), h _ (by decide), h _ (by decide), h _ (by decide), h _ (by decide), h _ (by decide), h _ (by decide)⟩

theorem frame_kernel : Cert.quiescent_Kernel := fun m ρ h => by
  rw [defs_eq, threads_eq]
  exact (θ_run Cert.KernelIdeal.defs Cert.KernelIdeal.threads _).mono (fun _ h => ⟨fun c => kept (h.1 c).2, h.2⟩) (Launch.run_main (F := Bits) m ρ (Launch.pre_of_lt m (words_lt_bits m h)))

theorem frame_kernelIdeal : Cert.quiescent_KernelIdeal := fun m ρ h =>
  (θ_run Cert.KernelIdeal.defs _ _).mono (fun _ h => ⟨fun c => kept (h.1 c).2, h.2⟩) (Launch.run_main (F := Ideal) m ρ (Launch.pre_of_lt m (words_lt m h)))

/-- The reference keeps its arguments and has no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_referenceIdeal_pre : Cert.quiescent_ReferenceIdeal_pre_in_range := fun m ρ _ => frame_referenceIdeal m ρ trivial

/-- The two end at the same array, over the extended reals. -/
theorem algebraic : Cert.algebraic_KernelIdeal_ReferenceIdeal := by
  intro m ρ m' ρ' hpre hagree
  refine ⟨fun c => Launch.RO m c, (θ_run Cert.KernelIdeal.defs _ _).mono (fun _ h c => ⟨(h.1 c).1, kept (h.1 c).2⟩) (Launch.run_main (F := Ideal) m ρ (Launch.pre_of_lt m (words_lt m hpre))), ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8, h9⟩ := hagree c
  refine (Launch.res_eq m' c).trans (Eq.trans ?_ (Launch.RO_out m (words_lt m hpre) c).symm)
  unfold Launch.outOf
  rw [h0, h1, h2, h3, h4, h5, h6, h7, h8, h9]

theorem claim : Cert.Claim := ⟨Cert.Kernel.Gen.facts, Cert.KernelIdeal.Gen.facts, Cert.ReferenceIdeal.Gen.facts, Cert.Pre_in_range.Gen.facts,
  frame_kernel, frame_kernelIdeal, frame_referenceIdeal, frame_referenceIdeal_pre, trivial, algebraic⟩

end Cert.Proof

end
